-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S16384x11264 : Shape := ⟨2, ![16384, 11264]⟩
abbrev S16384x128 : Shape := ⟨2, ![16384, 128]⟩
abbrev S16x512 : Shape := ⟨2, ![16, 512]⟩
abbrev S512 : Shape := ⟨1, ![512]⟩
abbrev S256 : Shape := ⟨1, ![256]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16384x11264 .bf16) (main_arg1 : FVec F S16384x128 .f32) (main_arg2 : FVec F S16x512 .f32) (main_arg3 : FVec F S512 .f32) (main_arg4 : FVec F S256 .f32) : IVec S_ 1 :=
  let main_v0 : FVec F S16384x128 .f32 := Host.absf main_arg1
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16x512 .f32 := Host.absf main_arg2
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Pre_finite3.lean ====
abbrev S8x2048x1024 : Shape := ⟨3, ![8, 2048, 1024]⟩
abbrev S1024 : Shape := ⟨1, ![1024]⟩
abbrev S8x1024 : Shape := ⟨2, ![8, 1024]⟩
abbrev S1024x11312 : Shape := ⟨2, ![1024, 11312]⟩
abbrev S_ : Shape := ⟨0, ![]⟩
abbrev S1024x16 : Shape := ⟨2, ![1024, 16]⟩
abbrev S1024x32 : Shape := ⟨2, ![1024, 32]⟩

class Facts : Prop where
  bcast_S_S1024 : S_.BroadcastsInDim S1024 (![] : Fin 0 → Fin S1024.rank)
  reducesTo_S1024_S_d0 : S1024.ReducesTo [0] S_
  h_S_ : 0 < S_.numel
  bcast_S_S8x1024 : S_.BroadcastsInDim S8x1024 (![] : Fin 0 → Fin S8x1024.rank)
  reducesTo_S8x1024_S_d0_1 : S8x1024.ReducesTo [0, 1] S_
  slices_S1024x11312_S1024x16_0_3072 : S1024x11312.Slices ![0, 3072] S1024x16
  bcast_S_S1024x16 : S_.BroadcastsInDim S1024x16 (![] : Fin 0 → Fin S1024x16.rank)
  reducesTo_S1024x16_S_d0_1 : S1024x16.ReducesTo [0, 1] S_
  slices_S1024x11312_S1024x32_0_9232 : S1024x11312.Slices ![0, 9232] S1024x32
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg4 : FVec F S1024x11312 .f32) (main_v13 : IVec S_ 1) (main_v15 : FVec F S1024x16 .f32) (main_v16 : FVec F S1024x16 .f32) : IVec S_ 1 :=
  let main_v17 : IVec S1024x16 1 := cmpf .olt main_v15 main_v16
  let main_c_5 : IVec S_ 1 := constantI S_ 1 1#1
  let main_v18 : IVec S_ 1 := (fun x v => Host.reduce IntOp.andi x v reducesTo_S1024x16_S_d0_1 h_S_) main_v17 main_c_5
  let main_v19 : IVec S_ 1 := andi main_v13 main_v18
  let main_v20 : FVec F S1024x32 .f32 := (extractStridedSlice S1024x32 ![0, 9232] · slices_S1024x11312_S1024x32_0_9232) main_arg4
  let main_v21 : FVec F S1024x32 .f32 := Host.absf main_v20
  let main_cst_6 : FVec F S_ .f32 := constant S_ .f32 0x7F800000#32
  let main_v22 : FVec F S1024x32 .f32 := broadcastInDim S1024x32 ![] bcast_S_S1024x32 main_cst_6
  let main_v23 : IVec S1024x32 1 := cmpf .olt main_v21 main_v22
  let main_c_7 : IVec S_ 1 := constantI S_ 1 1#1
  let main_v24 : IVec S_ 1 := (fun x v => Host.reduce IntOp.andi x v reducesTo_S1024x32_S_d0_1 h_S_) main_v23 main_c_7
  let main_v25 : IVec S_ 1 := andi main_v19 main_v24
  main_v25

def fn {F : FTy → Type} [FloatOps F] (main_arg0 : FVec F S8x2048x1024 .f32) (main_arg1 : FVec F S1024 .f32) (main_arg2 : FVec F S8x1024 .f32) (main_arg3 : FVec F S8x1024 .f32) (main_arg4 : FVec F S1024x11312 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S1024x16 .f32 := (extractStridedSlice S1024x16 ![0, 3072] · slices_S1024x11312_S1024x16_0_3072) main_arg4
  let main_v15 : FVec F S1024x16 .f32 := Host.absf main_v14
  let main_cst_4 : FVec F S_ .f32 := constant S_ .f32 0x7F800000#32
  let main_v16 : FVec F S1024x16 .f32 := broadcastInDim S1024x16 ![] bcast_S_S1024x16 main_cst_4
  fn_part1 (F := F) main_arg4 main_v13 main_v15 main_v16
-- ==== Pre_routed.lean ====
abbrev S160 : Shape := ⟨1, ![160]⟩
abbrev S1 : Shape := ⟨1, ![1]⟩
abbrev S40960x1024 : Shape := ⟨2, ![40960, 1024]⟩
abbrev S4x8x1024x256 : Shape := ⟨4, ![4, 8, 1024, 256]⟩
abbrev S4x8x256x1024 : Shape := ⟨4, ![4, 8, 256, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : FVec F S40960x1024 .f32) (main_arg3 : FVec F S4x8x1024x256 .f32) (main_arg4 : FVec F S4x8x1024x256 .f32) (main_arg5 : FVec F S4x8x256x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S16384x11264 : Shape := ⟨2, ![16384, 11264]⟩
abbrev S16384x128 : Shape := ⟨2, ![16384, 128]⟩
abbrev S16x512 : Shape := ⟨2, ![16, 512]⟩
abbrev S512 : Shape := ⟨1, ![512]⟩
abbrev S256 : Shape := ⟨1, ![256]⟩
abbrev S_ : Shape := ⟨0, ![]⟩
abbrev S112x512 : Shape := ⟨2, ![112, 512]⟩
abbrev S128x512 : Shape := ⟨2, ![128, 512]⟩
abbrev S1x512 : Shape := ⟨2, ![1, 512]⟩
abbrev S1x256 : Shape := ⟨2, ![1, 256]⟩
abbrev S16384x1024 : Shape := ⟨2, ![16384, 1024]⟩
abbrev S2048x128 : Shape := ⟨2, ![2048, 128]⟩
abbrev S2048x256 : Shape := ⟨2, ![2048, 256]⟩
abbrev S128x128 : Shape := ⟨2, ![128, 128]⟩
abbrev S1x128 : Shape := ⟨2, ![1, 128]⟩
abbrev S256x128 : Shape := ⟨2, ![256, 128]⟩
abbrev S64x64 : Shape := ⟨2, ![64, 64]⟩
abbrev S64x128 : Shape := ⟨2, ![64, 128]⟩
abbrev S64x256 : Shape := ⟨2, ![64, 256]⟩
abbrev S64 : Shape := ⟨1, ![64]⟩
abbrev S64x1 : Shape := ⟨2, ![64, 1]⟩

abbrev nBuf : Space → Nat
  | .hbm => 11
  | .vmem => 19
  | .smem => 0
  | _ => 0

abbrev bufTy : (tb : Table) → Fin (tcTables nBuf tb) → BufTy
  | .hbm, ⟨0, _⟩ => ⟨S16384x11264, .bf16⟩
  | .hbm, ⟨1, _⟩ => ⟨S16384x128, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S_, .f32⟩
  | .hbm, ⟨6, _⟩ => ⟨S112x512, .f32⟩
  | .hbm, ⟨7, _⟩ => ⟨S128x512, .f32⟩
  | .hbm, ⟨8, _⟩ => ⟨S1x512, .f32⟩
  | .hbm, ⟨9, _⟩ => ⟨S1x256, .f32⟩
  | .hbm, ⟨10, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x128, .f32⟩
  | .local _ .vmem, ⟨9, _⟩ => ⟨S2048x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S2048x256, .bf16⟩
  | .local _ .vmem, ⟨16, _⟩ => ⟨S2048x256, .bf16⟩
  | .local _ .vmem, ⟨17, _⟩ => ⟨S2048x128, .f32⟩
  | .local _ .vmem, ⟨18, _⟩ => ⟨S256x128, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c32_i32 : BitVec 32 := 32#32
  let v48 : BitVec 32 := Scalar.addi c0_i32 c32_i32
  let c1_i32 : BitVec 32 := 1#32
  ⟨c0_i32, v48, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v49 : BitVec 32 := Scalar.muli arg13 c64_i32
  v49
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v49 : BitVec 32 := Scalar.muli arg13 c64_i32
  let v50 : BitVec 32 := v49
  let v51 : Index := Scalar.indexCast v50
  let c0_21 : Index := 0#32
  ![v51.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v49 : BitVec 32 := Scalar.muli arg13 c64_i32
  let v50 : BitVec 32 := v49
  let v69 : Index := Scalar.indexCast v50
  let c0_25 : Index := 0#32
  ![v69.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x11264 : Shape := ⟨2, ![16384, 11264]⟩
abbrev S16384x128 : Shape := ⟨2, ![16384, 128]⟩
abbrev S16x512 : Shape := ⟨2, ![16, 512]⟩
abbrev S512 : Shape := ⟨1, ![512]⟩
abbrev S256 : Shape := ⟨1, ![256]⟩
abbrev S8x2048x11264 : Shape := ⟨3, ![8, 2048, 11264]⟩
abbrev S8x2048x512 : Shape := ⟨3, ![8, 2048, 512]⟩
abbrev S8x2048x1024 : Shape := ⟨3, ![8, 2048, 1024]⟩
abbrev S8x2048x128 : Shape := ⟨3, ![8, 2048, 128]⟩
abbrev S8x2048x16 : Shape := ⟨3, ![8, 2048, 16]⟩
abbrev S1x1x512 : Shape := ⟨3, ![1, 1, 512]⟩
abbrev S_ : Shape := ⟨0, ![]⟩
abbrev S8x32x64x4x128 : Shape := ⟨5, ![8, 32, 64, 4, 128]⟩
abbrev S8x32x64x4x256 : Shape := ⟨5, ![8, 32, 64, 4, 256]⟩
abbrev S8x32x1x4x128 : Shape := ⟨5, ![8, 32, 1, 4, 128]⟩
abbrev S8x32x4x128 : Shape := ⟨4, ![8, 32, 4, 128]⟩
abbrev S32x8x4x128x256 : Shape := ⟨5, ![32, 8, 4, 128, 256]⟩
abbrev S32x8x4x128 : Shape := ⟨4, ![32, 8, 4, 128]⟩
abbrev S32x8x4x128x1 : Shape := ⟨5, ![32, 8, 4, 128, 1]⟩
abbrev S1x8x4x128x256 : Shape := ⟨5, ![1, 8, 4, 128, 256]⟩
abbrev S8x4x128x256 : Shape := ⟨4, ![8, 4, 128, 256]⟩
abbrev S1x8x4x128x1 : Shape := ⟨5, ![1, 8, 4, 128, 1]⟩
abbrev S8x4x128x1 : Shape := ⟨4, ![8, 4, 128, 1]⟩
abbrev S8x32x4x256x64 : Shape := ⟨5, ![8, 32, 4, 256, 64]⟩
abbrev S8x32x64x4 : Shape := ⟨4, ![8, 32, 64, 4]⟩
abbrev S8x32x64x4x1 : Shape := ⟨5, ![8, 32, 64, 4, 1]⟩
abbrev S1x1x1x1x256 : Shape := ⟨5, ![1, 1, 1, 1, 256]⟩
abbrev S16384x1024 : Shape := ⟨2, ![16384, 1024]⟩

abbrev nBuf : Space → Nat
  | .hbm => 128
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S16384x128, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S16384x11264, .f32⟩
  | .hbm, ⟨6, _⟩ => ⟨S8x2048x11264, .f32⟩
  | .hbm, ⟨7, _⟩ => ⟨S8x2048x512, .f32⟩
  | .hbm, ⟨8, _⟩ => ⟨S8x2048x512, .f32⟩
  | .hbm, ⟨9, _⟩ => ⟨S8x2048x1024, .f32⟩
  | .hbm, ⟨10, _⟩ => ⟨S8x2048x1024, .f32⟩
  | .hbm, ⟨11, _⟩ => ⟨S8x2048x128, .f32⟩
  | .hbm, ⟨12, _⟩ => ⟨S8x2048x16, .f32⟩
  | .hbm, ⟨13, _⟩ => ⟨S8x2048x512, .f32⟩
  | .hbm, ⟨14, _⟩ => ⟨S1x1x512, .f32⟩
  | .hbm, ⟨15, _⟩ => ⟨S8x2048x512, .f32⟩
  | .hbm, ⟨16, _⟩ => ⟨S8x2048x512, .f32⟩
  | .hbm, ⟨17, _⟩ => ⟨S8x2048x512, .f32⟩
  | .hbm, ⟨18, _⟩ => ⟨S_, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x512, .i1⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S_, .f32⟩
  | .hbm, ⟨34, _⟩ => ⟨S8x2048x512, .f32⟩
  | .hbm, ⟨35, _⟩ => ⟨S8x2048x512, .f32⟩
  | .hbm, ⟨36, _⟩ => ⟨S8x32x64x4x128, .f32⟩
  | .hbm, ⟨37, _⟩ => ⟨S_, .f32⟩
  | .hbm, ⟨38, _⟩ => ⟨S8x32x64x4x128, .f32⟩
  | .hbm, ⟨39, _⟩ => ⟨S8x32x64x4x128, .f32⟩
  | .hbm, ⟨40, _⟩ => ⟨S8x32x64x4x128, .f32⟩
  | .hbm, ⟨41, _⟩ => ⟨S8x32x64x4x256, .f32⟩
  | .hbm, ⟨42, _⟩ => ⟨S8x32x64x4x128, .f32⟩
  | .hbm, ⟨43, _⟩ => ⟨S_, .f32⟩
  | .hbm, ⟨44, _⟩ => ⟨S_, .f32⟩
  | .hbm, ⟨45, _⟩ => ⟨S8x32x64x4x128, .f32⟩
  | .hbm, ⟨46, _⟩ => ⟨S8x32x1x4x128, .f32⟩
  | .hbm, ⟨47, _⟩ => ⟨S8x32x4x128, .f32⟩
  | .hbm, ⟨48, _⟩ => ⟨S8x32x1x4x128, .f32⟩
  | .hbm, ⟨49, _⟩ => ⟨S8x32x64x4x128, .f32⟩
  | .hbm, ⟨50, _⟩ => ⟨S8x32x64x4x128, .f32⟩
  | .hbm, ⟨51, _⟩ => ⟨S8x32x64x4x128, .f32⟩
  | .hbm, ⟨52, _⟩ => ⟨S8x32x64x4x128, .f32⟩
  | .hbm, ⟨53, _⟩ => ⟨S32x8x4x128x256, .f32⟩
  | .hbm, ⟨54, _⟩ => ⟨S8x32x4x128, .f32⟩
  | .hbm, ⟨55, _⟩ => ⟨S32x8x4x128, .f32⟩
  | .hbm, ⟨56, _⟩ => ⟨S32x8x4x128x1, .f32⟩
  | .hbm, ⟨57, _⟩ => ⟨S1x8x4x128x256, .f32⟩
  | .hbm, ⟨58, _⟩ => ⟨S8x4x128x256, .f32⟩
  | .hbm, ⟨59, _⟩ => ⟨S_, .f32⟩
  | .hbm, ⟨60, _⟩ => ⟨S8x4x128x256, .f32⟩
  | .hbm, ⟨61, _⟩ => ⟨S_, .f32⟩
  | .hbm, ⟨62, _⟩ => ⟨S32x8x4x128x256, .f32⟩
  | .hbm, ⟨63, _⟩ => ⟨S_, .i32⟩
  | .hbm, ⟨64, _⟩ => ⟨S32x8x4x128x1, .f32⟩
  | .hbm, ⟨65, _⟩ => ⟨S32x8x4x128x256, .f32⟩
  | .hbm, ⟨66, _⟩ => ⟨S_, .i32⟩
  | .hbm, ⟨67, _⟩ => ⟨S8x4x128x256, .f32⟩
  | .hbm, ⟨68, _⟩ => ⟨S32x8x4x128x256, .f32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x8x4x128x1, .f32⟩
  | .hbm, ⟨76, _⟩ => ⟨S8x4x128x1, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x8x4x128x256, .f32⟩
  | .hbm, ⟨82, _⟩ => ⟨S8x4x128x256, .f32⟩
  | .hbm, ⟨83, _⟩ => ⟨S8x4x128x256, .f32⟩
  | .hbm, ⟨84, _⟩ => ⟨S8x4x128x256, .f32⟩
  | .hbm, ⟨85, _⟩ => ⟨S8x4x128x256, .f32⟩
  | .hbm, ⟨86, _⟩ => ⟨S1x8x4x128x256, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S32x8x4x128x256, .f32⟩
  | .hbm, ⟨92, _⟩ => ⟨S_, .i32⟩
  | .hbm, ⟨93, _⟩ => ⟨S_, .i32⟩
  | .hbm, ⟨94, _⟩ => ⟨S32x8x4x128x256, .f32⟩
  | .hbm, ⟨95, _⟩ => ⟨S32x8x4x128x256, .f32⟩
  | .hbm, ⟨96, _⟩ => ⟨S32x8x4x128x256, .f32⟩
  | .hbm, ⟨97, _⟩ => ⟨S8x32x4x256x64, .f32⟩
  | .hbm, ⟨98, _⟩ => ⟨S8x32x64x4x256, .f32⟩
  | .hbm, ⟨99, _⟩ => ⟨S8x32x64x4x256, .f32⟩
  | .hbm, ⟨100, _⟩ => ⟨S_, .f32⟩
  | .hbm, ⟨101, _⟩ => ⟨S8x32x64x4, .f32⟩
  | .hbm, ⟨102, _⟩ => ⟨S8x32x64x4x1, .f32⟩
  | .hbm, ⟨103, _⟩ => ⟨S_, .f32⟩
  | .hbm, ⟨104, _⟩ => ⟨S8x32x64x4x1, .f32⟩
  | .hbm, ⟨105, _⟩ => ⟨S8x32x64x4x1, .f32⟩
  | .hbm, ⟨106, _⟩ => ⟨S_, .f32⟩
  | .hbm, ⟨107, _⟩ => ⟨S8x32x64x4x1, .f32⟩
  | .hbm, ⟨108, _⟩ => ⟨S8x32x64x4x1, .f32⟩
  | .hbm, ⟨109, _⟩ => ⟨S8x32x64x4x1, .f32⟩
  | .hbm, ⟨110, _⟩ => ⟨S8x32x64x4x256, .f32⟩
  | .hbm, ⟨111, _⟩ => ⟨S8x32x64x4x256, .f32⟩
  | .hbm, ⟨112, _⟩ => ⟨S1x1x1x1x256, .f32⟩
  | .hbm, ⟨113, _⟩ => ⟨S8x32x64x4x256, .f32⟩
  | .hbm, ⟨114, _⟩ => ⟨S8x32x64x4x256, .f32⟩
  | .hbm, ⟨115, _⟩ => ⟨S8x2048x1024, .f32⟩
  | .hbm, ⟨116, _⟩ => ⟨S8x2048x1024, .f32⟩
  | .hbm, ⟨117, _⟩ => ⟨S8x2048x1024, .f32⟩
  | .hbm, ⟨118, _⟩ => ⟨S_, .f32⟩
  | .hbm, ⟨119, _⟩ => ⟨S8x2048x1024, .f32⟩
  | .hbm, ⟨120, _⟩ => ⟨S8x2048x1024, .f32⟩
  | .hbm, ⟨121, _⟩ => ⟨S_, .f32⟩
  | .hbm, ⟨122, _⟩ => ⟨S8x2048x1024, .f32⟩
  | .hbm, ⟨123, _⟩ => ⟨S8x2048x1024, .f32⟩
  | .hbm, ⟨124, _⟩ => ⟨S8x2048x1024, .f32⟩
  | .hbm, ⟨125, _⟩ => ⟨S8x2048x1024, .f32⟩
  | .hbm, ⟨126, _⟩ => ⟨S16384x1024, .f32⟩
  | .hbm, ⟨127, _⟩ => ⟨S16384x1024, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_call0_cst : Ref sig .tc := ⟨.hbm, 43, rfl⟩
abbrev main_call1_call0_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_1 : Ref sig .tc := ⟨.hbm, 59, rfl⟩
abbrev main_v35 : Ref sig .tc := ⟨.hbm, 60, rfl⟩
abbrev main_cst_2 : Ref sig .tc := ⟨.hbm, 61, rfl⟩
abbrev main_v36 : Ref sig .tc := ⟨.hbm, 62, rfl⟩
abbrev main_c : Ref sig .tc := ⟨.hbm, 63, rfl⟩
abbrev main_v37_0 : Ref sig .tc := ⟨.hbm, 64, rfl⟩
abbrev main_v37_1 : Ref sig .tc := ⟨.hbm, 65, rfl⟩
abbrev main_v37_2 : Ref sig .tc := ⟨.hbm, 66, rfl⟩
abbrev main_v37_3 : Ref sig .tc := ⟨.hbm, 67, rfl⟩
abbrev main_v37_4 : Ref sig .tc := ⟨.hbm, 68, rfl⟩
abbrev main_while0c_c_10 : Ref sig .tc := ⟨.hbm, 69, rfl⟩
abbrev main_while0c_v61 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_c_2 : Ref sig .tc := ⟨.hbm, 74, rfl⟩
abbrev main_while0b_call2_v0 : Ref sig .tc := ⟨.hbm, 75, rfl⟩
abbrev main_while0b_v61 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_c_2 : Ref sig .tc := ⟨.hbm, 80, rfl⟩
abbrev main_while0b_call3_v0 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_call4_v0 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_c_2 : Ref sig .tc := ⟨.hbm, 90, rfl⟩
abbrev main_while0b_v66 : Ref sig .tc := ⟨.hbm, 91, rfl⟩
abbrev main_while0b_c_10 : Ref sig .tc := ⟨.hbm, 92, rfl⟩
abbrev main_while0b_v67 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_3 : Ref sig .tc := ⟨.hbm, 100, rfl⟩
abbrev main_v44 : Ref sig .tc := ⟨.hbm, 101, rfl⟩
abbrev main_v45 : Ref sig .tc := ⟨.hbm, 102, rfl⟩
abbrev main_cst_4 : Ref sig .tc := ⟨.hbm, 103, rfl⟩
abbrev main_v46 : Ref sig .tc := ⟨.hbm, 104, rfl⟩
abbrev main_v47 : Ref sig .tc := ⟨.hbm, 105, rfl⟩
abbrev main_cst_5 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_call5_v0 : Ref sig .tc := ⟨.hbm, 116, rfl⟩
abbrev main_call5_v1 : Ref sig .tc := ⟨.hbm, 117, rfl⟩
abbrev main_call5_cst : Ref sig .tc := ⟨.hbm, 118, rfl⟩
abbrev main_call5_v2 : Ref sig .tc := ⟨.hbm, 119, rfl⟩
abbrev main_call5_v3 : Ref sig .tc := ⟨.hbm, 120, rfl⟩
abbrev main_call5_cst_0 : Ref sig .tc := ⟨.hbm, 121, rfl⟩
abbrev main_call5_v4 : Ref sig .tc := ⟨.hbm, 122, rfl⟩
abbrev main_call5_v5 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S160 : Shape := ⟨1, ![160]⟩
abbrev S1 : Shape := ⟨1, ![1]⟩
abbrev S40960x1024 : Shape := ⟨2, ![40960, 1024]⟩
abbrev S4x8x1024x256 : Shape := ⟨4, ![4, 8, 1024, 256]⟩
abbrev S4x8x256x1024 : Shape := ⟨4, ![4, 8, 256, 1024]⟩
abbrev S32x1024x256 : Shape := ⟨3, ![32, 1024, 256]⟩
abbrev S32x256x1024 : Shape := ⟨3, ![32, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 11
  | .vmem => 10
  | .smem => 2
  | _ => 0

abbrev bufTy : (tb : Table) → Fin (tcTables nBuf tb) → BufTy
  | .hbm, ⟨0, _⟩ => ⟨S40960x1024, .f32⟩
  | .hbm, ⟨1, _⟩ => ⟨S4x8x1024x256, .f32⟩
  | .hbm, ⟨2, _⟩ => ⟨S4x8x1024x256, .f32⟩
  | .hbm, ⟨3, _⟩ => ⟨S4x8x256x1024, .f32⟩
  | .hbm, ⟨4, _⟩ => ⟨S32x1024x256, .f32⟩
  | .hbm, ⟨5, _⟩ => ⟨S32x1024x256, .bf16⟩
  | .hbm, ⟨6, _⟩ => ⟨S32x1024x256, .f32⟩
  | .hbm, ⟨7, _⟩ => ⟨S32x1024x256, .bf16⟩
  | .hbm, ⟨8, _⟩ => ⟨S32x256x1024, .f32⟩
  | .hbm, ⟨9, _⟩ => ⟨S32x256x1024, .bf16⟩
  | .hbm, ⟨10, _⟩ => ⟨S40960x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .smem, ⟨0, _⟩ => ⟨S160, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S160 : Shape := ⟨1, ![160]⟩
abbrev S1 : Shape := ⟨1, ![1]⟩
abbrev S40960x1024 : Shape := ⟨2, ![40960, 1024]⟩
abbrev S4x8x1024x256 : Shape := ⟨4, ![4, 8, 1024, 256]⟩
abbrev S4x8x256x1024 : Shape := ⟨4, ![4, 8, 256, 1024]⟩
abbrev S160x256x32 : Shape := ⟨3, ![160, 256, 32]⟩
abbrev S160x1x1 : Shape := ⟨3, ![160, 1, 1]⟩
abbrev S_ : Shape := ⟨0, ![]⟩
abbrev S40960x4x8 : Shape := ⟨3, ![40960, 4, 8]⟩
abbrev S1x8x1024x256 : Shape := ⟨4, ![1, 8, 1024, 256]⟩
abbrev S8x1024x256 : Shape := ⟨3, ![8, 1024, 256]⟩
abbrev S40960x8x256 : Shape := ⟨3, ![40960, 8, 256]⟩
abbrev S40960x1x8 : Shape := ⟨3, ![40960, 1, 8]⟩
abbrev S40960x8 : Shape := ⟨2, ![40960, 8]⟩
abbrev S40960x8x1 : Shape := ⟨3, ![40960, 8, 1]⟩
abbrev S1x8x256x1024 : Shape := ⟨4, ![1, 8, 256, 1024]⟩
abbrev S8x256x1024 : Shape := ⟨3, ![8, 256, 1024]⟩

abbrev nBuf : Space → Nat
  | .hbm => 119
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x1024, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S160x256x32, .i32⟩
  | .hbm, ⟨7, _⟩ => ⟨S160x1x1, .i32⟩
  | .hbm, ⟨8, _⟩ => ⟨S160x256x32, .i32⟩
  | .hbm, ⟨9, _⟩ => ⟨S160x256x32, .i1⟩
  | .hbm, ⟨10, _⟩ => ⟨S160x256x32, .i32⟩
  | .hbm, ⟨11, _⟩ => ⟨S_, .i32⟩
  | .hbm, ⟨12, _⟩ => ⟨S160x256x32, .i32⟩
  | .hbm, ⟨13, _⟩ => ⟨S160x256x32, .i1⟩
  | .hbm, ⟨14, _⟩ => ⟨S160x256x32, .i1⟩
  | .hbm, ⟨15, _⟩ => ⟨S160x256x32, .f32⟩
  | .hbm, ⟨16, _⟩ => ⟨S40960x4x8, .f32⟩
  | .hbm, ⟨17, _⟩ => ⟨S_, .f32⟩
  | .hbm, ⟨18, _⟩ => ⟨S40960x1024, .f32⟩
  | .hbm, ⟨19, _⟩ => ⟨S1x8x1024x256, .f32⟩
  | .hbm, ⟨20, _⟩ => ⟨S8x1024x256, .f32⟩
  | .hbm, ⟨21, _⟩ => ⟨S40960x8x256, .f32⟩
  | .hbm, ⟨22, _⟩ => ⟨S40960x8x256, .f32⟩
  | .hbm, ⟨23, _⟩ => ⟨S40960x8x256, .f32⟩
  | .hbm, ⟨24, _⟩ => ⟨S_, .f32⟩
  | .hbm, ⟨25, _⟩ => ⟨S40960x8x256, .f32⟩
  | .hbm, ⟨26, _⟩ => ⟨S40960x8x256, .f32⟩
  | .hbm, ⟨27, _⟩ => ⟨S_, .f32⟩
  | .hbm, ⟨28, _⟩ => ⟨S40960x8x256, .f32⟩
  | .hbm, ⟨29, _⟩ => ⟨S40960x8x256, .f32⟩
  | .hbm, ⟨30, _⟩ => ⟨S40960x8x256, .f32⟩
  | .hbm, ⟨31, _⟩ => ⟨S1x8x1024x256, .f32⟩
  | .hbm, ⟨32, _⟩ => ⟨S8x1024x256, .f32⟩
  | .hbm, ⟨33, _⟩ => ⟨S40960x8x256, .f32⟩
  | .hbm, ⟨34, _⟩ => ⟨S40960x8x256, .f32⟩
  | .hbm, ⟨35, _⟩ => ⟨S40960x1x8, .f32⟩
  | .hbm, ⟨36, _⟩ => ⟨S40960x8, .f32⟩
  | .hbm, ⟨37, _⟩ => ⟨S40960x8x1, .f32⟩
  | .hbm, ⟨38, _⟩ => ⟨S40960x8x256, .f32⟩
  | .hbm, ⟨39, _⟩ => ⟨S40960x8x256, .f32⟩
  | .hbm, ⟨40, _⟩ => ⟨S1x8x256x1024, .f32⟩
  | .hbm, ⟨41, _⟩ => ⟨S8x256x1024, .f32⟩
  | .hbm, ⟨42, _⟩ => ⟨S40960x1024, .f32⟩
  | .hbm, ⟨43, _⟩ => ⟨S40960x1024, .f32⟩
  | .hbm, ⟨44, _⟩ => ⟨S1x8x1024x256, .f32⟩
  | .hbm, ⟨45, _⟩ => ⟨S8x1024x256, .f32⟩
  | .hbm, ⟨46, _⟩ => ⟨S40960x8x256, .f32⟩
  | .hbm, ⟨47, _⟩ => ⟨S40960x8x256, .f32⟩
  | .hbm, ⟨48, _⟩ => ⟨S40960x8x256, .f32⟩
  | .hbm, ⟨49, _⟩ => ⟨S_, .f32⟩
  | .hbm, ⟨50, _⟩ => ⟨S40960x8x256, .f32⟩
  | .hbm, ⟨51, _⟩ => ⟨S40960x8x256, .f32⟩
  | .hbm, ⟨52, _⟩ => ⟨S_, .f32⟩
  | .hbm, ⟨53, _⟩ => ⟨S40960x8x256, .f32⟩
  | .hbm, ⟨54, _⟩ => ⟨S40960x8x256, .f32⟩
  | .hbm, ⟨55, _⟩ => ⟨S40960x8x256, .f32⟩
  | .hbm, ⟨56, _⟩ => ⟨S1x8x1024x256, .f32⟩
  | .hbm, ⟨57, _⟩ => ⟨S8x1024x256, .f32⟩
  | .hbm, ⟨58, _⟩ => ⟨S40960x8x256, .f32⟩
  | .hbm, ⟨59, _⟩ => ⟨S40960x8x256, .f32⟩
  | .hbm, ⟨60, _⟩ => ⟨S40960x1x8, .f32⟩
  | .hbm, ⟨61, _⟩ => ⟨S40960x8, .f32⟩
  | .hbm, ⟨62, _⟩ => ⟨S40960x8x1, .f32⟩
  | .hbm, ⟨63, _⟩ => ⟨S40960x8x256, .f32⟩
  | .hbm, ⟨64, _⟩ => ⟨S40960x8x256, .f32⟩
  | .hbm, ⟨65, _⟩ => ⟨S1x8x256x1024, .f32⟩
  | .hbm, ⟨66, _⟩ => ⟨S8x256x1024, .f32⟩
  | .hbm, ⟨67, _⟩ => ⟨S40960x1024, .f32⟩
  | .hbm, ⟨68, _⟩ => ⟨S40960x1024, .f32⟩
  | .hbm, ⟨69, _⟩ => ⟨S1x8x1024x256, .f32⟩
  | .hbm, ⟨70, _⟩ => ⟨S8x1024x256, .f32⟩
  | .hbm, ⟨71, _⟩ => ⟨S40960x8x256, .f32⟩
  | .hbm, ⟨72, _⟩ => ⟨S40960x8x256, .f32⟩
  | .hbm, ⟨73, _⟩ => ⟨S40960x8x256, .f32⟩
  | .hbm, ⟨74, _⟩ => ⟨S_, .f32⟩
  | .hbm, ⟨75, _⟩ => ⟨S40960x8x256, .f32⟩
  | .hbm, ⟨76, _⟩ => ⟨S40960x8x256, .f32⟩
  | .hbm, ⟨77, _⟩ => ⟨S_, .f32⟩
  | .hbm, ⟨78, _⟩ => ⟨S40960x8x256, .f32⟩
  | .hbm, ⟨79, _⟩ => ⟨S40960x8x256, .f32⟩
  | .hbm, ⟨80, _⟩ => ⟨S40960x8x256, .f32⟩
  | .hbm, ⟨81, _⟩ => ⟨S1x8x1024x256, .f32⟩
  | .hbm, ⟨82, _⟩ => ⟨S8x1024x256, .f32⟩
  | .hbm, ⟨83, _⟩ => ⟨S40960x8x256, .f32⟩
  | .hbm, ⟨84, _⟩ => ⟨S40960x8x256, .f32⟩
  | .hbm, ⟨85, _⟩ => ⟨S40960x1x8, .f32⟩
  | .hbm, ⟨86, _⟩ => ⟨S40960x8, .f32⟩
  | .hbm, ⟨87, _⟩ => ⟨S40960x8x1, .f32⟩
  | .hbm, ⟨88, _⟩ => ⟨S40960x8x256, .f32⟩
  | .hbm, ⟨89, _⟩ => ⟨S40960x8x256, .f32⟩
  | .hbm, ⟨90, _⟩ => ⟨S1x8x256x1024, .f32⟩
  | .hbm, ⟨91, _⟩ => ⟨S8x256x1024, .f32⟩
  | .hbm, ⟨92, _⟩ => ⟨S40960x1024, .f32⟩
  | .hbm, ⟨93, _⟩ => ⟨S40960x1024, .f32⟩
  | .hbm, ⟨94, _⟩ => ⟨S1x8x1024x256, .f32⟩
  | .hbm, ⟨95, _⟩ => ⟨S8x1024x256, .f32⟩
  | .hbm, ⟨96, _⟩ => ⟨S40960x8x256, .f32⟩
  | .hbm, ⟨97, _⟩ => ⟨S40960x8x256, .f32⟩
  | .hbm, ⟨98, _⟩ => ⟨S40960x8x256, .f32⟩
  | .hbm, ⟨99, _⟩ => ⟨S_, .f32⟩
  | .hbm, ⟨100, _⟩ => ⟨S40960x8x256, .f32⟩
  | .hbm, ⟨101, _⟩ => ⟨S40960x8x256, .f32⟩
  | .hbm, ⟨102, _⟩ => ⟨S_, .f32⟩
  | .hbm, ⟨103, _⟩ => ⟨S40960x8x256, .f32⟩
  | .hbm, ⟨104, _⟩ => ⟨S40960x8x256, .f32⟩
  | .hbm, ⟨105, _⟩ => ⟨S40960x8x256, .f32⟩
  | .hbm, ⟨106, _⟩ => ⟨S1x8x1024x256, .f32⟩
  | .hbm, ⟨107, _⟩ => ⟨S8x1024x256, .f32⟩
  | .hbm, ⟨108, _⟩ => ⟨S40960x8x256, .f32⟩
  | .hbm, ⟨109, _⟩ => ⟨S40960x8x256, .f32⟩
  | .hbm, ⟨110, _⟩ => ⟨S40960x1x8, .f32⟩
  | .hbm, ⟨111, _⟩ => ⟨S40960x8, .f32⟩
  | .hbm, ⟨112, _⟩ => ⟨S40960x8x1, .f32⟩
  | .hbm, ⟨113, _⟩ => ⟨S40960x8x256, .f32⟩
  | .hbm, ⟨114, _⟩ => ⟨S40960x8x256, .f32⟩
  | .hbm, ⟨115, _⟩ => ⟨S1x8x256x1024, .f32⟩
  | .hbm, ⟨116, _⟩ => ⟨S8x256x1024, .f32⟩
  | .hbm, ⟨117, _⟩ => ⟨S40960x1024, .f32⟩
  | .hbm, ⟨118, _⟩ => ⟨S40960x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S8x1024 : Shape := ⟨2, ![8, 1024]⟩
abbrev S1024x11312 : Shape := ⟨2, ![1024, 11312]⟩
abbrev S1024x3072 : Shape := ⟨2, ![1024, 3072]⟩
abbrev S1024x6144 : Shape := ⟨2, ![1024, 6144]⟩
abbrev S1024x2048 : Shape := ⟨2, ![1024, 2048]⟩
abbrev S1024x11264 : Shape := ⟨2, ![1024, 11264]⟩
abbrev S1024x16 : Shape := ⟨2, ![1024, 16]⟩
abbrev S1024x32 : Shape := ⟨2, ![1024, 32]⟩
abbrev S_ : Shape := ⟨0, ![]⟩
abbrev S1024x80 : Shape := ⟨2, ![1024, 80]⟩
abbrev S1024x128 : Shape := ⟨2, ![1024, 128]⟩
abbrev S16384x1024 : Shape := ⟨2, ![16384, 1024]⟩
abbrev S1x1024 : Shape := ⟨2, ![1, 1024]⟩
abbrev S8x1x1024 : Shape := ⟨3, ![8, 1, 1024]⟩
abbrev S16384x11264 : Shape := ⟨2, ![16384, 11264]⟩
abbrev S16384x128 : Shape := ⟨2, ![16384, 128]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 21
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x11312, .f32⟩
  | .hbm, ⟨5, _⟩ => ⟨S1024x3072, .f32⟩
  | .hbm, ⟨6, _⟩ => ⟨S1024x6144, .f32⟩
  | .hbm, ⟨7, _⟩ => ⟨S1024x2048, .f32⟩
  | .hbm, ⟨8, _⟩ => ⟨S1024x11264, .f32⟩
  | .hbm, ⟨9, _⟩ => ⟨S1024x11264, .bf16⟩
  | .hbm, ⟨10, _⟩ => ⟨S1024x16, .f32⟩
  | .hbm, ⟨11, _⟩ => ⟨S1024x32, .f32⟩
  | .hbm, ⟨12, _⟩ => ⟨S_, .f32⟩
  | .hbm, ⟨13, _⟩ => ⟨S1024x80, .f32⟩
  | .hbm, ⟨14, _⟩ => ⟨S1024x128, .f32⟩
  | .hbm, ⟨15, _⟩ => ⟨S16384x1024, .f32⟩
  | .hbm, ⟨16, _⟩ => ⟨S1x1024, .f32⟩
  | .hbm, ⟨17, _⟩ => ⟨S8x1x1024, .f32⟩
  | .hbm, ⟨18, _⟩ => ⟨S8x1x1024, .f32⟩
  | .hbm, ⟨19, _⟩ => ⟨S16384x11264, .bf16⟩
  | .hbm, ⟨20, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8x2048x1024 : Shape := ⟨3, ![8, 2048, 1024]⟩
abbrev S1024 : Shape := ⟨1, ![1024]⟩
abbrev S8x1024 : Shape := ⟨2, ![8, 1024]⟩
abbrev S1024x11312 : Shape := ⟨2, ![1024, 11312]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x11312 : Shape := ⟨3, ![8, 2048, 11312]⟩
abbrev S16384x11312 : Shape := ⟨2, ![16384, 11312]⟩
abbrev S16384x3072 : Shape := ⟨2, ![16384, 3072]⟩
abbrev S16384x6144 : Shape := ⟨2, ![16384, 6144]⟩
abbrev S16384x2048 : Shape := ⟨2, ![16384, 2048]⟩
abbrev S16384x11264 : Shape := ⟨2, ![16384, 11264]⟩
abbrev S16384x16 : Shape := ⟨2, ![16384, 16]⟩
abbrev S16384x32 : Shape := ⟨2, ![16384, 32]⟩
abbrev S16384x48 : Shape := ⟨2, ![16384, 48]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x11312, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x11312, .f32⟩
  | .hbm, ⟨31, _⟩ => ⟨S16384x11312, .f32⟩
  | .hbm, ⟨32, _⟩ => ⟨S16384x3072, .f32⟩
  | .hbm, ⟨33, _⟩ => ⟨S16384x6144, .f32⟩
  | .hbm, ⟨34, _⟩ => ⟨S16384x2048, .f32⟩
  | .hbm, ⟨35, _⟩ => ⟨S16384x11264, .f32⟩
  | .hbm, ⟨36, _⟩ => ⟨S16384x16, .f32⟩
  | .hbm, ⟨37, _⟩ => ⟨S16384x32, .f32⟩
  | .hbm, ⟨38, _⟩ => ⟨S16384x48, .f32⟩
  | .hbm, ⟨39, _⟩ => ⟨S16384x11264, .bf16⟩
  | .hbm, ⟨40, _⟩ => ⟨S_, .i32⟩
  | .hbm, ⟨41, _⟩ => ⟨S_, .f32⟩
  | .hbm, ⟨42, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_call0_v0 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S16384x1024 : Shape := ⟨2, ![16384, 1024]⟩
abbrev S16384x2048 : Shape := ⟨2, ![16384, 2048]⟩
abbrev S16384x11264 : Shape := ⟨2, ![16384, 11264]⟩
abbrev S8x2048x1024 : Shape := ⟨3, ![8, 2048, 1024]⟩
abbrev S8x1024 : Shape := ⟨2, ![8, 1024]⟩
abbrev S1024x1024 : Shape := ⟨2, ![1024, 1024]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S8x1x1024 : Shape := ⟨3, ![8, 1, 1024]⟩
abbrev S1x1024 : Shape := ⟨2, ![1, 1024]⟩
abbrev S16384x128 : Shape := ⟨2, ![16384, 128]⟩
abbrev S8x128 : Shape := ⟨2, ![8, 128]⟩
abbrev S512x1024 : Shape := ⟨2, ![512, 1024]⟩
abbrev S512x2048 : Shape := ⟨2, ![512, 2048]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 35
  | .vmem => 32
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x11264, .bf16⟩
  | .hbm, ⟨3, _⟩ => ⟨S8x2048x1024, .f32⟩
  | .hbm, ⟨4, _⟩ => ⟨S8x1024, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S8x1024, .f32⟩
  | .hbm, ⟨10, _⟩ => ⟨S8x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S_, .f32⟩
  | .hbm, ⟨19, _⟩ => ⟨S92, .f32⟩
  | .hbm, ⟨20, _⟩ => ⟨S128, .f32⟩
  | .hbm, ⟨21, _⟩ => ⟨S1x128, .f32⟩
  | .hbm, ⟨22, _⟩ => ⟨S16384x1024, .f32⟩
  | .hbm, ⟨23, _⟩ => ⟨S8x1x1024, .f32⟩
  | .hbm, ⟨24, _⟩ => ⟨S1024x1024, .bf16⟩
  | .hbm, ⟨25, _⟩ => ⟨S2048x1024, .bf16⟩
  | .hbm, ⟨26, _⟩ => ⟨S1024x1024, .bf16⟩
  | .hbm, ⟨27, _⟩ => ⟨S1x1024, .f32⟩
  | .hbm, ⟨28, _⟩ => ⟨S8x1x1024, .f32⟩
  | .hbm, ⟨29, _⟩ => ⟨S8x1x1024, .f32⟩
  | .hbm, ⟨30, _⟩ => ⟨S16384x1024, .f32⟩
  | .hbm, ⟨31, _⟩ => ⟨S16384x1024, .f32⟩
  | .hbm, ⟨32, _⟩ => ⟨S16384x128, .i32⟩
  | .hbm, ⟨33, _⟩ => ⟨S16384x128, .f32⟩
  | .hbm, ⟨34, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x128, .f32⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x128, .i32⟩
  | .local _ .vmem, ⟨27, _⟩ => ⟨S512x128, .i32⟩
  | .local _ .vmem, ⟨28, _⟩ => ⟨S512x128, .f32⟩
  | .local _ .vmem, ⟨29, _⟩ => ⟨S512x128, .f32⟩
  | .local _ .vmem, ⟨30, _⟩ => ⟨S8x128, .f32⟩
  | .local _ .vmem, ⟨31, _⟩ => ⟨S8x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference4Ideal.lean ====
abbrev S16384x1024 : Shape := ⟨2, ![16384, 1024]⟩
abbrev S16384x2048 : Shape := ⟨2, ![16384, 2048]⟩
abbrev S16384x11264 : Shape := ⟨2, ![16384, 11264]⟩
abbrev S8x2048x1024 : Shape := ⟨3, ![8, 2048, 1024]⟩
abbrev S8x1024 : Shape := ⟨2, ![8, 1024]⟩
abbrev S1024x1024 : Shape := ⟨2, ![1024, 1024]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x2048x2048 : Shape := ⟨3, ![8, 2048, 2048]⟩
abbrev S_ : Shape := ⟨0, ![]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x11264, .bf16⟩
  | .hbm, ⟨3, _⟩ => ⟨S8x2048x1024, .f32⟩
  | .hbm, ⟨4, _⟩ => ⟨S8x1024, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S8x1024, .f32⟩
  | .hbm, ⟨10, _⟩ => ⟨S8x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S16384x1024, .f32⟩
  | .hbm, ⟨16, _⟩ => ⟨S8x2048x1024, .f32⟩
  | .hbm, ⟨17, _⟩ => ⟨S16384x2048, .f32⟩
  | .hbm, ⟨18, _⟩ => ⟨S8x2048x2048, .f32⟩
  | .hbm, ⟨19, _⟩ => ⟨S16384x2048, .bf16⟩
  | .hbm, ⟨20, _⟩ => ⟨S16384x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S8x1x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S8x1x1024, .f32⟩
  | .hbm, ⟨65, _⟩ => ⟨S8x2048x1024, .f32⟩
  | .hbm, ⟨66, _⟩ => ⟨S8x2048x1024, .f32⟩
  | .hbm, ⟨67, _⟩ => ⟨S16384x1024, .f32⟩
  | .hbm, ⟨68, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Proof.GlaLoop.lean ====
/- What one grid point of the gated-linear-attention kernel computes, as a function of its eight input blocks: the log
   gates of the whole block, the running state after each chunk of 64 rows, and the output rows of each chunk. Then the
   counted loop: what its stores leave in the output block and in the state buffer is that function.  -/
module

public import proofs.«01_k».proof.Proof.Gen.KernelIdeal.Loops
public import Idealize.ShloMosaic.Lib.WritesUnit
public import Idealize.ShloMosaic.Lib.VecWindow
public import Idealize.ShloMosaic.Lib.Pipeline.ValueKit
public import Idealize.ShloMosaic.Lib.Pointwise

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The rows `64 k … 64 k + 63` of a block of 2048 rows and 128 columns. -/
abbrev rowsA {e : EltTy} (x : Vec F S2048x128 e) (k : Fin k0_t1_loop.trips) : Vec F S64x128 e :=
  View.ld x (Rect.unit (s := S2048x128) (k0_off1 k) S64x128.size (k0_off1_inb k))

/-- The rows `64 k … 64 k + 63` of a block of 2048 rows and 256 columns. -/
abbrev rowsB {e : EltTy} (x : Vec F S2048x256 e) (k : Fin k0_t1_loop.trips) : Vec F S64x256 e :=
  View.ld x (Rect.unit (s := S2048x256) (k0_off2 k) S64x256.size (k0_off2_inb k))

/-- The state before chunk `n`: zero, then one state update per chunk. -/
def st (gk : Vec F S2048x128 .f32) (x1 : Vec F S2048x128 .bf16) (x2 : Vec F S2048x256 .bf16) : ℕ → Vec F S256x128 .f32
  | 0 => k0_pay8
  | n + 1 => if h : n < k0_t1_loop.trips then
      k0_pay4 k0_pay1 (rowsA gk ⟨n, h⟩) (rowsA x1 ⟨n, h⟩) (rowsB x2 ⟨n, h⟩) (st gk x1 x2 n) else st gk x1 x2 n

/-- The output rows of chunk `k`. -/
def outRows (gk : Vec F S2048x128 .f32) (x0 x1 : Vec F S2048x128 .bf16) (x2 x3 : Vec F S2048x256 .bf16)
    (ng : Vec F S1x256 .f32) (k : Fin k0_t1_loop.trips) : Vec F S64x256 .bf16 :=
  k0_pay2 ng
    (k0_pay5 k0_pay1 (rowsA gk k) (rowsA x1 k) (rowsB x2 k) (st gk x1 x2 k.val) (rowsA x0 k))
    (k0_pay6 k0_pay1 (rowsA gk k) (rowsA x1 k) (rowsB x2 k) (st gk x1 x2 k.val) (rowsA x0 k))
    (rowsB x3 k)

theorem trips_eq : k0_t1_loop.trips = 32 := by decide +kernel

/-- The output block: row `64 k + r` is row `r` of chunk `k`'s output. -/
def outBlk (gk : Vec F S2048x128 .f32) (x0 x1 : Vec F S2048x128 .bf16) (x2 x3 : Vec F S2048x256 .bf16)
    (ng : Vec F S1x256 .f32) : Vec F S2048x256 .bf16 := fun y =>
  outRows gk x0 x1 x2 x3 ng ⟨(y 0).val / 64, by have := (y 0).isLt; have h : S2048x256.size 0 = 2048 := rfl; rw [trips_eq]; omega⟩
    (ix2 (⟨(y 0).val % 64, Nat.mod_lt _ (by decide)⟩ : Fin 64) (y 1))

section Loop

variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S2048x128 .f32) (harg11 : arg11.IsWhole) (arg12 : Memref sig .tc .vmem S256x128 .f32) (harg12 : arg12.IsWhole)
  (v46 : Vec F S1x256 .f32) (X2 : BufTy.Contents (Elt F) arg2.view.ty) (X3 : BufTy.Contents (Elt F) arg3.view.ty)
  (X4 : BufTy.Contents (Elt F) arg4.view.ty) (X5 : BufTy.Contents (Elt F) arg5.view.ty) (X11 : BufTy.Contents (Elt F) arg11.view.ty)

/-- The store of one trip into the output block. -/
theorem trip_out (k : Fin k0_t1_loop.trips) (f10 : BufTy.Contents (Elt F) arg10.view.ty) (f12 : BufTy.Contents (Elt F) arg12.view.ty) :
    (tripL_k0_t1 (F := F) 𝒱 c bd i arg2 harg2 arg3 harg3 arg4 harg4 arg5 harg5 arg6 harg6 arg7 harg7 arg8 harg8 arg9 harg9 arg10 harg10 arg11 harg11 arg12 harg12 v46 X2 X3 X4 X5 X11 k f10 f12).1
    = [⟨Rect.unit (s := S2048x256) (k0_off2 k) S64x256.size (k0_off2_inb k),
        k0_pay2 v46
          (k0_pay5 k0_pay1 (rowsA (arg11.view.read (Elt F) X11) k) (rowsA (arg3.view.read (Elt F) X3) k) (rowsB (arg4.view.read (Elt F) X4) k)
            (arg12.view.read (Elt F) f12) (rowsA (arg2.view.read (Elt F) X2) k))
          (k0_pay6 k0_pay1 (rowsA (arg11.view.read (Elt F) X11) k) (rowsA (arg3.view.read (Elt F) X3) k) (rowsB (arg4.view.read (Elt F) X4) k)
            (arg12.view.read (Elt F) f12) (rowsA (arg2.view.read (Elt F) X2) k))
          (rowsB (arg5.view.read (Elt F) X5) k)⟩] := by
  have hz : (![0, 0] : Fin 2 → Nat) = fun _ => 0 := funext fun a => by fin_cases a <;> rfl
  unfold tripL_k0_t1 trip_k0_t1
  dsimp only
  sl_unfold_words
  simp only [View.readAt_eq_ld]
  rw [View.ld_unit_zero (S := S256x128) hz]
  rfl

/-- The store of one trip into the state buffer. -/
theorem trip_st (k : Fin k0_t1_loop.trips) (f10 : BufTy.Contents (Elt F) arg10.view.ty) (f12 : BufTy.Contents (Elt F) arg12.view.ty) :
    (tripL_k0_t1 (F := F) 𝒱 c bd i arg2 harg2 arg3 harg3 arg4 harg4 arg5 harg5 arg6 harg6 arg7 harg7 arg8 harg8 arg9 harg9 arg10 harg10 arg11 harg11 arg12 harg12 v46 X2 X3 X4 X5 X11 k f10 f12).2
    = [⟨Rect.unit (s := S256x128) ![0, 0] S256x128.size inb_S256x128_S256x128_0_0,
        k0_pay4 k0_pay1 (rowsA (arg11.view.read (Elt F) X11) k) (rowsA (arg3.view.read (Elt F) X3) k) (rowsB (arg4.view.read (Elt F) X4) k)
            (arg12.view.read (Elt F) f12)⟩] := by
  have hz : (![0, 0] : Fin 2 → Nat) = fun _ => 0 := funext fun a => by fin_cases a <;> rfl
  unfold tripL_k0_t1 trip_k0_t1
  dsimp only
  sl_unfold_words
  simp only [View.readAt_eq_ld]
  rw [View.ld_unit_zero (S := S256x128) hz]
  rfl

/-- After `n` trips the state buffer reads as the state after `n` chunks and the rows written so far as the output. -/
theorem loop_read (G10 : BufTy.Contents (Elt F) arg10.view.ty) (G12 : BufTy.Contents (Elt F) arg12.view.ty)
    (h12 : arg12.view.read (Elt F) G12 = k0_pay8 (F := F)) : ∀ n : ℕ, n ≤ 32 →
    (arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 v46 X2 X3 X4 X5 X11 G10 G12 n).2)
      = st (arg11.view.read (Elt F) X11) (arg3.view.read (Elt F) X3) (arg4.view.read (Elt F) X4) n)
    ∧ ∀ y : S2048x256.Idx, (y 0).val < 64 * n →
      arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 v46 X2 X3 X4 X5 X11 G10 G12 n).1) y
      = outBlk (arg11.view.read (Elt F) X11) (arg2.view.read (Elt F) X2) (arg3.view.read (Elt F) X3) (arg4.view.read (Elt F) X4)
          (arg5.view.read (Elt F) X5) v46 y := by
  intro n
  induction n with
  | zero => exact fun _ => ⟨h12, fun y hy => absurd hy (by omega)⟩
  | succ n ih =>
    intro hn
    obtain ⟨ih1, ih2⟩ := ih (by omega)
    have hk : n < k0_t1_loop.trips := by rw [trips_eq]; omega
    have e := pb_k0_t1_succ (F := F) 𝒱 c bd i arg2 harg2 arg3 harg3 arg4 harg4 arg5 harg5 arg6 harg6 arg7 harg7 arg8 harg8 arg9 harg9 arg10 harg10 arg11 harg11 arg12 harg12 v46 X2 X3 X4 X5 X11 G10 G12 ⟨n, hk⟩
    dsimp only at e
    rw [e]
    generalize hp : pb_k0_t1 (F := F) 𝒱 c bd i arg2 harg2 arg3 harg3 arg4 harg4 arg5 harg5 arg6 harg6 arg7 harg7 arg8 harg8 arg9 harg9 arg10 harg10 arg11 harg11 arg12 harg12 v46 X2 X3 X4 X5 X11 G10 G12 n = p at *
    have e1 := trip_out 𝒱 c bd i arg2 harg2 arg3 harg3 arg4 harg4 arg5 harg5 arg6 harg6 arg7 harg7 arg8 harg8 arg9 harg9 arg10 harg10 arg11 harg11 arg12 harg12 v46 X2 X3 X4 X5 X11 ⟨n, hk⟩ (arg10.view.writes (Elt F) G10 p.1) (arg12.view.writes (Elt F) G12 p.2)
    have e2 := trip_st 𝒱 c bd i arg2 harg2 arg3 harg3 arg4 harg4 arg5 harg5 arg6 harg6 arg7 harg7 arg8 harg8 arg9 harg9 arg10 harg10 arg11 harg11 arg12 harg12 v46 X2 X3 X4 X5 X11 ⟨n, hk⟩ (arg10.view.writes (Elt F) G10 p.1) (arg12.view.writes (Elt F) G12 p.2)
    rw [ih1] at e1 e2
    dsimp only at e1 e2 ⊢
    rw [e1, e2]
    constructor
    · refine (View.read_writes_full _ _ _ _ _).trans ?_
      rw [st, dif_pos hk]
    · intro y hy
      by_cases hlt : (y 0).val < 64 * n
      · refine (View.read_writes_cons_rows_of_not_mem (o := 64 * n) (W := 64) _ _ _ _ _ y (k0_off2_eq ⟨n, hk⟩) rfl (Or.inl hlt)).trans (ih2 y hlt)
      · have hd : (y 0).val / 64 = n := by omega
        have hm : (y 0).val = 64 * n + (y 0).val % 64 := by omega
        refine (View.read_writes_cons_rows_of_mem (o := 64 * n) _ _ _ _ _ y (ix2 (⟨(y 0).val % 64, Nat.mod_lt _ (by decide)⟩ : Fin 64) (y 1)) (k0_off2_eq ⟨n, hk⟩) hm rfl).trans ?_
        simp only [outBlk, hd]
        rfl

end Loop

end Cert.KernelIdeal.Gla

end
-- ==== Proof.GlaRun.lean ====
/- The run of the gated-linear-attention kernel: the body's triple at one grid point (it leaves `glaBlk` of the input
   blocks in the output block), the launch, and what the result array holds at the end, block by block.  -/
module

public import proofs.«01_k».proof.Proof.GlaLoop
public import proofs.«01_k».proof.Proof.Gen.KernelIdeal.Frame.Runs
public import Idealize.ShloMosaic.Lib.Quiescent

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What the body leaves in the output block, of its eight input blocks. -/
def glaBlk (x0 : Vec F S2048x128 .bf16) (x1 : Vec F S2048x128 .bf16) (x2 : Vec F S2048x256 .bf16) (x3 : Vec F S2048x256 .bf16) (x4 : Vec F S2048x128 .f32) (x5 : Vec F S128x128 .f32) (x6 : Vec F S1x128 .f32) (x7 : Vec F S1x256 .f32) : Vec F S2048x256 .bf16 :=
  outBlk (k0_pay7 x4 x5 x6) x0 x1 x2 x3 x7

set_option maxHeartbeats 1000000 in
/-- One grid point: with the inputs' blocks held, the body ends with the output block at `glaBlk`, the inputs' blocks as
    they were and the two scratch buffers at some contents. -/
theorem body_triple (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S2048x128 .f32) (harg11 : arg11.IsWhole) (arg12 : Memref sig .tc .vmem S256x128 .f32) (harg12 : arg12.IsWhole)
    (x0 : Vec F S2048x128 .bf16) (x1 : Vec F S2048x128 .bf16) (x2 : Vec F S2048x256 .bf16) (x3 : Vec F S2048x256 .bf16) (x4 : Vec F S2048x128 .f32) (x5 : Vec F S128x128 .f32) (x6 : Vec F S1x128 .f32) (x7 : Vec F S1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (glaBlk x0 x1 x2 x3 x4 x5 x6 x7) ∗ (∃ d, owns (c : Thread nD τ) arg11 fullShare d) ∗ (∃ d, owns (c : Thread nD τ) arg12 fullShare d)) -∗ K ⟨⟩))
      ⊢ wp frame (wpE (defs₀ (F := F)) Variants.none c none) E (cc0_gla_mixer i arg2 harg2 arg3 harg3 arg4 harg4 arg5 harg5 arg6 harg6 arg7 harg7 arg8 harg8 arg9 harg9 arg10 harg10 arg11 harg11 arg12 harg12) K := by
  have hz : (![0, 0] : Fin 2 → Nat) = fun _ => 0 := funext fun a => by fin_cases a <;> rfl
  simp only [cc0_gla_mixer_eq_skeleton]; unfold cc0_gla_mixer_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    funext y
    have h12 : arg12.view.read (Elt F) (arg12.view.writes (Elt F) arg12.view.junk
        [⟨Rect.unit (s := S256x128) ![0, 0] S256x128.size inb_S256x128_S256x128_0_0, k0_pay8 (F := F)⟩]) = k0_pay8 (F := F) :=
      View.read_writes_full _ _ _ _ _
    have hy : (y 0).val < 64 * 32 := (y 0).isLt
    sl_unfold_words
    rw [show Scf.trips k0_t1_loop.lb k0_t1_loop.ub k0_t1_loop.st = 32 from trips_eq]
    refine ((loop_read Variants.none c none i arg2 harg2 arg3 harg3 arg4 harg4 arg5 harg5 arg6 harg6 arg7 harg7 arg8 harg8 arg9 harg9 arg10 harg10 arg11 harg11 arg12 harg12 _ _ _ _ _ _ f8 _ h12 32 le_rfl).2 y hy).trans ?_
    rw [harg2.read_unread, harg3.read_unread, harg4.read_unread, harg5.read_unread]
    refine congrFun ?_ y
    refine congrArg₂ (fun a b => outBlk a x0 x1 x2 x3 b) ((View.read_writes_full _ _ _ _ _).trans ?_) ?_
    · simp only [View.readAt_eq_ld, harg6.read_unread, harg7.read_unread, harg8.read_unread]
      exact congr (congrArg₂ k0_pay7 (View.ld_unit_zero (S := S2048x128) hz _ _) (View.ld_unit_zero (S := S128x128) hz _ _))
        (View.ld_unit_zero (S := S1x128) hz _ _)
    · rw [View.readAt_eq_ld, harg9.read_unread]
      exact View.ld_unit_zero (S := S1x256) hz _ _
  isplitl [HS0]
  · iexists _, _; isplitr; swap; · iexact HS0
    ipureintro; rfl
  iexists _, _; isplitr; swap; · iexact HS1
  ipureintro; rfl

/-! ## The launch -/

section Launch

variable (m : (ℓ : Loc nD τ sig) → Buf (Elt F) ℓ) (ρ : Dev nD → PrngReg)

/-- The output block of grid point `t`. -/
def outAt (c : Dev nD) (t : Fin cfg0.N) : Vec F S2048x256 .bf16 :=
  glaBlk (iblk m c 0 t) (iblk m c 1 t) (iblk m c 2 t) (iblk m c 3 t) (iblk m c 4 t) (iblk m c 5 t) (iblk m c 6 t) (iblk m c 7 t)

/-- The pipeline's proof data: the arrays as the region finds them; after the body each input's buffer at its block and the
    output's at `outAt`; nothing owed. -/
def glaDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q w := Pipeline.shareOf spec0 w
  owed _ := 0

theorem gla_A (c : Dev nD) (w : Fin cfg0.W) : (glaDats m 0 c).A w = V m c (Pipeline.arrRef spec0 w) := by
  dsimp only [glaDats]

theorem gla_after0 (c : Dev nD) (t : Fin cfg0.N) : (glaDats m 0 c).after 0 t = iblk m c 0 t := by dsimp only [glaDats]
theorem gla_after1 (c : Dev nD) (t : Fin cfg0.N) : (glaDats m 0 c).after 1 t = iblk m c 1 t := by dsimp only [glaDats]
theorem gla_after2 (c : Dev nD) (t : Fin cfg0.N) : (glaDats m 0 c).after 2 t = iblk m c 2 t := by dsimp only [glaDats]
theorem gla_after3 (c : Dev nD) (t : Fin cfg0.N) : (glaDats m 0 c).after 3 t = iblk m c 3 t := by dsimp only [glaDats]
theorem gla_after4 (c : Dev nD) (t : Fin cfg0.N) : (glaDats m 0 c).after 4 t = iblk m c 4 t := by dsimp only [glaDats]
theorem gla_after5 (c : Dev nD) (t : Fin cfg0.N) : (glaDats m 0 c).after 5 t = iblk m c 5 t := by dsimp only [glaDats]
theorem gla_after6 (c : Dev nD) (t : Fin cfg0.N) : (glaDats m 0 c).after 6 t = iblk m c 6 t := by dsimp only [glaDats]
theorem gla_after7 (c : Dev nD) (t : Fin cfg0.N) : (glaDats m 0 c).after 7 t = iblk m c 7 t := by dsimp only [glaDats]
theorem gla_after8 (c : Dev nD) (t : Fin cfg0.N) : (glaDats m 0 c).after 8 t = outAt m c t := by dsimp only [glaDats]

theorem gla_before0 (c : Dev nD) (t : Fin cfg0.N) (d) : (glaDats m 0 c).before 0 t d = iblk m c 0 t :=
  before0_0_of m (glaDats m 0 c) (gla_A m c 0) (gla_after0 m c) t d
theorem gla_before1 (c : Dev nD) (t : Fin cfg0.N) (d) : (glaDats m 0 c).before 1 t d = iblk m c 1 t :=
  before0_1_of m (glaDats m 0 c) (gla_A m c 1) (gla_after1 m c) t d
theorem gla_before2 (c : Dev nD) (t : Fin cfg0.N) (d) : (glaDats m 0 c).before 2 t d = iblk m c 2 t :=
  before0_2_of m (glaDats m 0 c) (gla_A m c 2) (gla_after2 m c) t d
theorem gla_before3 (c : Dev nD) (t : Fin cfg0.N) (d) : (glaDats m 0 c).before 3 t d = iblk m c 3 t :=
  before0_3_of m (glaDats m 0 c) (gla_A m c 3) (gla_after3 m c) t d
theorem gla_before4 (c : Dev nD) (t : Fin cfg0.N) (d) : (glaDats m 0 c).before 4 t d = iblk m c 4 t :=
  before0_4_of m (glaDats m 0 c) (gla_A m c 4) (gla_after4 m c) t d
theorem gla_before5 (c : Dev nD) (t : Fin cfg0.N) (d) : (glaDats m 0 c).before 5 t d = iblk m c 5 t :=
  before0_5_of m (glaDats m 0 c) (gla_A m c 5) (gla_after5 m c) t d
theorem gla_before6 (c : Dev nD) (t : Fin cfg0.N) (d) : (glaDats m 0 c).before 6 t d = iblk m c 6 t :=
  before0_6_of m (glaDats m 0 c) (gla_A m c 6) (gla_after6 m c) t d
theorem gla_before7 (c : Dev nD) (t : Fin cfg0.N) (d) : (glaDats m 0 c).before 7 t d = iblk m c 7 t :=
  before0_7_of m (glaDats m 0 c) (gla_A m c 7) (gla_after7 m c) t d

/-- What the body is called with at point `t`. -/
def glaPre (c : Dev nD) (t : Fin cfg0.N) : sProp 𝕄 :=
  iprop((glaDats m 0 c).Φ t.castSucc ∗ (glaDats m 0 c).owesAt () t.castSucc
    ∗ (∃ d, owns (c : Thread nD τ) (ms0_0 t) fullShare ((glaDats m 0 c).before 0 t d))
    ∗ (∃ d, owns (c : Thread nD τ) (ms0_1 t) fullShare ((glaDats m 0 c).before 1 t d))
    ∗ (∃ d, owns (c : Thread nD τ) (ms0_2 t) fullShare ((glaDats m 0 c).before 2 t d))
    ∗ (∃ d, owns (c : Thread nD τ) (ms0_3 t) fullShare ((glaDats m 0 c).before 3 t d))
    ∗ (∃ d, owns (c : Thread nD τ) (ms0_4 t) fullShare ((glaDats m 0 c).before 4 t d))
    ∗ (∃ d, owns (c : Thread nD τ) (ms0_5 t) fullShare ((glaDats m 0 c).before 5 t d))
    ∗ (∃ d, owns (c : Thread nD τ) (ms0_6 t) fullShare ((glaDats m 0 c).before 6 t d))
    ∗ (∃ d, owns (c : Thread nD τ) (ms0_7 t) fullShare ((glaDats m 0 c).before 7 t d))
    ∗ (∃ d, owns (c : Thread nD τ) (ms0_8 t) fullShare ((glaDats m 0 c).before 8 t d)))

/-- What the body returns at point `t`. -/
def glaPost (c : Dev nD) (t : Fin cfg0.N) : sProp 𝕄 :=
  iprop((glaDats m 0 c).Φ t.succ ∗ (glaDats m 0 c).owesAt () t.succ
    ∗ owns (c : Thread nD τ) (ms0_0 t) fullShare ((glaDats m 0 c).after 0 t)
    ∗ owns (c : Thread nD τ) (ms0_1 t) fullShare ((glaDats m 0 c).after 1 t)
    ∗ owns (c : Thread nD τ) (ms0_2 t) fullShare ((glaDats m 0 c).after 2 t)
    ∗ owns (c : Thread nD τ) (ms0_3 t) fullShare ((glaDats m 0 c).after 3 t)
    ∗ owns (c : Thread nD τ) (ms0_4 t) fullShare ((glaDats m 0 c).after 4 t)
    ∗ owns (c : Thread nD τ) (ms0_5 t) fullShare ((glaDats m 0 c).after 5 t)
    ∗ owns (c : Thread nD τ) (ms0_6 t) fullShare ((glaDats m 0 c).after 6 t)
    ∗ owns (c : Thread nD τ) (ms0_7 t) fullShare ((glaDats m 0 c).after 7 t)
    ∗ owns (c : Thread nD τ) (ms0_8 t) fullShare ((glaDats m 0 c).after 8 t))

set_option maxHeartbeats 800000 in
/-- The body at any grid point. -/
theorem gla_sound (c : Dev nD) (t : Fin cfg0.N) :
    glaPre m c t ⊢ wp frame (wpE (defs₀ (F := F)) Variants.none c none) Set.univ (bodyAt0 t) (fun _ => glaPost m c t) := by
  unfold glaPre glaPost bodyAt0
  simp only [gla_before0, gla_before1, gla_before2, gla_before3, gla_before4, gla_before5, gla_before6, gla_before7]
  rw [show (glaDats m 0 c).Φ t.succ = (glaDats m 0 c).Φ t.castSucc from rfl,
    show (glaDats m 0 c).owesAt () t.succ = (glaDats m 0 c).owesAt () t.castSucc from rfl, gla_after0, gla_after1, gla_after2, gla_after3, gla_after4, gla_after5, gla_after6, gla_after7, gla_after8]
  rw [show (glaDats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem gla_row (t : Fin cfg0.N) :
    defs₀ (F := F) .tc cfg0.body (cfg0.bodyArgs t (cfg0.slots t)) = bodyAt0 t := by
  unfold defs₀; rw [Defs.onTc_tc]

/-- The body obligation of the pipeline rule. -/
theorem gla_obligation (c : Dev nD) : BodyObligation (glaDats (F := F) m 0 c) (defs₀ (F := F)) Variants.none () Set.univ := fun t => by
  rw [bigSep_W0, bigSep_W0, gla_row]
  exact triple_restated (gla_sound m c t) rfl .rfl fun _ => .rfl

set_option backward.isDefEq.respectTransparency.types false in
/-- The launch: every array of the pipeline ends at what the proof data says, every semaphore at zero. -/
theorem gla_run : θ_run defs (onTc (τ := τ) (main (F := F))) (s₀ m ρ)
    (fun r => (Pipeline.FramePost cfgs (glaDats m) 0 (V m)) r ∧ r.2.sem = fun _ => 0) :=
  Pipeline.θ_run_frame_shared (Q' := _) cfgs (glaDats m) (0 : Fin 1) launch₀0 defs₀ Variants.none m ρ main
    (hbody := fun c => (gla_obligation m c).loose) (hq := fun _ _ _ => rfl)
    (howed := fun _ _ => rfl) (V := V m) (hmain := hmain m Variants.none) (hA := gla_A m) (hΦ := fun _ _ => rfl)

/-- The arguments end as launched. -/
theorem gla_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (glaDats m) (gla_A m) ((θ_run defs _ _).mono (fun _ h => h.1) (gla_run m ρ))

/-- The frame: the arguments end as launched and every semaphore at zero. -/
theorem gla_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (gla_unchanged m ρ) ((θ_run defs _ _).mono (fun _ h => h.2) (gla_run m ρ))

/-- Distinct grid points write distinct blocks of the result. -/
theorem gla_inj : ∀ t t' : Fin cfg0.N, win0_8.index t = win0_8.index t' → t = t' :=
  (by decide +kernel : ∀ t t' : Fin grid0.N, win0_8.index t = win0_8.index t' → t = t')

/-- Block `t` of the final result array is what point `t` computed. -/
theorem gla_block (c : Dev nD) (t : Fin cfg0.N) (hf : (cfg0.win 8).flush t = true) :
    ((cfg0.win 8).blk t).view.read (Elt F) ((glaDats m 0 c).arrAt 8 cfg0.N) = (cfg0.win 8).cut (grid0.coords t) (outAt m c t) := by
  rw [(glaDats m 0 c).read_blk_arrAt_eq_flushed 8
    (fun t t' _ _ hne => (cfg0.win 8).disjoint_blk fun h => hne (gla_inj t t' h)) cfg0.N t t.isLt hf]
  show (cfg0.win 8).cut (grid0.coords t) ((glaDats m 0 c).after 8 t) = _
  rw [gla_after8]

/-- The run with the result array named and the arguments as launched. -/
theorem gla_blocks : θ_run defs (onTc (τ := τ) (main (F := F))) ⟨m, fun _ => 0, ρ⟩ fun r => ∀ c : Dev nD,
      r.2.mem ((c : Thread nD τ).loc main_v4) = (glaDats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 8, h.2 c⟩)
    (θ_run_and ((θ_run defs _ _).mono (fun _ h => h.1) (gla_run m ρ)) (gla_unchanged m ρ))

end Launch

end Cert.KernelIdeal.Gla

end
-- ==== Proof.GlaRef.lean ====
/- The run of the reference: the arguments are kept and the counters end at zero; the result array as a function of
   the arguments, in named stages (the gates, their running sums, the chunks' updates and decays, the carried state, the
   normalised and gated output).  -/
module

public import proofs.«01_k».proof.Proof.GlaRun
public import proofs.«01_k».proof.Proof.Gen.ReferenceIdeal.Run

@[expose] public section

set_option maxRecDepth 16384

noncomputable section

namespace Cert.ReferenceIdeal.Gla

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI Idealize.SL.Sem

variable {F : FTy → Type} [FloatOps F]
variable (m : (ℓ : Loc nD τ sig) → Buf (Elt F) ℓ) (ρ : Dev nD → PrngReg)

/-! ## What the run leaves alone -/

/-- The buffers the loop's condition and body write. -/
abbrev loopW : List (Ref sig .tc) := condOps_W ++ while0Ops0_W ++ while0Ops0_1_W ++ while0Ops0_2_W ++ while0Ops0_3_W ++ while0Ops0_4_W

/-- A buffer that neither the condition nor the body writes is, before every trip, as it was at the loop's entry. -/
theorem atK_keep (c : Dev nD) (r : Ref sig .tc) (h : r ∉ loopW) : ∀ k, atK m k c (Proc.devRef .tc r) = entryContents preI m c (Proc.devRef .tc r)
  | 0 => rfl
  | k + 1 => by
    have hr := h
    simp only [loopW, List.mem_append, not_or] at h
    obtain ⟨⟨⟨⟨⟨hc, h0⟩, h1⟩, h2⟩, h3⟩, h4⟩ := h
    rw [show atK m (k + 1) c = afterL bodyI (after condOps (atK m k c)) from rfl]
    rw [show afterL bodyI (after condOps (atK m k c)) = after while0Ops0_4 (after while0Ops0_3 (after while0Ops0_2
      (after while0Ops0_1 (after while0Ops0 (after condOps (atK m k c)))))) from rfl]
    rw [after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, atK_keep c r hr k]

abbrev post0_W : List (Ref sig .tc) := [main_v38, main_v39, main_v40, main_v41, main_v42, main_v43, main_cst_3, main_v44, main_v45, main_cst_4, main_v46, main_v47, main_cst_5, main_v48, main_v49, main_v50, main_v51, main_v52, main_v53, main_v54, main_v55, main_v56]
theorem post0_writes : (hostOps0_5 : List (HloOp τ sig (Elt F))).Forall fun op => op.writes ⊆ (post0_W.map (Proc.devRef (τ := τ) .tc)).toFinset :=
  StableHlo.forall_writes_sub_of_map rfl
abbrev post1_W : List (Ref sig .tc) := [main_call5_v0, main_call5_v1, main_call5_cst, main_call5_v2, main_call5_v3, main_call5_cst_0, main_call5_v4, main_call5_v5, main_v57]
theorem post1_writes : (hostOps0_6 : List (HloOp τ sig (Elt F))).Forall fun op => op.writes ⊆ (post1_W.map (Proc.devRef (τ := τ) .tc)).toFinset :=
  StableHlo.forall_writes_sub_of_map rfl
abbrev post2_W : List (Ref sig .tc) := [main_v58, main_v59, main_v60]
theorem post2_writes : (hostOps0_7 : List (HloOp τ sig (Elt F))).Forall fun op => op.writes ⊆ (post2_W.map (Proc.devRef (τ := τ) .tc)).toFinset :=
  StableHlo.forall_writes_sub_of_map rfl

abbrev preW : List (Ref sig .tc) := hostOps0_W ++ hostOps0_1_W ++ hostOps0_2_W ++ hostOps0_3_W ++ hostOps0_4_W
abbrev postW : List (Ref sig .tc) := post0_W ++ post1_W ++ post2_W

/-- A buffer that no line before the loop writes reaches the loop as launched. -/
theorem entry_keep (c : Dev nD) (r : Ref sig .tc) (h : r ∉ preW) :
    entryContents preI m c (Proc.devRef .tc r) = launchContents m c (Proc.devRef .tc r) := by
  simp only [preW, List.mem_append, not_or] at h
  obtain ⟨⟨⟨⟨h0, h1⟩, h2⟩, h3⟩, h4⟩ := h
  simp only [entryContents, afterL_cons, afterL_nil]
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer that no line writes ends as launched. -/
theorem final_keep (c : Dev nD) (r : Ref sig .tc) (hp : r ∉ preW) (hl : r ∉ loopW) (hq : r ∉ postW) :
    finalContents condOps preI bodyI postI 32 m c (Proc.devRef .tc r) = launchContents m c (Proc.devRef .tc r) := by
  have hc : r ∉ condOps_W := by
    simp only [loopW, List.mem_append, not_or] at hl
    exact hl.1.1.1.1.1
  simp only [postW, List.mem_append, not_or] at hq
  obtain ⟨⟨q0, q1⟩, q2⟩ := hq
  rw [show finalContents condOps preI bodyI postI 32 m c = afterL postI (after condOps (atK m 32 c)) from rfl]
  simp only [afterL_cons, afterL_nil]
  rw [after_of_writes_sub _ _ post2_writes q2, after_of_writes_sub _ _ post1_writes q1, after_of_writes_sub _ _ post0_writes q0,
    after_of_writes_sub _ _ condOps_writes hc, atK_keep m c r hl, entry_keep m c r hp]

/-- The reference keeps its arguments and leaves every counter at zero. -/
theorem ref_frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine (θ_run defs _ _).mono (fun r h => ?_) (run_fold m ρ)
  refine ⟨fun c => ⟨?_, ?_, ?_, ?_, ?_⟩, sem_eq_zero_of_no_sems (by decide) r.2⟩
  · exact (h c main_arg0 rfl).trans (final_keep m c main_arg0 (by decide +kernel) (by decide +kernel) (by decide +kernel))
  · exact (h c main_arg1 rfl).trans (final_keep m c main_arg1 (by decide +kernel) (by decide +kernel) (by decide +kernel))
  · exact (h c main_arg2 rfl).trans (final_keep m c main_arg2 (by decide +kernel) (by decide +kernel) (by decide +kernel))
  · exact (h c main_arg3 rfl).trans (final_keep m c main_arg3 (by decide +kernel) (by decide +kernel) (by decide +kernel))
  · exact (h c main_arg4 rfl).trans (final_keep m c main_arg4 (by decide +kernel) (by decide +kernel) (by decide +kernel))

/-! ## The values, in stages -/

/-- The log-sigmoid of the reference, as it is computed there. -/
def lsigR (x : FVec F S8x2048x512 .f32) : FVec F S8x2048x512 .f32 :=
  let z : FVec F S8x2048x512 .f32 := broadcastInDim S8x2048x512 ![] bcast_S_S8x2048x512 (constant S_ .f32 0x00000000#32)
  let a := Host.negf x
  Host.negf (select (cmpf .une (subf a z) (subf a z)) (addf a z)
    (addf (maximumf a z) (Host.log1p (Host.exp (Host.negf (Host.absf (subf a z)))))))

/-- The gates' logarithms: the projection of the first 16 lanes, its bias, the log-sigmoid, a sixteenth of it. -/
def gkR (x1 : FVec F S16384x128 .f32) (x2 : FVec F S16x512 .f32) (x3 : FVec F S512 .f32) : FVec F S8x2048x512 .f32 :=
  Host.divf (lsigR (addf
      (Host.dotGeneral dot_S8x2048x16_S16x512_S8x2048x512_2_0_01_1_n_n none
        (extractStridedSlice S8x2048x16 ![0, 0, 0] (shapeCast S8x2048x128 x1 shapeCasts_S16384x128_S8x2048x128) slices_S8x2048x128_S8x2048x16_0_0_0) x2)
      (broadcastInDim S8x2048x512 ![0, 1, 2] bcast_S1x1x512_S8x2048x512_0_1_2 (broadcastInDim S1x1x512 ![2] bcast_S512_S1x1x512_2 x3))))
    (broadcastInDim S8x2048x512 ![] bcast_S_S8x2048x512 (constant S_ .f32 0x41800000#32))

/-- Running sums of the gates' logarithms over each chunk of 64 rows. -/
def cumR (gk : FVec F S8x2048x512 .f32) : FVec F S8x32x64x4x128 .f32 :=
  Host.reduceWindowAdd ![1, 1, 64, 1, 1] ![1, 1, 1, 1, 1] ![0, 0, 63, 0, 0] ![0, 0, 0, 0, 0]
    (shapeCast S8x32x64x4x128 gk shapeCasts_S8x2048x512_S8x32x64x4x128)
    (broadcastInDim S_ ![] bcast_S_S_ (constant S_ .f32 0x00000000#32))
    reduceWindows_S8x32x64x4x128_S8x32x64x4x128_w1s1p0_0_w1s1p0_0_w64s1p63_0_w1s1p0_0_w1s1p0_0 h_S_

/-- The last running sum of each chunk. -/
def endR (cum : FVec F S8x32x64x4x128 .f32) : FVec F S8x32x4x128 .f32 :=
  shapeCast S8x32x4x128 (extractStridedSlice S8x32x1x4x128 ![0, 0, 63, 0, 0] cum slices_S8x32x64x4x128_S8x32x1x4x128_0_0_63_0_0) shapeCasts_S8x32x1x4x128_S8x32x4x128

/-- A chunk's decay of the state. -/
def decR (cum : FVec F S8x32x64x4x128 .f32) : FVec F S32x8x4x128x1 .f32 :=
  broadcastInDim S32x8x4x128x1 ![0, 1, 2, 3] bcast_S32x8x4x128_S32x8x4x128x1_0_1_2_3
    (transpose S32x8x4x128 [1, 0, 2, 3] (Host.exp (endR cum)) transposes_S8x32x4x128_S32x8x4x128_1_0_2_3)

/-- The projections, as an array over batch, row and lane. -/
def projR (x0 : FVec F S16384x11264 .bf16) : FVec F S8x2048x11264 .f32 :=
  shapeCast S8x2048x11264 (extf .f32 x0 bitsLt_bf16_f32) shapeCasts_S16384x11264_S8x2048x11264

/-- The scaled queries by chunk. -/
def qR (x0 : FVec F S16384x11264 .bf16) : FVec F S8x32x64x4x128 .f32 :=
  mulf (shapeCast S8x32x64x4x128 (extractStridedSlice S8x2048x512 ![0, 0, 0] (projR x0) slices_S8x2048x11264_S8x2048x512_0_0_0) shapeCasts_S8x2048x512_S8x32x64x4x128)
    (broadcastInDim S8x32x64x4x128 ![] bcast_S_S8x32x64x4x128 (constant S_ .f32 0x3DB504F3#32))

/-- The keys by chunk. -/
def kR (x0 : FVec F S16384x11264 .bf16) : FVec F S8x32x64x4x128 .f32 :=
  shapeCast S8x32x64x4x128 (extractStridedSlice S8x2048x512 ![0, 0, 512] (projR x0) slices_S8x2048x11264_S8x2048x512_0_0_512) shapeCasts_S8x2048x512_S8x32x64x4x128

/-- The values by chunk. -/
def vR (x0 : FVec F S16384x11264 .bf16) : FVec F S8x32x64x4x256 .f32 :=
  shapeCast S8x32x64x4x256 (extractStridedSlice S8x2048x1024 ![0, 0, 1024] (projR x0) slices_S8x2048x11264_S8x2048x1024_0_0_1024) shapeCasts_S8x2048x1024_S8x32x64x4x256

/-- The output gates. -/
def gR (x0 : FVec F S16384x11264 .bf16) : FVec F S8x2048x1024 .f32 :=
  extractStridedSlice S8x2048x1024 ![0, 0, 2048] (projR x0) slices_S8x2048x11264_S8x2048x1024_0_0_2048

/-- A chunk's addition to the state. -/
def updR (k : FVec F S8x32x64x4x128 .f32) (v : FVec F S8x32x64x4x256 .f32) (cum : FVec F S8x32x64x4x128 .f32) : FVec F S32x8x4x128x256 .f32 :=
  Host.dotGeneral dot_S8x32x64x4x128_S8x32x64x4x256_S32x8x4x128x256_2_2_4_4_103_103 none
    (mulf k (Host.exp (subf (broadcastInDim S8x32x64x4x128 ![0, 1, 2, 3, 4] bcast_S8x32x1x4x128_S8x32x64x4x128_0_1_2_3_4
      (broadcastInDim S8x32x1x4x128 ![0, 1, 3, 4] bcast_S8x32x4x128_S8x32x1x4x128_0_1_3_4 (endR cum))) cum))) v

/-- The state after each chunk read by the chunk's queries. -/
def readR (dec : FVec F S32x8x4x128x1 .f32) (upd : FVec F S32x8x4x128x256 .f32) (q : FVec F S8x32x64x4x128 .f32) (prev : FVec F S32x8x4x128x256 .f32) : FVec F S8x32x64x4x256 .f32 :=
  transpose S8x32x64x4x256 [0, 1, 4, 2, 3]
    (Host.dotGeneral dot_S32x8x4x128x256_S8x32x64x4x128_S8x32x4x256x64_3_4_4_2_102_013 none
      (addf (mulf (broadcastInDim S32x8x4x128x256 ![0, 1, 2, 3, 4] bcast_S32x8x4x128x1_S32x8x4x128x256_0_1_2_3_4 dec) prev) upd) q)
    transposes_S8x32x4x256x64_S8x32x64x4x256_0_1_4_2_3

/-- The root-mean-square normalisation of each head's 256 lanes, scaled. -/
def normR (o : FVec F S8x32x64x4x256 .f32) (x4 : FVec F S256 .f32) : FVec F S8x32x64x4x256 .f32 :=
  mulf (mulf o (broadcastInDim S8x32x64x4x256 ![0, 1, 2, 3, 4] bcast_S8x32x64x4x1_S8x32x64x4x256_0_1_2_3_4
      (Host.rsqrt (addf (Host.divf (broadcastInDim S8x32x64x4x1 ![0, 1, 2, 3] bcast_S8x32x64x4_S8x32x64x4x1_0_1_2_3
          (Host.reduceAdd (mulf o o) (constant S_ .f32 0x00000000#32) reducesTo_S8x32x64x4x256_S8x32x64x4_d4 h_S_))
          (broadcastInDim S8x32x64x4x1 ![] bcast_S_S8x32x64x4x1 (constant S_ .f32 0x43800000#32)))
        (broadcastInDim S8x32x64x4x1 ![] bcast_S_S8x32x64x4x1 (constant S_ .f32 0x358637BD#32))))))
    (broadcastInDim S8x32x64x4x256 ![0, 1, 2, 3, 4] bcast_S1x1x1x1x256_S8x32x64x4x256_0_1_2_3_4
      (broadcastInDim S1x1x1x1x256 ![4] bcast_S256_S1x1x1x1x256_4 x4))

/-- The gate's activation. -/
def siluR (g : FVec F S8x2048x1024 .f32) : FVec F S8x2048x1024 .f32 :=
  mulf g (Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf g))))

/-- The result: the normalised reading times the activated gate, as rows. -/
def resR (o : FVec F S8x32x64x4x256 .f32) (x4 : FVec F S256 .f32) (g : FVec F S8x2048x1024 .f32) : FVec F S16384x1024 .bf16 :=
  truncf .bf16 (shapeCast S16384x1024 (mulf (shapeCast S8x2048x1024 (normR o x4) shapeCasts_S8x32x64x4x256_S8x2048x1024) (siluR g))
    shapeCasts_S8x2048x1024_S16384x1024) bitsLt_bf16_f32

/-- The lines after the loop, from any contents. -/
theorem post_value (V : Valuation τ sig (Elt F)) :
    afterL postI V (Proc.devRef .tc main_v60)
      = resR (readR (V (Proc.devRef .tc main_v32)) (V (Proc.devRef .tc main_v29)) (V (Proc.devRef .tc main_v17)) (V (Proc.devRef .tc main_v37_4)))
          (V (Proc.devRef .tc main_arg4)) (V (Proc.devRef .tc main_v5)) := by
  simp only [afterL_cons, afterL_nil]
  after_reads_simp
  rfl

variable (c : Dev nD)

/-- The five argument arrays of a memory. -/
abbrev arg0 : FVec F S16384x11264 .bf16 := m ((c.tc : Thread nD τ).loc main_arg0)
abbrev arg1 : FVec F S16384x128 .f32 := m ((c.tc : Thread nD τ).loc main_arg1)
abbrev arg2 : FVec F S16x512 .f32 := m ((c.tc : Thread nD τ).loc main_arg2)
abbrev arg3 : FVec F S512 .f32 := m ((c.tc : Thread nD τ).loc main_arg3)
abbrev arg4 : FVec F S256 .f32 := m ((c.tc : Thread nD τ).loc main_arg4)

theorem entry_v5 : entryContents preI m c (Proc.devRef .tc main_v5) = gR (arg0 m c) := by
  simp only [entryContents, afterL_cons, afterL_nil]
  after_reads_simp
  rfl
theorem entry_v17 : entryContents preI m c (Proc.devRef .tc main_v17) = qR (arg0 m c) := by
  simp only [entryContents, afterL_cons, afterL_nil]
  after_reads_simp
  rfl
theorem entry_v29 : entryContents preI m c (Proc.devRef .tc main_v29) = updR (kR (arg0 m c)) (vR (arg0 m c)) (cumR (gkR (arg1 m c) (arg2 m c) (arg3 m c))) := by
  simp only [entryContents, afterL_cons, afterL_nil]
  after_reads_simp
  rfl
theorem entry_v32 : entryContents preI m c (Proc.devRef .tc main_v32) = decR (cumR (gkR (arg1 m c) (arg2 m c) (arg3 m c))) := by
  simp only [entryContents, afterL_cons, afterL_nil]
  after_reads_simp
  rfl
theorem entry_v37_0 : entryContents preI m c (Proc.devRef .tc main_v37_0) = decR (cumR (gkR (arg1 m c) (arg2 m c) (arg3 m c))) := by
  simp only [entryContents, afterL_cons, afterL_nil]
  after_reads_simp
  rfl
theorem entry_v37_1 : entryContents preI m c (Proc.devRef .tc main_v37_1) = updR (kR (arg0 m c)) (vR (arg0 m c)) (cumR (gkR (arg1 m c) (arg2 m c) (arg3 m c))) := by
  simp only [entryContents, afterL_cons, afterL_nil]
  after_reads_simp
  rfl
theorem entry_v37_3 : entryContents preI m c (Proc.devRef .tc main_v37_3)
    = broadcastInDim S8x4x128x256 ![] bcast_S_S8x4x128x256 (constant S_ .f32 0x00000000#32) := by
  simp only [entryContents, afterL_cons, afterL_nil]
  after_reads_simp
  rfl

end Cert.ReferenceIdeal.Gla

end
-- ==== Proof.GlaState.lean ====
/- The reference's loop over the chunks: the carried state after each trip, and the array of states it collects, index
   by index.  -/
module

public import proofs.«01_k».proof.Proof.GlaRef
public import Idealize.ShloMosaic.Lib.DynamicIndex

@[expose] public section

set_option maxRecDepth 16384

noncomputable section

namespace Cert.ReferenceIdeal.Gla

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI Idealize.SL.Sem

/-- The start of trip `n`'s row. -/
abbrev rowAt (ctr : (⟨S_, .i32⟩ : BufTy).Contents (Elt Ideal)) : Fin 5 → Int :=
  fun k => (((![ctr, constantI S_ 32 0#32, constantI S_ 32 0#32, constantI S_ 32 0#32, constantI S_ 32 0#32] : Fin 5 → (⟨S_, .i32⟩ : BufTy).Contents (Elt Ideal))) k (Shape.Idx.first h_S_)).toInt

theorem rowAt_eq (n : Fin 32) (k : Fin 5) : rowAt (fun _ => Scf.iv 0#32 1#32 n.val) k = ((![n.val, 0, 0, 0, 0] : Fin 5 → ℕ) k : Int) := by
  have e : Scf.iv 0#32 1#32 n.val = BitVec.ofNat 32 n.val := by
    revert n; decide
  unfold rowAt
  fin_cases k
  · show (Scf.iv 0#32 1#32 n.val).toInt = (n.val : Int)
    rw [e]; exact toInt_ofNat_of_lt (by omega)
  all_goals rfl

theorem row_upd (x : FVec Ideal S32x8x4x128x256 .f32) (n : Fin 32) (b : Fin 8) (h : Fin 4) (d : Fin 128) (v : Fin 256) :
    shapeCast S8x4x128x256 (Host.dynamicSlice S1x8x4x128x256 x (rowAt (fun _ => Scf.iv 0#32 1#32 n.val)) sliceFits_S32x8x4x128x256_S1x8x4x128x256) shapeCasts_S1x8x4x128x256_S8x4x128x256 (ix4 b h d v)
      = x (ix5 n b h d v) := by
  rw [Host.dynamicSlice_eq_extractStridedSlice S1x8x4x128x256 x _ ![n.val, 0, 0, 0, 0] _ ⟨rfl, by intro a; fin_cases a <;> simp <;> omega⟩ (rowAt_eq n)]
  pointwise

theorem row_dec (x : FVec Ideal S32x8x4x128x1 .f32) (n : Fin 32) (b : Fin 8) (h : Fin 4) (d : Fin 128) (v : Fin 256) :
    broadcastInDim S8x4x128x256 ![0, 1, 2, 3] bcast_S8x4x128x1_S8x4x128x256_0_1_2_3 (shapeCast S8x4x128x1 (Host.dynamicSlice S1x8x4x128x1 x (rowAt (fun _ => Scf.iv 0#32 1#32 n.val)) sliceFits_S32x8x4x128x1_S1x8x4x128x1) shapeCasts_S1x8x4x128x1_S8x4x128x1) (ix4 b h d v)
      = x (ix5 n b h d 0) := by
  rw [Host.dynamicSlice_eq_extractStridedSlice S1x8x4x128x1 x _ ![n.val, 0, 0, 0, 0] _ ⟨rfl, by intro a; fin_cases a <;> simp <;> omega⟩ (rowAt_eq n)]
  pointwise

theorem row_write (x : FVec Ideal S32x8x4x128x256 .f32) (s : FVec Ideal S8x4x128x256 .f32) (n j : Fin 32) (b : Fin 8) (h : Fin 4) (d : Fin 128) (v : Fin 256) :
    Host.dynamicUpdateSlice x (broadcastInDim S1x8x4x128x256 ![1, 2, 3, 4] bcast_S8x4x128x256_S1x8x4x128x256_1_2_3_4 s)
        (rowAt (fun _ => Scf.iv 0#32 1#32 n.val)) updateFits_S32x8x4x128x256_S1x8x4x128x256 (ix5 j b h d v)
      = if j = n then s (ix4 b h d v) else x (ix5 j b h d v) := by
  have hcl : ∀ a, Host.clampedStart S32x8x4x128x256 S1x8x4x128x256 updateFits_S32x8x4x128x256_S1x8x4x128x256.1 (rowAt (fun _ => Scf.iv 0#32 1#32 n.val)) a
      = (![n.val, 0, 0, 0, 0] : Fin 5 → ℕ) a := fun a =>
    Host.clampedStart_of_le _ _ a _ (rowAt_eq n a) (by fin_cases a <;> simp <;> omega)
  rw [Host.dynamicUpdateSlice_apply]
  by_cases hj : j = n
  · subst hj
    rw [if_pos rfl, dif_pos]
    · show s _ = s _
      congr 1
      funext a
      apply Fin.ext
      fin_cases a
      · show b.val - Host.clampedStart S32x8x4x128x256 S1x8x4x128x256 updateFits_S32x8x4x128x256_S1x8x4x128x256.1 (rowAt (fun _ => Scf.iv 0#32 1#32 j.val)) 1 = b.val
        rw [hcl 1]; rfl
      · show h.val - Host.clampedStart S32x8x4x128x256 S1x8x4x128x256 updateFits_S32x8x4x128x256_S1x8x4x128x256.1 (rowAt (fun _ => Scf.iv 0#32 1#32 j.val)) 2 = h.val
        rw [hcl 2]; rfl
      · show d.val - Host.clampedStart S32x8x4x128x256 S1x8x4x128x256 updateFits_S32x8x4x128x256_S1x8x4x128x256.1 (rowAt (fun _ => Scf.iv 0#32 1#32 j.val)) 3 = d.val
        rw [hcl 3]; rfl
      · show v.val - Host.clampedStart S32x8x4x128x256 S1x8x4x128x256 updateFits_S32x8x4x128x256_S1x8x4x128x256.1 (rowAt (fun _ => Scf.iv 0#32 1#32 j.val)) 4 = v.val
        rw [hcl 4]; rfl
    · intro a
      rw [hcl a]
      fin_cases a <;> simp [ix5]
  · rw [if_neg hj, dif_neg]
    intro hin
    have := hin 0
    rw [hcl 0] at this
    apply hj
    apply Fin.ext
    have h1 : n.val ≤ j.val ∧ j.val < n.val + 1 := this
    omega

/-- The carried state at head `h` of batch `b`, key lane `d`, value lane `v`, before trip `n`: zero, then each chunk's decay
    times it plus the chunk's addition. -/
def stateR (dec : FVec Ideal S32x8x4x128x1 .f32) (upd : FVec Ideal S32x8x4x128x256 .f32) (b : Fin 8) (h : Fin 4) (d : Fin 128) (v : Fin 256) : ℕ → EReal
  | 0 => 0
  | n + 1 => if hn : n < 32 then dec (ix5 ⟨n, hn⟩ b h d 0) * stateR dec upd b h d v n + upd (ix5 ⟨n, hn⟩ b h d v)
      else stateR dec upd b h d v n

variable (m : (ℓ : Loc nD τ sig) → Buf (Elt Ideal) ℓ) (c : Dev nD)

/-- The decays of the run. -/
abbrev decM : FVec Ideal S32x8x4x128x1 .f32 := decR (cumR (gkR (arg1 m c) (arg2 m c) (arg3 m c)))
/-- The additions of the run. -/
abbrev updM : FVec Ideal S32x8x4x128x256 .f32 := updR (kR (arg0 m c)) (vR (arg0 m c)) (cumR (gkR (arg1 m c) (arg2 m c) (arg3 m c)))

theorem atK_dec (n : ℕ) : atK m n c (Proc.devRef .tc main_v37_0) = decM m c :=
  (atK_keep m c main_v37_0 (by decide +kernel) n).trans (entry_v37_0 m c)
theorem atK_upd (n : ℕ) : atK m n c (Proc.devRef .tc main_v37_1) = updM m c :=
  (atK_keep m c main_v37_1 (by decide +kernel) n).trans (entry_v37_1 m c)

/-- Before trip `n` the carried state is `stateR` at `n`. -/
theorem atK_state (b : Fin 8) (h : Fin 4) (d : Fin 128) (v : Fin 256) : ∀ n, n ≤ 32 →
    (atK m n c (Proc.devRef .tc main_v37_3) : FVec Ideal S8x4x128x256 .f32) (ix4 b h d v) = stateR (decM m c) (updM m c) b h d v n
  | 0, _ => by
    rw [show atK m 0 c = entryContents preI m c from rfl, entry_v37_3]
    pointwise [stateR]
  | n + 1, hn => by
    have hn' : n < 32 := hn
    have ih := atK_state b h d v n (by omega)
    rw [show atK m (n + 1) c = afterL bodyI (after condOps (atK m n c)) from rfl, trip_main_v37_3]
    have hk := cond_keeps (atK m n c)
    rw [hk main_v37_0 (by decide), hk main_v37_1 (by decide), hk main_v37_2 (by decide), hk main_v37_3 (by decide), atK_ctr m c n, atK_dec, atK_upd]
    have e1 := row_dec (decM m c) ⟨n, hn'⟩ b h d v
    have e2 := row_upd (updM m c) ⟨n, hn'⟩ b h d v
    rw [stateR, dif_pos hn', ← ih, ← e1, ← e2]
    rfl

/-- Before trip `n` the first `n` rows collected are the states before those trips. -/
theorem atK_rows (j : Fin 32) (b : Fin 8) (h : Fin 4) (d : Fin 128) (v : Fin 256) : ∀ n, n ≤ 32 → j.val < n →
    (atK m n c (Proc.devRef .tc main_v37_4) : FVec Ideal S32x8x4x128x256 .f32) (ix5 j b h d v) = stateR (decM m c) (updM m c) b h d v j
  | 0, _, hj => absurd hj (Nat.not_lt_zero _)
  | n + 1, hn, hj => by
    have hn' : n < 32 := hn
    rw [show atK m (n + 1) c = afterL bodyI (after condOps (atK m n c)) from rfl, trip_main_v37_4]
    have hk := cond_keeps (atK m n c)
    rw [hk main_v37_2 (by decide), hk main_v37_3 (by decide), hk main_v37_4 (by decide), atK_ctr m c n]
    refine (row_write _ _ ⟨n, hn'⟩ j b h d v).trans ?_
    by_cases e : j = ⟨n, hn'⟩
    · rw [if_pos e, atK_state m c b h d v n (by omega), e]
    · rw [if_neg e]
      refine atK_rows j b h d v n (by omega) ?_
      have : j.val ≠ n := fun h' => e (Fin.ext h')
      omega

/-- The array the loop collects: the states before the trips. -/
def prevM : FVec Ideal S32x8x4x128x256 .f32 := fun i => stateR (decM m c) (updM m c) (i 1) (i 2) (i 3) (i 4) (i 0).val

theorem prevM_eq : atK m 32 c (Proc.devRef .tc main_v37_4) = prevM m c := by
  funext i
  rw [eq_ix5 i]
  exact atK_rows m c (i 0) (i 1) (i 2) (i 3) (i 4) 32 le_rfl (i 0).isLt

/-- The result of the reference's run. -/
def resM : FVec Ideal S16384x1024 .bf16 :=
  resR (readR (decM m c) (updM m c) (qR (arg0 m c)) (prevM m c)) (arg4 m c) (gR (arg0 m c))

theorem final_v60 : finalContents condOps preI bodyI postI 32 m c (Proc.devRef .tc main_v60) = resM m c := by
  rw [show finalContents condOps preI bodyI postI 32 m c = afterL postI (after condOps (atK m 32 c)) from rfl, post_value]
  have kc : ∀ r : Ref sig .tc, r ∉ condOps_W → after condOps (atK m 32 c) (Proc.devRef .tc r) = atK m 32 c (Proc.devRef .tc r) :=
    fun r h => after_of_writes_sub _ _ condOps_writes h
  rw [kc main_v32 (by decide +kernel), kc main_v29 (by decide +kernel), kc main_v17 (by decide +kernel), kc main_v37_4 (by decide +kernel),
    kc main_arg4 (by decide +kernel), kc main_v5 (by decide +kernel), prevM_eq,
    atK_keep m c main_v32 (by decide +kernel), atK_keep m c main_v29 (by decide +kernel), atK_keep m c main_v17 (by decide +kernel),
    atK_keep m c main_arg4 (by decide +kernel), atK_keep m c main_v5 (by decide +kernel),
    entry_v32, entry_v29, entry_v17, entry_v5, entry_keep m c main_arg4 (by decide +kernel)]
  rfl

/-- The reference's run: its result is `resM` and its arguments are kept. -/
theorem ref_run (ρ : Dev nD → PrngReg) : θ_run (defs (F := Ideal)) (onTc (τ := τ) (main (F := Ideal))) ⟨m, fun _ => 0, ρ⟩ (fun r =>
    ∀ c : Dev nD, r.2.mem ((c.tc : Thread nD τ).loc main_v60) = resM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c main_v60 rfl).trans (final_v60 m c), h.2.1 c⟩)
    (θ_run_and (run_fold m ρ) (ref_frame m ρ))

end Cert.ReferenceIdeal.Gla

end
-- ==== Proof.GlaMath.lean ====
/- Facts about extended reals: the logarithm of a gate, sums, and windows of a running sum.  -/
module

public import proofs.«01_k».proof.Proof.GlaState
public import Idealize.ShloMosaic.Lib.Pointwise

@[expose] public section

set_option maxRecDepth 16384

noncomputable section

namespace Cert.GlaMath

open Idealize.ShloMosaic

/-! ### The literals -/

theorem lit_16 : Ideal.ofBits FTy.f32 1098907648#32 = ((16 : ℝ) : EReal) := by
  simp [Ideal.ofBits, Ideal.ieee, -EReal.coe_mul]; norm_num

theorem lit_16th : Ideal.ofBits FTy.f32 1031798784#32 = ((1 / 16 : ℝ) : EReal) := by
  simp [Ideal.ofBits, Ideal.ieee, -EReal.coe_mul]; norm_num

theorem lit_scale : ∃ r : ℝ, 0 ≤ r ∧ Ideal.ofBits FTy.f32 1035273459#32 = (r : EReal) := by
  refine ⟨(2 ^ 23 + (1035273459 % 2 ^ 23 : ℕ) : ℝ) * 2 ^ (123 - 127 - 23 : ℤ), by positivity, ?_⟩
  simp [Ideal.ofBits, Ideal.ieee, -EReal.coe_mul]; norm_num

/-! ### The logarithm of a gate -/

theorem one_add_top : (1 : EReal) + ⊤ = ⊤ := EReal.coe_add_top 1

theorem log_one : Ideal.log 1 = 0 := by
  have h : Ideal.log ((1 : ℝ) : EReal) = 0 := by rw [Ideal.log_coe, if_neg (by norm_num), Real.log_one]; rfl
  exact h

theorem log_one_add_exp_ne_bot (y : EReal) : Ideal.log (1 + Ideal.exp y) ≠ ⊥ := by
  induction y with
  | bot => simp [log_one]
  | top => simp [one_add_top]
  | coe r =>
    have h : (1 : EReal) + ((Real.exp r : ℝ) : EReal) = ((1 + Real.exp r : ℝ) : EReal) := by push_cast; rfl
    have hp : ¬ (1 + Real.exp r ≤ 0) := not_le.2 (by positivity)
    rw [Ideal.exp_coe, h, Ideal.log_coe, if_neg hp]
    exact EReal.coe_ne_bot _

theorem log_one_add_exp_nonneg (y : EReal) : 0 ≤ Ideal.log (1 + Ideal.exp y) := by
  induction y with
  | bot => simp [log_one]
  | top => simp [one_add_top]
  | coe r =>
    have h : (1 : EReal) + ((Real.exp r : ℝ) : EReal) = ((1 + Real.exp r : ℝ) : EReal) := by push_cast; rfl
    have hp : ¬ (1 + Real.exp r ≤ 0) := not_le.2 (by positivity)
    rw [Ideal.exp_coe, h, Ideal.log_coe, if_neg hp]
    exact_mod_cast Real.log_nonneg (by linarith [Real.exp_pos r])

/-- A sixteenth of the logarithm of the logistic function of `x`. -/
def gateLog (x : EReal) : EReal := (min x 0 - Ideal.log (1 + Ideal.exp (-max x (-x)))) * ((1 / 16 : ℝ) : EReal)

theorem gateLog_ne_top (x : EReal) : gateLog x ≠ ⊤ := by
  have h : min x 0 - Ideal.log (1 + Ideal.exp (-max x (-x))) ≤ 0 := by
    rw [sub_eq_add_neg]
    refine add_nonpos (min_le_right _ _) ?_
    rw [EReal.neg_le, neg_zero]
    exact log_one_add_exp_nonneg _
  refine ne_of_lt (lt_of_le_of_lt (mul_nonpos_of_nonpos_of_nonneg h ?_) EReal.zero_lt_top)
  exact_mod_cast (by norm_num : (0 : ℝ) ≤ 1 / 16)

/-- The reference's form of it. -/
theorem gateLog_ref (x : EReal) :
    Ideal.div (-(max (-x) 0 + Ideal.log (1 + Ideal.exp (-max (-x) (- -x))))) ((16 : ℝ) : EReal) = gateLog x := by
  rw [Ideal.div_coe (by norm_num), gateLog, neg_neg, max_comm (-x) x,
    EReal.neg_add (Or.inl (ne_of_gt (lt_of_lt_of_le EReal.bot_lt_zero (le_max_right _ _)))) (Or.inr (log_one_add_exp_ne_bot _))]
  have hm : -max (-x) 0 = min x 0 := by
    rcases le_total x 0 with h | h
    · rw [max_eq_left (by rw [EReal.le_neg, neg_zero]; exact h), min_eq_left h, neg_neg]
    · rw [max_eq_right (by rw [EReal.neg_le, neg_zero]; exact h), min_eq_right h, neg_zero]
  rw [hm]

/-! ### Sums -/

/-- A sum whose terms are not `⊤` is not `⊤`. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self _ _)) (ih fun i hi => h i (Finset.mem_insert_of_mem hi))

/-- The sum of the remainders `f - f` adds nothing to the sum of `f`, where no term is `⊤`: a term `⊥` makes both sums `⊥`. -/
theorem sum_split {ι : Type} (s : Finset ι) (f : ι → EReal) (h : ∀ i ∈ s, f i ≠ ⊤) :
    ∑ i ∈ s, f i + ∑ i ∈ s, (f i - f i) = ∑ i ∈ s, f i := by
  classical
  induction s using Finset.induction_on with
  | empty => simp
  | insert a s ha ih =>
    rw [Finset.sum_insert ha, Finset.sum_insert ha, add_add_add_comm, ih fun i hi => h i (Finset.mem_insert_of_mem hi)]
    congr 1
    have hat := h a (Finset.mem_insert_self _ _)
    induction hx : f a with
    | bot => simp
    | top => exact absurd hx hat
    | coe r => rw [← EReal.coe_sub, sub_self, EReal.coe_zero, add_zero]

/-- A factor that is a nonnegative real goes into a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem sub_self_of_finite {x : EReal} (h : max x (-x) < ⊤) : x - x = 0 := by
  induction x with
  | bot => simp at h
  | top => simp at h
  | coe r => rw [← EReal.coe_sub, sub_self, EReal.coe_zero]

/-- A sum over `a + b` indices whose last `b` terms vanish. -/
theorem sum_pad {a b : ℕ} (f : Fin (a + b) → EReal) (h : ∀ i : Fin b, f (Fin.natAdd a i) = 0) :
    ∑ i, f i = ∑ i : Fin a, f (Fin.castAdd b i) := by
  rw [Fin.sum_univ_add, Finset.sum_eq_zero (s := Finset.univ) (f := fun i : Fin b => f (Fin.natAdd a i)) fun i _ => h i, add_zero]

/-! ### Running sums -/

theorem foldl_add {N : ℕ} (f : Fin N → EReal) (g : EReal → Fin N → EReal) (hg : ∀ r n, g r n = r + f n) :
    (List.finRange N).foldl g 0 = ∑ n, f n := by
  have : ∀ (l : List (Fin N)) (z : EReal), l.foldl g z = z + (l.map f).sum := by
    intro l
    induction l with
    | nil => intro z; simp
    | cons a l ih => intro z; rw [List.foldl_cons, ih, hg, List.map_cons, List.sum_cons, add_assoc]
  rw [this, zero_add, Fin.sum_univ_def]

/-- A window of 64 rows ending at row `r`, the rows before the first left out, is the rows up to `r`. -/
theorem sum_window {N : ℕ} (hN : N = 64) (r : Fin 64) (f : ℕ → EReal) :
    (∑ n : Fin N, if 63 ≤ r.val + n.val then f (r.val + n.val - 63) else 0) = ∑ x : Fin 64, if x ≤ r then f x.val else 0 := by
  subst hN
  rw [← Finset.sum_filter, ← Finset.sum_filter]
  refine Finset.sum_bij' (fun n hn => ⟨r.val + n.val - 63, by have := n.isLt; have := r.isLt; omega⟩)
    (fun x hx => ⟨(x.val + 63 - r.val) % 64, Nat.mod_lt _ (by decide)⟩) ?_ ?_ ?_ ?_ ?_
  · intro n hn
    have h := (Finset.mem_filter.1 hn).2
    refine Finset.mem_filter.2 ⟨Finset.mem_univ _, ?_⟩
    rw [Fin.le_def]
    have := n.isLt
    show r.val + n.val - 63 ≤ r.val
    omega
  · intro x hx
    have h := Fin.le_def.1 (Finset.mem_filter.1 hx).2
    refine Finset.mem_filter.2 ⟨Finset.mem_univ _, ?_⟩
    have := r.isLt
    show 63 ≤ r.val + (x.val + 63 - r.val) % 64
    omega
  · intro n hn
    have h := (Finset.mem_filter.1 hn).2
    have := n.isLt
    have := r.isLt
    refine Fin.ext ?_
    show (r.val + n.val - 63 + 63 - r.val) % 64 = n.val
    omega
  · intro x hx
    have h := Fin.le_def.1 (Finset.mem_filter.1 hx).2
    have := x.isLt
    have := r.isLt
    refine Fin.ext ?_
    show r.val + (x.val + 63 - r.val) % 64 - 63 = x.val
    omega
  · intro n hn
    rfl

end Cert.GlaMath
-- ==== Proof.GlaCum.lean ====
/- The reference's running sums within a chunk, as sums over the rows up to and including one.  -/
module

public import proofs.«01_k».proof.Proof.GlaMath
public import Idealize.ShloMosaic.Lib.Pointwise

@[expose] public section

set_option maxRecDepth 16384

noncomputable section

namespace Cert.ReferenceIdeal.Gla

open Cert.ReferenceIdeal Cert.ReferenceIdeal.Gen Cert.ReferenceIdeal.Value
open Idealize.ShloMosaic Idealize.ShloMosaic.TcCoe Idealize.ShloMosaic.StableHlo
open Cert.GlaMath

/-- The window of the running sums. -/
abbrev winS : Shape := ⟨5, ![1, 1, 64, 1, 1]⟩

theorem winS_numel : winS.numel = 64 := by decide +kernel

theorem winS_symm : ∀ (n : Fin winS.numel) (a : Fin 5), (winS.rowMajor.symm n a).val = (![0, 0, n.val, 0, 0] : Fin 5 → ℕ) a := by
  intro n a
  have h := Shape.rowMajor_val_five (winS.rowMajor.symm n)
  rw [Equiv.apply_symm_apply] at h
  have h0 : (winS.rowMajor.symm n 0).val < 1 := (winS.rowMajor.symm n 0).isLt
  have h1 : (winS.rowMajor.symm n 1).val < 1 := (winS.rowMajor.symm n 1).isLt
  have h3 : (winS.rowMajor.symm n 3).val < 1 := (winS.rowMajor.symm n 3).isLt
  have h4 : (winS.rowMajor.symm n 4).val < 1 := (winS.rowMajor.symm n 4).isLt
  have e1 : (![1, 1, 64, 1, 1] : Fin 5 → ℕ) 1 = 1 := rfl
  have e2 : (![1, 1, 64, 1, 1] : Fin 5 → ℕ) 2 = 64 := rfl
  have e3 : (![1, 1, 64, 1, 1] : Fin 5 → ℕ) 3 = 1 := rfl
  have e4 : (![1, 1, 64, 1, 1] : Fin 5 → ℕ) 4 = 1 := rfl
  rw [e1, e2, e3, e4] at h
  match a with
  | ⟨0, _⟩ => show (winS.rowMajor.symm n 0).val = 0; omega
  | ⟨1, _⟩ => show (winS.rowMajor.symm n 1).val = 0; omega
  | ⟨2, _⟩ => show (winS.rowMajor.symm n 2).val = n.val; omega
  | ⟨3, _⟩ => show (winS.rowMajor.symm n 3).val = 0; omega
  | ⟨4, _⟩ => show (winS.rowMajor.symm n 4).val = 0; omega

theorem gk_chunk (gk : FVec Ideal S8x2048x512 .f32) (b : Fin 8) (n : Fin 32) (r : Fin 64) (h : Fin 4) (d : Fin 128) :
    shapeCast S8x32x64x4x128 gk shapeCasts_S8x2048x512_S8x32x64x4x128 (ix5 b n r h d)
      = gk (ix3 b ⟨n.val * 64 + r.val, by omega⟩ ⟨h.val * 128 + d.val, by omega⟩) := by
  pointwise

theorem cumR_at (gk : FVec Ideal S8x2048x512 .f32) (b : Fin 8) (n : Fin 32) (r : Fin 64) (h : Fin 4) (d : Fin 128) :
    cumR gk (ix5 b n r h d) = ∑ x : Fin 64, if x ≤ r then gk (ix3 b ⟨n.val * 64 + x.val, by omega⟩ ⟨h.val * 128 + d.val, by omega⟩) else 0 := by
  unfold cumR Host.reduceWindowAdd
  rw [Ideal.hostReduceWindowAdd_def]
  unfold Ideal.hostReduceWindowAdd Host.reduceWindow
  let F : ℕ → EReal := fun y => if hy : y < 64 then gk (ix3 b ⟨n.val * 64 + y, by omega⟩ ⟨h.val * 128 + d.val, by omega⟩) else 0
  have hz : (broadcastInDim S_ ![] bcast_S_S_ (constant (F := Ideal) S_ .f32 0x00000000#32)) (Shape.Idx.first h_S_) = (0 : EReal) :=
    Ideal.ofBits_zero_f32
  dsimp only
  rw [hz]
  refine (foldl_add (fun w : Fin winS.numel => if 63 ≤ r.val + w.val then F (r.val + w.val - 63) else 0) _ fun z w => ?_).trans ?_
  · have hw : w.val < 64 := lt_of_lt_of_eq w.isLt winS_numel
    congr 1
    split
    · next hin =>
      have h2 := hin 2
      change 63 ≤ r.val * 1 + (winS.rowMajor.symm w 2).val ∧ r.val * 1 + (winS.rowMajor.symm w 2).val - 63 < 64 at h2
      rw [winS_symm w 2] at h2
      change 63 ≤ r.val * 1 + w.val ∧ r.val * 1 + w.val - 63 < 64 at h2
      rw [if_pos (by omega), show F (r.val + w.val - 63) = _ from dif_pos (by omega), ← gk_chunk gk b n ⟨r.val + w.val - 63, by omega⟩ h d]
      congr 1
      funext a
      refine Fin.ext ?_
      match a with
      | ⟨0, _⟩ => show b.val * 1 + (winS.rowMajor.symm w 0).val - 0 = b.val; rw [winS_symm w 0]; show b.val * 1 + 0 - 0 = b.val; omega
      | ⟨1, _⟩ => show n.val * 1 + (winS.rowMajor.symm w 1).val - 0 = n.val; rw [winS_symm w 1]; show n.val * 1 + 0 - 0 = n.val; omega
      | ⟨2, _⟩ => show r.val * 1 + (winS.rowMajor.symm w 2).val - 63 = r.val + w.val - 63; rw [winS_symm w 2]; show r.val * 1 + w.val - 63 = r.val + w.val - 63; omega
      | ⟨3, _⟩ => show h.val * 1 + (winS.rowMajor.symm w 3).val - 0 = h.val; rw [winS_symm w 3]; show h.val * 1 + 0 - 0 = h.val; omega
      | ⟨4, _⟩ => show d.val * 1 + (winS.rowMajor.symm w 4).val - 0 = d.val; rw [winS_symm w 4]; show d.val * 1 + 0 - 0 = d.val; omega
    · next hin =>
      rw [if_neg]
      intro hle
      refine hin fun a => ?_
      match a with
      | ⟨0, _⟩ =>
        show 0 ≤ b.val * 1 + (winS.rowMajor.symm w 0).val ∧ b.val * 1 + (winS.rowMajor.symm w 0).val - 0 < 8
        rw [winS_symm w 0]; show 0 ≤ b.val * 1 + 0 ∧ b.val * 1 + 0 - 0 < 8; omega
      | ⟨1, _⟩ =>
        show 0 ≤ n.val * 1 + (winS.rowMajor.symm w 1).val ∧ n.val * 1 + (winS.rowMajor.symm w 1).val - 0 < 32
        rw [winS_symm w 1]; show 0 ≤ n.val * 1 + 0 ∧ n.val * 1 + 0 - 0 < 32; omega
      | ⟨2, _⟩ =>
        show 63 ≤ r.val * 1 + (winS.rowMajor.symm w 2).val ∧ r.val * 1 + (winS.rowMajor.symm w 2).val - 63 < 64
        rw [winS_symm w 2]; show 63 ≤ r.val * 1 + w.val ∧ r.val * 1 + w.val - 63 < 64; omega
      | ⟨3, _⟩ =>
        show 0 ≤ h.val * 1 + (winS.rowMajor.symm w 3).val ∧ h.val * 1 + (winS.rowMajor.symm w 3).val - 0 < 4
        rw [winS_symm w 3]; show 0 ≤ h.val * 1 + 0 ∧ h.val * 1 + 0 - 0 < 4; omega
      | ⟨4, _⟩ =>
        show 0 ≤ d.val * 1 + (winS.rowMajor.symm w 4).val ∧ d.val * 1 + (winS.rowMajor.symm w 4).val - 0 < 128
        rw [winS_symm w 4]; show 0 ≤ d.val * 1 + 0 ∧ d.val * 1 + 0 - 0 < 128; omega
  · refine (sum_window winS_numel r F).trans (Finset.sum_congr rfl fun x _ => ?_)
    rw [show F x.val = _ from dif_pos x.isLt]

end Cert.ReferenceIdeal.Gla
-- ==== Proof.GlaSpec.lean ====
/- The layer in plain sums: gated linear attention by chunks of 64 rows; and the reference's result, index by index.  -/
module

public import proofs.«01_k».proof.Proof.GlaCum
public import Idealize.ShloMosaic.Lib.Pointwise

@[expose] public section

set_option maxRecDepth 16384

noncomputable section

namespace Cert.GlaSpec

open Idealize.ShloMosaic
open Cert.GlaMath

/-! ### One head of one batch entry -/

/-- The running sum of the gates' logarithms up to row `i` of chunk `n`. -/
def cumS (G : Fin 32 → Fin 64 → Fin 128 → EReal) (n : Fin 32) (i : Fin 64) (d : Fin 128) : EReal :=
  ∑ x : Fin 64, if x ≤ i then G n x d else 0

/-- What chunk `n` adds to the state. -/
def updS (G K : Fin 32 → Fin 64 → Fin 128 → EReal) (V : Fin 32 → Fin 64 → Fin 256 → EReal) (n : Fin 32) (d : Fin 128) (w : Fin 256) : EReal :=
  ∑ x : Fin 64, K n x d * Ideal.exp (cumS G n 63 d - cumS G n x d) * V n x w

/-- The state after the first `n` chunks. -/
def stS (G K : Fin 32 → Fin 64 → Fin 128 → EReal) (V : Fin 32 → Fin 64 → Fin 256 → EReal) (d : Fin 128) (w : Fin 256) : ℕ → EReal
  | 0 => 0
  | n + 1 => if hn : n < 32 then Ideal.exp (cumS G ⟨n, hn⟩ 63 d) * stS G K V d w n + updS G K V ⟨n, hn⟩ d w else stS G K V d w n

/-- The scale of the queries. -/
abbrev scale : EReal := Ideal.ofBits FTy.f32 1035273459#32

/-- The state after chunk `n` read by the query of its row `i`. -/
def readS (G K : Fin 32 → Fin 64 → Fin 128 → EReal) (V : Fin 32 → Fin 64 → Fin 256 → EReal) (Q : Fin 32 → Fin 64 → Fin 128 → EReal)
    (n : Fin 32) (i : Fin 64) (w : Fin 256) : EReal :=
  ∑ d : Fin 128, stS G K V d w (n.val + 1) * (Q n i d * scale)

/-- The group norm over a head's 256 lanes, times the gate's `g * logistic g`. -/
def outS (o : Fin 256 → EReal) (ng : Fin 256 → EReal) (g : EReal) (w : Fin 256) : EReal :=
  o w * Ideal.rsqrt (Ideal.div (∑ x, o x * o x) (Ideal.ofBits FTy.f32 1132462080#32) + Ideal.ofBits FTy.f32 897988541#32) * ng w
    * (g * Ideal.div 1 (1 + Ideal.exp (-g)))

/-! ### The arrays -/

abbrev rowOf (b : Fin 8) (n : Fin 32) (i : Fin 64) : Fin 16384 := ⟨b.val * 2048 + (n.val * 64 + i.val), by omega⟩
abbrev laneK (h : Fin 4) (d : Fin 128) : Fin 512 := ⟨h.val * 128 + d.val, by omega⟩
abbrev laneV (h : Fin 4) (w : Fin 256) : Fin 1024 := ⟨h.val * 256 + w.val, by omega⟩

variable (x0 : Vec Ideal ⟨2, ![16384, 11264]⟩ .bf16) (x1 : Vec Ideal ⟨2, ![16384, 128]⟩ .f32) (x2 : Vec Ideal ⟨2, ![16, 512]⟩ .f32)
  (x3 : Vec Ideal ⟨1, ![512]⟩ .f32) (x4 : Vec Ideal ⟨1, ![256]⟩ .f32)

/-- What a gate's logarithm is taken of. -/
def gateIn (row : Fin 16384) (l : Fin 512) : EReal :=
  ∑ x : Fin 16, x1 (ix2 row ⟨x.val, by omega⟩) * x2 (ix2 x l) + x3 (ix1 l)

def gS (b : Fin 8) (h : Fin 4) (n : Fin 32) (i : Fin 64) (d : Fin 128) : EReal := gateLog (gateIn x1 x2 x3 (rowOf b n i) (laneK h d))
def qS (b : Fin 8) (h : Fin 4) (n : Fin 32) (i : Fin 64) (d : Fin 128) : EReal := x0 (ix2 (rowOf b n i) ⟨h.val * 128 + d.val, by omega⟩)
def kS (b : Fin 8) (h : Fin 4) (n : Fin 32) (i : Fin 64) (d : Fin 128) : EReal := x0 (ix2 (rowOf b n i) ⟨512 + (h.val * 128 + d.val), by omega⟩)
def vS (b : Fin 8) (h : Fin 4) (n : Fin 32) (i : Fin 64) (w : Fin 256) : EReal := x0 (ix2 (rowOf b n i) ⟨1024 + (h.val * 256 + w.val), by omega⟩)

/-- The layer's result at row `(b, n, i)` and lane `(h, w)`. -/
def specAt (b : Fin 8) (h : Fin 4) (n : Fin 32) (i : Fin 64) (w : Fin 256) : EReal :=
  outS (readS (gS x1 x2 x3 b h) (kS x0 b h) (vS x0 b h) (qS x0 b h) n i) (fun w => x4 (ix1 w)) (x0 (ix2 (rowOf b n i) ⟨2048 + (h.val * 256 + w.val), by omega⟩)) w

/-- The layer's result. -/
def spec : Vec Ideal ⟨2, ![16384, 1024]⟩ .bf16 := fun j =>
  specAt x0 x1 x2 x3 x4 ⟨(j 0).val / 2048, by have := (j 0).isLt; change (j 0).val < 16384 at this; omega⟩ ⟨(j 1).val / 256, by have := (j 1).isLt; change (j 1).val < 1024 at this; omega⟩
    ⟨(j 0).val % 2048 / 64, by omega⟩ ⟨(j 0).val % 2048 % 64, by omega⟩ ⟨(j 1).val % 256, by omega⟩

end Cert.GlaSpec

namespace Cert.ReferenceIdeal.Gla

open Cert.ReferenceIdeal Cert.ReferenceIdeal.Gen Cert.ReferenceIdeal.Value
open Idealize.ShloMosaic Idealize.ShloMosaic.TcCoe Idealize.ShloMosaic.StableHlo
open Cert.GlaMath Cert.GlaSpec

theorem gkR_at (x1 : FVec Ideal S16384x128 .f32) (x2 : FVec Ideal S16x512 .f32) (x3 : FVec Ideal S512 .f32) (b : Fin 8) (h : Fin 4) (n : Fin 32) (i : Fin 64) (d : Fin 128) :
    gkR x1 x2 x3 (ix3 b ⟨n.val * 64 + i.val, by omega⟩ (laneK h d)) = gS x1 x2 x3 b h n i d := by
  pointwise [gkR, lsigR]
  rw [if_neg (by simp), lit_16]
  exact gateLog_ref _

theorem cumR_spec (x1 : FVec Ideal S16384x128 .f32) (x2 : FVec Ideal S16x512 .f32) (x3 : FVec Ideal S512 .f32) (b : Fin 8) (h : Fin 4) (n : Fin 32) (i : Fin 64) (d : Fin 128) :
    cumR (gkR x1 x2 x3) (ix5 b n i h d) = cumS (gS x1 x2 x3 b h) n i d := by
  rw [cumR_at]
  refine Finset.sum_congr rfl fun x _ => ?_
  rw [gkR_at]

theorem decR_at (cum : FVec Ideal S8x32x64x4x128 .f32) (n : Fin 32) (b : Fin 8) (h : Fin 4) (d : Fin 128) :
    decR cum (ix5 n b h d 0) = Ideal.exp (cum (ix5 b n 63 h d)) := by
  pointwise [decR, endR]

theorem updR_at (k : FVec Ideal S8x32x64x4x128 .f32) (v : FVec Ideal S8x32x64x4x256 .f32) (cum : FVec Ideal S8x32x64x4x128 .f32)
    (n : Fin 32) (b : Fin 8) (h : Fin 4) (d : Fin 128) (w : Fin 256) :
    updR k v cum (ix5 n b h d w) = ∑ x : Fin 64, k (ix5 b n x h d) * Ideal.exp (cum (ix5 b n 63 h d) - cum (ix5 b n x h d)) * v (ix5 b n x h w) := by
  pointwise [updR, endR]

theorem kR_at (x0 : FVec Ideal S16384x11264 .bf16) (b : Fin 8) (n : Fin 32) (i : Fin 64) (h : Fin 4) (d : Fin 128) :
    kR x0 (ix5 b n i h d) = kS x0 b h n i d := by
  pointwise [kR, projR, kS]

theorem qR_at (x0 : FVec Ideal S16384x11264 .bf16) (b : Fin 8) (n : Fin 32) (i : Fin 64) (h : Fin 4) (d : Fin 128) :
    qR x0 (ix5 b n i h d) = qS x0 b h n i d * scale := by
  pointwise [qR, projR, qS]

theorem vR_at (x0 : FVec Ideal S16384x11264 .bf16) (b : Fin 8) (n : Fin 32) (i : Fin 64) (h : Fin 4) (w : Fin 256) :
    vR x0 (ix5 b n i h w) = vS x0 b h n i w := by
  pointwise [vR, projR, vS]

theorem gR_at (x0 : FVec Ideal S16384x11264 .bf16) (b : Fin 8) (r : Fin 2048) (w : Fin 1024) :
    gR x0 (ix3 b r w) = x0 (ix2 ⟨b.val * 2048 + r.val, by omega⟩ ⟨2048 + w.val, by omega⟩) := by
  pointwise [gR, projR]

variable (m : (ℓ : Loc nD τ sig) → Buf (Elt Ideal) ℓ) (c : Dev nD)

theorem decM_at (n : Fin 32) (b : Fin 8) (h : Fin 4) (d : Fin 128) :
    decM m c (ix5 n b h d 0) = Ideal.exp (cumS (gS (arg1 m c) (arg2 m c) (arg3 m c) b h) n 63 d) := by
  rw [decM, decR_at, cumR_spec]

theorem updM_at (n : Fin 32) (b : Fin 8) (h : Fin 4) (d : Fin 128) (w : Fin 256) :
    updM m c (ix5 n b h d w) = updS (gS (arg1 m c) (arg2 m c) (arg3 m c) b h) (kS (arg0 m c) b h) (vS (arg0 m c) b h) n d w := by
  rw [updM, updR_at, updS]
  refine Finset.sum_congr rfl fun x _ => ?_
  rw [kR_at, vR_at, cumR_spec, cumR_spec]

theorem stateR_spec (b : Fin 8) (h : Fin 4) (d : Fin 128) (w : Fin 256) : ∀ n : ℕ,
    stateR (decM m c) (updM m c) b h d w n = stS (gS (arg1 m c) (arg2 m c) (arg3 m c) b h) (kS (arg0 m c) b h) (vS (arg0 m c) b h) d w n := by
  intro n
  induction n with
  | zero => rfl
  | succ n ih =>
    rw [stateR, stS, ih]
    split
    · next hn => rw [decM_at, updM_at]
    · rfl

/-- The reads of the states. -/
abbrev oM : FVec Ideal S8x32x64x4x256 .f32 := readR (decM m c) (updM m c) (qR (arg0 m c)) (prevM m c)

theorem readR_at (dec : FVec Ideal S32x8x4x128x1 .f32) (upd : FVec Ideal S32x8x4x128x256 .f32) (q : FVec Ideal S8x32x64x4x128 .f32) (prev : FVec Ideal S32x8x4x128x256 .f32)
    (b : Fin 8) (n : Fin 32) (i : Fin 64) (h : Fin 4) (w : Fin 256) :
    readR dec upd q prev (ix5 b n i h w) = ∑ x : Fin 128, (dec (ix5 n b h x 0) * prev (ix5 n b h x w) + upd (ix5 n b h x w)) * q (ix5 b n i h x) := by
  pointwise [readR]

theorem oM_at (b : Fin 8) (n : Fin 32) (i : Fin 64) (h : Fin 4) (w : Fin 256) :
    oM m c (ix5 b n i h w) = readS (gS (arg1 m c) (arg2 m c) (arg3 m c) b h) (kS (arg0 m c) b h) (vS (arg0 m c) b h) (qS (arg0 m c) b h) n i w := by
  rw [oM, readR_at, readS]
  refine Finset.sum_congr rfl fun x _ => ?_
  rw [qR_at]
  congr 1
  rw [show prevM m c (ix5 n b h x w) = stateR (decM m c) (updM m c) b h x w n.val from rfl, stateR_spec, stS, dif_pos n.isLt, decM_at, updM_at]

theorem normR_at (o : FVec Ideal S8x32x64x4x256 .f32) (x4 : FVec Ideal S256 .f32) (b : Fin 8) (n : Fin 32) (i : Fin 64) (h : Fin 4) (w : Fin 256) :
    normR o x4 (ix5 b n i h w) = o (ix5 b n i h w) * Ideal.rsqrt (Ideal.div (∑ x, o (ix5 b n i h x) * o (ix5 b n i h x)) (Ideal.ofBits FTy.f32 1132462080#32) + Ideal.ofBits FTy.f32 897988541#32) * x4 (ix1 w) := by
  pointwise [normR]

theorem resR_at (o : FVec Ideal S8x32x64x4x256 .f32) (x4 : FVec Ideal S256 .f32) (g : FVec Ideal S8x2048x1024 .f32) (r : Fin 16384) (w : Fin 1024) :
    resR o x4 g (ix2 r w) = normR o x4 (ix5 ⟨r.val / 2048, by omega⟩ ⟨r.val % 2048 / 64, by omega⟩ ⟨r.val % 2048 % 64, by omega⟩ ⟨w.val / 256, by omega⟩ ⟨w.val % 256, by omega⟩)
      * (g (ix3 ⟨r.val / 2048, by omega⟩ ⟨r.val % 2048, by omega⟩ w) * Ideal.div 1 (1 + Ideal.exp (-g (ix3 ⟨r.val / 2048, by omega⟩ ⟨r.val % 2048, by omega⟩ w)))) := by
  pointwise [resR, siluR]

/-- **The reference's result is the layer's.** -/
theorem resM_spec : resM m c = spec (arg0 m c) (arg1 m c) (arg2 m c) (arg3 m c) (arg4 m c) := by
  funext j
  obtain ⟨r, w, rfl⟩ : ∃ (r : Fin 16384) (w : Fin 1024), j = ix2 r w := ⟨j 0, j 1, eq_ix2 j⟩
  rw [resM, resR_at, normR_at, gR_at]
  show _ = specAt (arg0 m c) (arg1 m c) (arg2 m c) (arg3 m c) (arg4 m c) ⟨r.val / 2048, by omega⟩ ⟨w.val / 256, by omega⟩ ⟨r.val % 2048 / 64, by omega⟩ ⟨r.val % 2048 % 64, by omega⟩ ⟨w.val % 256, by omega⟩
  rw [specAt, outS]
  have hg : ∀ (p : _) (q : _), (ix2 (⟨r.val / 2048 * 2048 + r.val % 2048, p⟩ : Fin 16384) (⟨2048 + w.val, q⟩ : Fin 11264) : S16384x11264.Idx)
      = ix2 (rowOf ⟨r.val / 2048, by omega⟩ ⟨r.val % 2048 / 64, by omega⟩ ⟨r.val % 2048 % 64, by omega⟩) ⟨2048 + (w.val / 256 * 256 + w.val % 256), by omega⟩ := by
    intro p q
    refine congrArg₂ ix2 (Fin.ext ?_) (Fin.ext ?_)
    · show r.val / 2048 * 2048 + r.val % 2048 = r.val / 2048 * 2048 + (r.val % 2048 / 64 * 64 + r.val % 2048 % 64); omega
    · show 2048 + w.val = 2048 + (w.val / 256 * 256 + w.val % 256); omega
  simp only [← oM_at]
  rw [hg]

end Cert.ReferenceIdeal.Gla
-- ==== Proof.GlaKer.lean ====
/- The kernel's block: its chunks' states and rows are the layer's, where the block's gates are.  -/
module

public import proofs.«01_k».proof.Proof.GlaSpec
public import Idealize.ShloMosaic.Lib.Pointwise

@[expose] public section

set_option maxRecDepth 16384

noncomputable section

namespace Cert.KernelIdeal.Gla

open Cert.KernelIdeal Cert.KernelIdeal.Gen
open Idealize.ShloMosaic Idealize.ShloMosaic.TcCoe
open Cert.GlaMath Cert.GlaSpec

theorem rowsA_at {e : EltTy} (x : Vec Ideal S2048x128 e) (k : Fin k0_t1_loop.trips) (i : Fin 64) (d : Fin 128) :
    rowsA x k (ix2 i d) = x (ix2 ⟨64 * k.val + i.val, by have h := lt_of_lt_of_eq k.isLt trips_eq; omega⟩ d) := by
  have e := k0_off1_eq k
  refine congrArg x (funext fun a => Fin.ext ?_)
  match a with
  | ⟨0, _⟩ => show k0_off1 k 0 + 1 * i.val = 64 * k.val + i.val; rw [e]; show 64 * k.val + 1 * i.val = _; omega
  | ⟨1, _⟩ => show k0_off1 k 1 + 1 * d.val = d.val; rw [e]; show 0 + 1 * d.val = _; omega

theorem rowsB_at {e : EltTy} (x : Vec Ideal S2048x256 e) (k : Fin k0_t1_loop.trips) (i : Fin 64) (w : Fin 256) :
    rowsB x k (ix2 i w) = x (ix2 ⟨64 * k.val + i.val, by have h := lt_of_lt_of_eq k.isLt trips_eq; omega⟩ w) := by
  have e := k0_off2_eq k
  refine congrArg x (funext fun a => Fin.ext ?_)
  match a with
  | ⟨0, _⟩ => show k0_off2 k 0 + 1 * i.val = 64 * k.val + i.val; rw [e]; show 64 * k.val + 1 * i.val = _; omega
  | ⟨1, _⟩ => show k0_off2 k 1 + 1 * w.val = w.val; rw [e]; show 0 + 1 * w.val = _; omega

/-- The mask of a chunk's running sums. -/
theorem pay1_at (r l : Fin 64) : k0_pay1 (F := Ideal) (ix2 r l) = if l ≤ r then (1 : EReal) else 0 := by
  have h : ∀ r l : Fin 64, IntOp.cmpi CmpIPredicate.sge (BitVec.ofNat 32 r.val) (BitVec.ofNat 32 l.val) = if l ≤ r then 1#1 else 0#1 := by
    decide +kernel
  pointwise [k0_pay1]
  rw [h r l]
  by_cases hl : l ≤ r
  · rw [if_pos hl, if_pos hl]; rfl
  · rw [if_neg hl, if_neg hl]; rfl

/-- A chunk's running sum as the kernel takes it: the gates' sum and the sum of their remainders. -/
abbrev cumK (gk : FVec Ideal S64x128 .f32) (i : Fin 64) (l : Fin 128) : EReal :=
  ∑ x : Fin 64, k0_pay1 (F := Ideal) (ix2 i x) * gk (ix2 x l) + ∑ x : Fin 64, k0_pay1 (F := Ideal) (ix2 i x) * (gk (ix2 x l) - gk (ix2 x l))

theorem cumK_eq (gk : FVec Ideal S64x128 .f32) (G : Fin 32 → Fin 64 → Fin 128 → EReal) (hG : ∀ n i d, G n i d ≠ ⊤) (n : Fin 32)
    (hgk : ∀ x l, gk (ix2 x l) = G n x l) (i : Fin 64) (l : Fin 128) : cumK gk i l = cumS G n i l := by
  have e1 : ∀ x : Fin 64, k0_pay1 (F := Ideal) (ix2 i x) * gk (ix2 x l) = if x ≤ i then G n x l else 0 := fun x => by
    rw [pay1_at, hgk]; split
    · exact one_mul _
    · exact zero_mul _
  have e2 : ∀ x : Fin 64, k0_pay1 (F := Ideal) (ix2 i x) * (gk (ix2 x l) - gk (ix2 x l)) = (if x ≤ i then G n x l else 0) - (if x ≤ i then G n x l else 0) := fun x => by
    rw [pay1_at, hgk]; split
    · exact one_mul _
    · exact (zero_mul _).trans (sub_zero 0).symm
  rw [cumK, Finset.sum_congr rfl fun x _ => e1 x, Finset.sum_congr rfl fun x _ => e2 x, cumS]
  refine sum_split _ _ fun x _ => ?_
  split
  · exact hG n x l
  · exact EReal.zero_ne_top

/-- The state after a chunk, from the state before. -/
theorem pay3_at (gk : FVec Ideal S64x128 .f32) (k : FVec Ideal S64x128 .bf16) (v : FVec Ideal S64x256 .bf16) (s : FVec Ideal S256x128 .f32) (r : Fin 256) (l : Fin 128) :
    k0_pay3 (F := Ideal) k0_pay1 gk k v s (ix2 r l)
      = Ideal.exp (cumK gk 63 l) * s (ix2 r l) + ∑ x : Fin 64, v (ix2 x r) * (k (ix2 x l) * Ideal.exp (cumK gk 63 l - cumK gk x l)) := by
  pointwise [k0_pay3]

theorem pay4_at (gk : FVec Ideal S64x128 .f32) (k : FVec Ideal S64x128 .bf16) (v : FVec Ideal S64x256 .bf16) (s : FVec Ideal S256x128 .f32) (r : Fin 256) (l : Fin 128) :
    k0_pay4 (F := Ideal) k0_pay1 gk k v s (ix2 r l) = k0_pay3 (F := Ideal) k0_pay1 gk k v s (ix2 r l) := by
  pointwise [k0_pay4]

theorem pay8_at (r : Fin 256) (l : Fin 128) : k0_pay8 (F := Ideal) (ix2 r l) = 0 := by
  pointwise [k0_pay8]

theorem pay5_at (gk : FVec Ideal S64x128 .f32) (k : FVec Ideal S64x128 .bf16) (v : FVec Ideal S64x256 .bf16) (s : FVec Ideal S256x128 .f32) (q : FVec Ideal S64x128 .bf16) (i : Fin 64) (w : Fin 256) :
    k0_pay5 (F := Ideal) k0_pay1 gk k v s q (ix2 i w) = (∑ x : Fin 128, q (ix2 i x) * k0_pay3 (F := Ideal) k0_pay1 gk k v s (ix2 w x)) * scale := by
  pointwise [k0_pay5]

theorem pay6_at (gk : FVec Ideal S64x128 .f32) (k : FVec Ideal S64x128 .bf16) (v : FVec Ideal S64x256 .bf16) (s : FVec Ideal S256x128 .f32) (q : FVec Ideal S64x128 .bf16) (i : Fin 64) :
    k0_pay6 (F := Ideal) k0_pay1 gk k v s q (ix2 i 0) = Ideal.div (∑ x : Fin 256, k0_pay5 (F := Ideal) k0_pay1 gk k v s q (ix2 i x) * k0_pay5 (F := Ideal) k0_pay1 gk k v s q (ix2 i x)) (Ideal.ofBits FTy.f32 1132462080#32) := by
  pointwise [k0_pay6]

theorem pay2_at (ng : FVec Ideal S1x256 .f32) (o : FVec Ideal S64x256 .f32) (va : FVec Ideal S64x1 .f32) (g : FVec Ideal S64x256 .bf16) (r : Fin 64) (l : Fin 256) :
    k0_pay2 ng o va g (ix2 r l) = o (ix2 r l) * Ideal.rsqrt (va (ix2 r 0) + Ideal.ofBits FTy.f32 897988541#32) * ng (ix2 0 l) * (g (ix2 r l) * Ideal.div 1 (1 + Ideal.exp (0 - g (ix2 r l)))) := by
  pointwise [k0_pay2]

/-- Row `i` of chunk `n` in a block of 2048 rows. -/
abbrev inRow (n : Fin 32) (i : Fin 64) : Fin 2048 := ⟨64 * n.val + i.val, by omega⟩
/-- The chunk of a row. -/
abbrev chunkOf (r : Fin 2048) : Fin 32 := ⟨r.val / 64, by omega⟩
/-- The row's place in its chunk. -/
abbrev placeOf (r : Fin 2048) : Fin 64 := ⟨r.val % 64, by omega⟩

section Block

variable (gk : Vec Ideal S2048x128 .f32) (x0 x1 : Vec Ideal S2048x128 .bf16) (x2 x3 : Vec Ideal S2048x256 .bf16) (ng : Vec Ideal S1x256 .f32)
  (G K Q : Fin 32 → Fin 64 → Fin 128 → EReal) (V : Fin 32 → Fin 64 → Fin 256 → EReal)
  (hG : ∀ n i d, G n i d ≠ ⊤)
  (hgk : ∀ (n : Fin 32) (i : Fin 64) d, gk (ix2 (inRow n i) d) = G n i d)
  (hq : ∀ (n : Fin 32) (i : Fin 64) d, x0 (ix2 (inRow n i) d) = Q n i d)
  (hk : ∀ (n : Fin 32) (i : Fin 64) d, x1 (ix2 (inRow n i) d) = K n i d)
  (hv : ∀ (n : Fin 32) (i : Fin 64) d, x2 (ix2 (inRow n i) d) = V n i d)

include hG hgk hk hv in
theorem pay3_spec (n : Fin k0_t1_loop.trips) (s : Vec Ideal S256x128 .f32) (w : Fin 256) (l : Fin 128)
    (hs : s (ix2 w l) = stS G K V l w n.val) :
    k0_pay3 (F := Ideal) k0_pay1 (rowsA gk n) (rowsA x1 n) (rowsB x2 n) s (ix2 w l) = stS G K V l w (n.val + 1) := by
  have hn : n.val < 32 := lt_of_lt_of_eq n.isLt trips_eq
  have hc : ∀ i, cumK (rowsA gk n) i l = cumS G ⟨n.val, hn⟩ i l := fun i =>
    cumK_eq _ G hG ⟨n.val, hn⟩ (fun x l => (rowsA_at gk n x l).trans (hgk ⟨n.val, hn⟩ x l)) i l
  rw [pay3_at, hc, hs, stS, dif_pos hn, updS]
  congr 1
  refine Finset.sum_congr rfl fun x _ => ?_
  rw [hc, rowsB_at, rowsA_at]
  rw [show x2 _ = _ from hv ⟨n.val, hn⟩ x w, show x1 _ = _ from hk ⟨n.val, hn⟩ x l, mul_comm]

include hG hgk hk hv in
theorem st_spec (w : Fin 256) (l : Fin 128) : ∀ n : ℕ, n ≤ 32 → st gk x1 x2 n (ix2 w l) = stS G K V l w n := by
  intro n
  induction n with
  | zero => intro _; exact pay8_at w l
  | succ n ih =>
    intro hn
    have ht : n < k0_t1_loop.trips := by rw [trips_eq]; omega
    rw [st, dif_pos ht, pay4_at]
    exact pay3_spec gk x1 x2 G K V hG hgk hk hv ⟨n, ht⟩ _ w l (ih (by omega))

include hG hgk hq hk hv in
theorem pay5_spec (n : Fin k0_t1_loop.trips) (i : Fin 64) (w : Fin 256) :
    k0_pay5 (F := Ideal) k0_pay1 (rowsA gk n) (rowsA x1 n) (rowsB x2 n) (st gk x1 x2 n.val) (rowsA x0 n) (ix2 i w)
      = readS G K V Q ⟨n.val, lt_of_lt_of_eq n.isLt trips_eq⟩ i w := by
  have hn : n.val < 32 := lt_of_lt_of_eq n.isLt trips_eq
  obtain ⟨r, hr, hs⟩ := lit_scale
  rw [pay5_at, readS, scale, hs, sum_mul_real _ _ r hr]
  refine Finset.sum_congr rfl fun x _ => ?_
  rw [pay3_spec gk x1 x2 G K V hG hgk hk hv n _ w x (st_spec gk x1 x2 G K V hG hgk hk hv w x n.val hn.le), rowsA_at,
    show x0 _ = _ from hq ⟨n.val, hn⟩ i x, mul_comm (Q _ _ _), mul_assoc]

include hG hgk hq hk hv in
/-- **The kernel's block, row by row, is the layer's.** -/
theorem outBlk_spec (r : Fin 2048) (w : Fin 256) :
    outBlk gk x0 x1 x2 x3 ng (ix2 r w)
      = outS (readS G K V Q (chunkOf r) (placeOf r)) (fun w => ng (ix2 0 w)) (x3 (ix2 r w)) w := by
  have hr : r.val / 64 < k0_t1_loop.trips := by rw [trips_eq]; omega
  show outRows gk x0 x1 x2 x3 ng ⟨r.val / 64, hr⟩ (ix2 ⟨r.val % 64, _⟩ w) = _
  have ho : ∀ w, k0_pay5 (F := Ideal) k0_pay1 (rowsA gk ⟨r.val / 64, hr⟩) (rowsA x1 ⟨r.val / 64, hr⟩) (rowsB x2 ⟨r.val / 64, hr⟩) (st gk x1 x2 (r.val / 64)) (rowsA x0 ⟨r.val / 64, hr⟩) (ix2 ⟨r.val % 64, by omega⟩ w)
      = readS G K V Q ⟨r.val / 64, by omega⟩ ⟨r.val % 64, by omega⟩ w := fun w =>
    pay5_spec gk x0 x1 x2 G K Q V hG hgk hq hk hv ⟨r.val / 64, hr⟩ ⟨r.val % 64, by omega⟩ w
  rw [outRows, pay2_at, pay6_at, rowsB_at, outS]
  simp only [ho]
  have hx : (⟨64 * (r.val / 64) + r.val % 64, by omega⟩ : Fin 2048) = r := Fin.ext (Nat.div_add_mod _ _)
  rw [hx, zero_sub]

end Block

end Cert.KernelIdeal.Gla
-- ==== Proof.GlaEq.lean ====
/- The kernel's result array is the layer's: the blocks' reads of the arguments, the gates, and the final array.  -/
module

public import proofs.«01_k».proof.Proof.GlaKer
public import Idealize.ShloMosaic.Lib.Pointwise
public import Idealize.ShloMosaic.Lib.Pipeline.ValueKit
public import Idealize.ShloMosaic.Lib.ReduceAll
public import proofs.«01_k».proof.Pre_finite

@[expose] public section

set_option maxRecDepth 16384

noncomputable section

namespace Cert.KernelIdeal.Gla

open Cert.KernelIdeal Cert.KernelIdeal.Gen
open Idealize.ShloMosaic Idealize.ShloMosaic.TcCoe Idealize.ShloMosaic.StableHlo
open Idealize.ShloMosaic.Pipeline (Dat Cfg Window)
open Cert.GlaMath Cert.GlaSpec

/-- What the kernel takes a gate's logarithm of: the product in three parts (the rounded factors, and each factor's remainder), and the bias. -/
abbrev gatePre (x4 : FVec Ideal S2048x128 .f32) (x5 : FVec Ideal S128x128 .f32) (x6 : FVec Ideal S1x128 .f32) (r : Fin 2048) (l : Fin 128) : EReal :=
  ∑ x : Fin 128, x4 (ix2 r x) * x5 (ix2 x l) + ∑ x : Fin 128, (x4 (ix2 r x) - x4 (ix2 r x)) * x5 (ix2 x l)
    + ∑ x : Fin 128, x4 (ix2 r x) * (x5 (ix2 x l) - x5 (ix2 x l)) + x6 (ix2 0 l)

theorem pay7_at (x4 : FVec Ideal S2048x128 .f32) (x5 : FVec Ideal S128x128 .f32) (x6 : FVec Ideal S1x128 .f32) (r : Fin 2048) (l : Fin 128) :
    k0_pay7 (F := Ideal) x4 x5 x6 (ix2 r l) = gateLog (gatePre x4 x5 x6 r l) := by
  pointwise [k0_pay7]
  rw [gateLog, lit_16th, zero_sub]
  rfl

theorem gatePre_eq (x4 : FVec Ideal S2048x128 .f32) (x5 : FVec Ideal S128x128 .f32) (x6 : FVec Ideal S1x128 .f32) (r : Fin 2048) (l : Fin 128)
    (h4 : ∀ x, x4 (ix2 r x) - x4 (ix2 r x) = 0) (h5 : ∀ x, x5 (ix2 x l) - x5 (ix2 x l) = 0) (h0 : ∀ x : Fin 112, x5 (ix2 ⟨16 + x.val, by omega⟩ l) = 0) :
    gatePre x4 x5 x6 r l = ∑ x : Fin 16, x4 (ix2 r ⟨x.val, by omega⟩) * x5 (ix2 ⟨x.val, by omega⟩ l) + x6 (ix2 0 l) := by
  have e1 : ∑ x : Fin 128, (x4 (ix2 r x) - x4 (ix2 r x)) * x5 (ix2 x l) = 0 := Finset.sum_eq_zero fun x _ => by rw [h4, zero_mul]
  have e2 : ∑ x : Fin 128, x4 (ix2 r x) * (x5 (ix2 x l) - x5 (ix2 x l)) = 0 := Finset.sum_eq_zero fun x _ => by rw [h5, mul_zero]
  rw [gatePre, e1, e2, add_zero, add_zero]
  congr 1
  exact sum_pad (a := 16) (b := 112) (fun x : Fin 128 => x4 (ix2 r x) * x5 (ix2 x l)) fun i => by
    show x4 (ix2 r _) * x5 (ix2 ⟨16 + i.val, _⟩ l) = 0
    rw [h0, mul_zero]

/-! ### The windows -/

theorem idx0 : ∀ t : Fin grid0.N, win0_0.index t = ![(grid0.coords t 0).val, (grid0.coords t 1).val] := by decide +kernel
theorem idx1 : ∀ t : Fin grid0.N, win0_1.index t = ![(grid0.coords t 0).val, 4 + (grid0.coords t 1).val] := by decide +kernel
theorem idx2 : ∀ t : Fin grid0.N, win0_2.index t = ![(grid0.coords t 0).val, 4 + (grid0.coords t 1).val] := by decide +kernel
theorem idx3 : ∀ t : Fin grid0.N, win0_3.index t = ![(grid0.coords t 0).val, 8 + (grid0.coords t 1).val] := by decide +kernel
theorem idx4 : ∀ t : Fin grid0.N, win0_4.index t = ![(grid0.coords t 0).val, 0] := by decide +kernel
theorem idx5 : ∀ t : Fin grid0.N, win0_5.index t = ![0, (grid0.coords t 1).val] := by decide +kernel
theorem idx6 : ∀ t : Fin grid0.N, win0_6.index t = ![0, (grid0.coords t 1).val] := by decide +kernel
theorem idx7 : ∀ t : Fin grid0.N, win0_7.index t = ![0, 0] := by decide +kernel
theorem idx8 : ∀ t : Fin grid0.N, win0_8.index t = ![(grid0.coords t 0).val, (grid0.coords t 1).val] := by decide +kernel

variable (m : (ℓ : Loc nD τ sig) → Buf (Elt Ideal) ℓ) (c : Dev nD)

abbrev a0 : FVec Ideal S16384x11264 .bf16 := m ((c.tc : Thread nD τ).loc main_arg0)
abbrev a1 : FVec Ideal S16384x128 .f32 := m ((c.tc : Thread nD τ).loc main_arg1)
abbrev a2 : FVec Ideal S16x512 .f32 := m ((c.tc : Thread nD τ).loc main_arg2)
abbrev a3 : FVec Ideal S512 .f32 := m ((c.tc : Thread nD τ).loc main_arg3)
abbrev a4 : FVec Ideal S256 .f32 := m ((c.tc : Thread nD τ).loc main_arg4)

/-- The weights with 112 rows of zeros below. -/
def padW (x2 : FVec Ideal S16x512 .f32) : FVec Ideal S128x512 .f32 :=
  concatenate S128x512 0 [⟨S16x512, x2⟩, ⟨S112x512, broadcastInDim S112x512 ![] bcast_S_S112x512 (constant S_ .f32 0x00000000#32)⟩] concatenates_S16x512_S112x512_S128x512_d0

theorem padW_top (x2 : FVec Ideal S16x512 .f32) (x : Fin 16) (l : Fin 512) : padW x2 (ix2 ⟨x.val, by omega⟩ l) = x2 (ix2 x l) := by
  pointwise [padW]

theorem padW_zero (x2 : FVec Ideal S16x512 .f32) (x : Fin 112) (l : Fin 512) : padW x2 (ix2 ⟨16 + x.val, by omega⟩ l) = 0 := by
  pointwise [padW]

theorem V_v1 : V m c main_v1 = padW (a2 m c) := by
  unfold V hostOps0
  after_reads_simp
  rfl

theorem V_v2 : V m c main_v2 = shapeCast S1x512 (a3 m c) shapeCasts_S512_S1x512 := by
  unfold V hostOps0
  after_reads_simp
  rfl

theorem V_v3 : V m c main_v3 = shapeCast S1x256 (a4 m c) shapeCasts_S256_S1x256 := by
  unfold V hostOps0
  after_reads_simp
  rfl

theorem gate_word : ∀ t : Fin grid0.N, (grid0.coords t 0).val < 8 ∧ (grid0.coords t 1).val < 4 := by decide +kernel

abbrev bOf (t : Fin cfg0.N) : Fin 8 := ⟨(grid0.coords t 0).val, (gate_word t).1⟩
abbrev hOf (t : Fin cfg0.N) : Fin 4 := ⟨(grid0.coords t 1).val, (gate_word t).2⟩

theorem blk0 (t : Fin cfg0.N) (r : Fin 2048) (d : Fin 128) :
    iblk m c 0 t (ix2 r d) = a0 m c (ix2 ⟨(bOf t).val * 2048 + r.val, by omega⟩ ⟨(hOf t).val * 128 + d.val, by omega⟩) := by
  rw [show a0 m c = V m c main_arg0 from (V_main_arg0 m c).symm]
  blk_ext [iblk, idx0 t]

theorem blk1 (t : Fin cfg0.N) (r : Fin 2048) (d : Fin 128) :
    iblk m c 1 t (ix2 r d) = a0 m c (ix2 ⟨(bOf t).val * 2048 + r.val, by omega⟩ ⟨512 + ((hOf t).val * 128 + d.val), by omega⟩) := by
  rw [show a0 m c = V m c main_arg0 from (V_main_arg0 m c).symm]
  blk_ext [iblk, idx1 t]

theorem blk2 (t : Fin cfg0.N) (r : Fin 2048) (d : Fin 256) :
    iblk m c 2 t (ix2 r d) = a0 m c (ix2 ⟨(bOf t).val * 2048 + r.val, by omega⟩ ⟨1024 + ((hOf t).val * 256 + d.val), by omega⟩) := by
  rw [show a0 m c = V m c main_arg0 from (V_main_arg0 m c).symm]
  blk_ext [iblk, idx2 t]

theorem blk3 (t : Fin cfg0.N) (r : Fin 2048) (d : Fin 256) :
    iblk m c 3 t (ix2 r d) = a0 m c (ix2 ⟨(bOf t).val * 2048 + r.val, by omega⟩ ⟨2048 + ((hOf t).val * 256 + d.val), by omega⟩) := by
  rw [show a0 m c = V m c main_arg0 from (V_main_arg0 m c).symm]
  blk_ext [iblk, idx3 t]

theorem blk4 (t : Fin cfg0.N) (r : Fin 2048) (x : Fin 128) :
    iblk m c 4 t (ix2 r x) = a1 m c (ix2 ⟨(bOf t).val * 2048 + r.val, by omega⟩ x) := by
  rw [show a1 m c = V m c main_arg1 from (V_main_arg1 m c).symm]
  blk_ext [iblk, idx4 t]

theorem blk5 (t : Fin cfg0.N) (x : Fin 128) (l : Fin 128) :
    iblk m c 5 t (ix2 x l) = padW (a2 m c) (ix2 x (laneK (hOf t) l)) := by
  rw [← V_v1 m c]
  blk_ext [iblk, idx5 t]

theorem blk6 (t : Fin cfg0.N) (l : Fin 128) :
    iblk m c 6 t (ix2 0 l) = a3 m c (ix1 (laneK (hOf t) l)) := by
  have h : iblk m c 6 t (ix2 0 l) = V m c main_v2 (ix2 0 (laneK (hOf t) l)) := by blk_ext [iblk, idx6 t]
  rw [h, V_v2]
  pointwise

theorem blk7 (t : Fin cfg0.N) (w : Fin 256) :
    iblk m c 7 t (ix2 0 w) = a4 m c (ix1 w) := by
  have h : iblk m c 7 t (ix2 0 w) = V m c main_v3 (ix2 0 w) := by blk_ext [iblk, idx7 t]
  rw [h, V_v3]
  pointwise

end Cert.KernelIdeal.Gla
-- ==== Proof.GlaEnd.lean ====
/- With finite gate inputs and weights the kernel's result array is the layer's.  -/
module

public import proofs.«01_k».proof.Proof.GlaEq
public import Idealize.ShloMosaic.Lib.Pointwise
public import Idealize.ShloMosaic.Lib.Pipeline.ValueKit
public import Idealize.ShloMosaic.Lib.ReduceAll
public import proofs.«01_k».proof.Pre_finite

@[expose] public section

set_option maxRecDepth 16384

noncomputable section

namespace Cert.KernelIdeal.Gla

open Cert.KernelIdeal Cert.KernelIdeal.Gen
open Idealize.ShloMosaic Idealize.ShloMosaic.TcCoe Idealize.ShloMosaic.StableHlo
open Idealize.ShloMosaic.Pipeline (Dat Cfg Window)
open Cert.GlaMath Cert.GlaSpec

theorem lit_top : Ideal.ofBits FTy.f32 0x7F800000#32 = ⊤ := by simp [Ideal.ofBits, Ideal.ieee]

instance : Subsingleton Cert.Pre_finite.S_.Idx := ⟨fun i j => funext fun a => a.elim0⟩

theorem lt_of_cmp {x : EReal} (h : FloatOps.cmpf (F := Ideal) (φ := .f32) .olt (max x (-x)) (Ideal.ofBits FTy.f32 0x7F800000#32) = 1#1) : max x (-x) < ⊤ := by
  rw [lit_top] at h
  by_contra hx
  have : FloatOps.cmpf (F := Ideal) (φ := .f32) .olt (max x (-x)) ⊤ = 0#1 := by
    show Ideal.cmp .olt (max x (-x)) ⊤ = 0#1
    unfold Ideal.cmp
    rw [decide_eq_false hx]
    rfl
  rw [this] at h
  exact absurd h (by decide)

theorem finite_args [Cert.Pre_finite.Facts] (x0 : FVec Ideal S16384x11264 .bf16) (x1 : FVec Ideal S16384x128 .f32) (x2 : FVec Ideal S16x512 .f32)
    (x3 : FVec Ideal S512 .f32) (x4 : FVec Ideal S256 .f32) (h : Cert.Pre_finite.fn x0 x1 x2 x3 x4 = fun _ => 1#1) :
    (∀ i, max (x1 i) (-x1 i) < ⊤) ∧ (∀ i, max (x2 i) (-x2 i) < ⊤) := by
  have h0 := congrFun h ix0
  have hb : ∀ a b : BitVec 1, a &&& b = 1#1 → a = 1#1 ∧ b = 1#1 := by decide
  obtain ⟨ha, hc⟩ := hb _ _ h0
  refine ⟨fun i => ?_, fun i => ?_⟩
  · exact lt_of_cmp (Host.reduce_andi_all _ _ _ _ _ ha i)
  · exact lt_of_cmp (Host.reduce_andi_all _ _ _ _ _ hc i)

variable (m : (ℓ : Loc nD τ sig) → Buf (Elt Ideal) ℓ) (c : Dev nD)

section Fin

variable (h1 : ∀ i, max (a1 m c i) (-a1 m c i) < ⊤) (h2 : ∀ i, max (a2 m c i) (-a2 m c i) < ⊤)

include h2 in
theorem padW_sub (x : Fin 128) (l : Fin 512) : padW (a2 m c) (ix2 x l) - padW (a2 m c) (ix2 x l) = 0 := by
  by_cases hx : x.val < 16
  · have e := padW_top (a2 m c) ⟨x.val, hx⟩ l
    rw [show (ix2 x l : S128x512.Idx) = ix2 ⟨x.val, by omega⟩ l from rfl, e]
    exact sub_self_of_finite (h2 _)
  · have e := padW_zero (a2 m c) ⟨x.val - 16, by omega⟩ l
    rw [show (ix2 x l : S128x512.Idx) = ix2 ⟨16 + (x.val - 16), by omega⟩ l from congrArg₂ ix2 (Fin.ext (by show x.val = 16 + (x.val - 16); omega)) rfl, e]
    exact sub_zero 0

include h1 h2 in
theorem gate_spec (t : Fin cfg0.N) (r : Fin 2048) (l : Fin 128) :
    k0_pay7 (F := Ideal) (iblk m c 4 t) (iblk m c 5 t) (iblk m c 6 t) (ix2 r l)
      = gateLog (gateIn (a1 m c) (a2 m c) (a3 m c) ⟨(bOf t).val * 2048 + r.val, by omega⟩ (laneK (hOf t) l)) := by
  rw [pay7_at, gatePre_eq]
  · rw [gateIn, blk6]
    congr 2
    refine Finset.sum_congr rfl fun x _ => ?_
    rw [blk4, blk5, padW_top]
  · intro x
    rw [blk4]
    exact sub_self_of_finite (h1 _)
  · intro x
    rw [blk5]
    exact padW_sub m c h2 _ _
  · intro x
    rw [blk5, padW_zero]

include h1 h2 in
/-- The block of grid point `t`, index by index. -/
theorem outAt_spec (t : Fin cfg0.N) (r : Fin 2048) (w : Fin 256) :
    outAt m c t (ix2 r w) = specAt (a0 m c) (a1 m c) (a2 m c) (a3 m c) (a4 m c) (bOf t) (hOf t) (chunkOf r) (placeOf r) w := by
  have hrow : ∀ (n : Fin 32) (i : Fin 64) (p : _), (⟨(bOf t).val * 2048 + (64 * n.val + i.val), p⟩ : Fin 16384) = rowOf (bOf t) n i := fun n i p =>
    Fin.ext (by show (bOf t).val * 2048 + (64 * n.val + i.val) = (bOf t).val * 2048 + (n.val * 64 + i.val); omega)
  have hrow' : ∀ p, (⟨(bOf t).val * 2048 + r.val, p⟩ : Fin 16384) = rowOf (bOf t) (chunkOf r) (placeOf r) := fun p =>
    Fin.ext (by show (bOf t).val * 2048 + r.val = (bOf t).val * 2048 + (r.val / 64 * 64 + r.val % 64); omega)
  rw [outAt, glaBlk, outBlk_spec _ _ _ _ _ _ (gS (a1 m c) (a2 m c) (a3 m c) (bOf t) (hOf t)) (kS (a0 m c) (bOf t) (hOf t)) (qS (a0 m c) (bOf t) (hOf t))
    (vS (a0 m c) (bOf t) (hOf t)), specAt, blk3, hrow']
  · congr 1
    funext w
    exact blk7 m c t w
  · intro n i d; exact gateLog_ne_top _
  · intro n i d; rw [gate_spec m c h1 h2, hrow, gS]
  · intro n i d; rw [blk0, hrow, qS]
  · intro n i d; rw [blk1, hrow, kS]
  · intro n i d; rw [blk2, hrow, vS]

include h1 h2 in
/-- **The kernel's result array.** -/
theorem arr_spec : (glaDats m 0 c).arrAt 8 cfg0.N = spec (a0 m c) (a1 m c) (a2 m c) (a3 m c) (a4 m c) := by
  refine (glaDats m 0 c).arrAt_eq_of_covers 8 _ (by decide +kernel) fun t hf y => ?_
  blk_simp
  rw [gla_after8]
  have key : ∀ (r : Fin 2048) (w : Fin 256), outAt m c t (ix2 r w) = spec (a0 m c) (a1 m c) (a2 m c) (a3 m c) (a4 m c) ((win0_8.blk t).view.emb (ix2 r w)) := fun r w => by
    have hb := (bOf t).isLt
    have hh := (hOf t).isLt
    have e : (win0_8.blk t).view.emb (ix2 r w) = ix2 (⟨(bOf t).val * 2048 + r.val, by omega⟩ : Fin 16384) (⟨(hOf t).val * 256 + w.val, by omega⟩ : Fin 1024) := by
      blk_ext [idx8 t]
    rw [e, outAt_spec m c h1 h2]
    show _ = specAt (a0 m c) (a1 m c) (a2 m c) (a3 m c) (a4 m c) ⟨((bOf t).val * 2048 + r.val) / 2048, _⟩ ⟨((hOf t).val * 256 + w.val) / 256, _⟩
      ⟨((bOf t).val * 2048 + r.val) % 2048 / 64, _⟩ ⟨((bOf t).val * 2048 + r.val) % 2048 % 64, _⟩ ⟨((hOf t).val * 256 + w.val) % 256, _⟩
    congr 1
    · refine Fin.ext ?_
      show (bOf t).val = ((bOf t).val * 2048 + r.val) / 2048
      omega
    · refine Fin.ext ?_
      show (hOf t).val = ((hOf t).val * 256 + w.val) / 256
      omega
    · refine Fin.ext ?_
      show r.val / 64 = ((bOf t).val * 2048 + r.val) % 2048 / 64
      omega
    · refine Fin.ext ?_
      show r.val % 64 = ((bOf t).val * 2048 + r.val) % 2048 % 64
      omega
    · refine Fin.ext ?_
      show w.val = ((hOf t).val * 256 + w.val) % 256
      omega
  have hy := key (y 0) (y 1)
  rw [show (ix2 (y 0) (y 1) : S2048x256.Idx) = y from (eq_ix2 y).symm] at hy
  exact hy

end Fin

end Cert.KernelIdeal.Gla
-- ==== Proof.GlaFrame.lean ====
/- The kernel's frame: without rewrites the kernel and its idealization are one program, so the one's frame is the
   other's.  -/
module

public import proofs.«01_k».proof.Proof.GlaEnd
public import proofs.«01_k».proof.Proof.Gen.Kernel

@[expose] public section

set_option maxRecDepth 16384

noncomputable section

namespace Cert.GlaFrame

open Idealize.ShloMosaic Idealize.SL.Sem

variable {F : FTy → Type} [FloatOps F]

/-- The side conditions of the two programs. -/
instance factsK : Cert.Kernel.Facts := Cert.Kernel.Gen.facts
instance factsI : Cert.KernelIdeal.Facts := Cert.KernelIdeal.Gen.facts

/-- The two bodies are one. -/
theorem bodies : @Cert.Kernel.defs₀ F _ factsK = @Cert.KernelIdeal.defs₀ F _ factsI := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  match l, x with
  | 0, (t, s) => rfl

/-- And so are the two body tables. -/
theorem tables : @Cert.Kernel.defs F _ factsK = @Cert.KernelIdeal.defs F _ factsI := by
  show Pipeline.defs Cert.Kernel.pcfgs Cert.Kernel.defs₀ = _
  rw [bodies]
  rfl

/-- The kernel ends without fault, its arguments as they were and its semaphores at zero. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [tables]
  exact Cert.KernelIdeal.Gla.gla_frame m ρ

end Cert.GlaFrame
-- ==== Proof.ExpRun.lean ====
/- The run of the experts' kernel, whose index maps read two tables (each row tile's expert, and the number of tiles in
   use): the body's triple at one grid point, the launch under the tables' side condition, and what the result array
   is made of.  -/
module

public import proofs.«01_k».proof.Proof.GlaFrame
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pointwise
public import Idealize.ShloMosaic.Lib.Tactic
public import Idealize.ShloMosaic.Lib.Quiescent

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body at one grid point -/

/-- The two branches' conditions are one bit and its complement. -/
theorem cond_bits : ∀ b : BitVec 1, (Scalar.cmpi .ne (Scalar.extui b : BitVec 32) 0#32 = 1#1 ↔ b = 1#1)
    ∧ (Scalar.cmpi .ne (Scalar.extui (Scalar.xori b 1#1) : BitVec 32) 0#32 = 1#1 ↔ b ≠ 1#1) := by decide

theorem cond1_iff (i : grid0.Coords) (v : BitVec 32) : k0_cond1 i v = 1#1 ↔ Scalar.cmpi .slt (BitVec.ofNat 32 (i 0).val) v = 1#1 :=
  (cond_bits _).1

theorem cond2_iff (i : grid0.Coords) (v : BitVec 32) : k0_cond2 i v = 1#1 ↔ ¬ k0_cond1 i v = 1#1 :=
  (cond_bits _).2.trans (not_congr (cond1_iff i v)).symm

/-- What the body leaves in the output block, of the number of tiles in use and its four input blocks: the tile's expert
    applied to the rows, or zeros past the tiles in use. -/
def expBlk (i : grid0.Coords) (nv : BitVec 32) (x0 : Vec F S256x1024 .f32) (x1 : Vec F S1x1024x256 .bf16)
    (x2 : Vec F S1x1024x256 .bf16) (x3 : Vec F S1x256x1024 .bf16) : Vec F S256x1024 .f32 :=
  if k0_cond1 i nv = 1#1 then k0_pay1 x0 x1 x2 x3 else k0_pay2

/-- The two tables as the body is handed them. -/
abbrev teM : Memref sig .tc .smem S160 .i32 := Memref.whole main_arg0
abbrev nvM : Memref sig .tc .smem S1 .i32 := Memref.whole main_arg1
abbrev TabBuf (c : Dev nD) {S : Shape} {e : EltTy} (M : Memref sig .tc .smem S e) : Type := Buf (Elt F) (M.view.loc (c : Thread nD τ))
/-- A table held at half the full share. -/
abbrev tabPt (c : Dev nD) {S : Shape} {e : EltTy} (M : Memref sig .tc .smem S e) (f : TabBuf (F := F) c M) : sProp 𝕄 :=
  M.view.loc (c : Thread nD τ) ↦{fullShare.right} f

/-- The table's one word. -/
abbrev word (c : Dev nD) (xt : TabBuf (F := F) c nvM) : BitVec 32 := (xt : Vec F S1 .i32) (ix1 (0 : Fin 1))

set_option maxHeartbeats 1000000 in
/-- One grid point: with the inputs' blocks and the tables held, the body ends with the output block at `expBlk` and the
    rest as it was. -/
theorem body_triple (c : Dev nD) (i : grid0.Coords) (arg3 : Memref sig .tc .vmem S256x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S256x1024 .f32) (harg7 : arg7.IsWhole)
    (x0 : Vec F S256x1024 .f32) (x1 : Vec F S1x1024x256 .bf16) (x2 : Vec F S1x1024x256 .bf16) (x3 : Vec F S1x256x1024 .bf16) (xt0 : TabBuf (F := F) c teM) (xt1 : TabBuf (F := F) c nvM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tabPt c teM xt0 ∗ tabPt c nvM xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (expBlk i (word c xt1) x0 x1 x2 x3) ∗ tabPt c teM xt0 ∗ tabPt c nvM xt1) -∗ K ⟨⟩))
      ⊢ wp frame (wpE (defs₀ (F := F)) Variants.none c none) E (cc0_moe_experts i teM (Memref.isWhole_whole _) nvM (Memref.isWhole_whole _) arg3 harg3 arg4 harg4 arg5 harg5 arg6 harg6 arg7 harg7) K := by
  have hz : (![0, 0] : Fin 2 → Nat) = fun _ => 0 := funext fun a => by fin_cases a <;> rfl
  have hz3 : (![0, 0, 0] : Fin 3 → Nat) = fun _ => 0 := funext fun a => by fin_cases a <;> rfl
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_run_names
    rw [show (View.readAt (Elt F) nvM.view (Rect.unit (s := S1) ![0] S1.size inb_S1_S1_0).toLoadRect xt1 (Shape.Idx.first (by decide)) : BitVec 32) = word c xt1 from
      congrArg (xt1 : Vec F S1 .i32) (funext fun a => by fin_cases a; rfl)]
    unfold expBlk
    by_cases h1 : k0_cond1 i (word c xt1) = 1#1
    · have h2 : ¬ k0_cond2 i (word c xt1) = 1#1 := fun h => (cond2_iff i _).mp h h1
      rw [dif_neg h2, dif_pos h1, if_pos h1]
      refine (View.read_writes_full _ _ _ _ _).trans ?_
      simp only [View.readAt_eq_ld, harg3.read_unread, harg4.read_unread, harg5.read_unread, harg6.read_unread]
      exact congr (congr (congrArg₂ k0_pay1 (View.ld_unit_zero (S := S256x1024) hz _ _) (View.ld_unit_zero (S := S1x1024x256) hz3 _ _))
        (View.ld_unit_zero (S := S1x1024x256) hz3 _ _)) (View.ld_unit_zero (S := S1x256x1024) hz3 _ _)
    · have h2 : k0_cond2 i (word c xt1) = 1#1 := (cond2_iff i _).mpr h1
      rw [dif_pos h2, if_neg h1]
      exact View.read_writes_full _ _ _ _ _
  isplitl [HT0]; · iexact HT0
  iexact HT1

/-! ## The launch -/

section Launch

variable (m : (ℓ : Loc nD τ sig) → Buf (Elt F) ℓ) (ρ : Dev nD → PrngReg)

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The buffers the host operations write. -/
abbrev written : List (Ref sig .tc) := [main_v0, main_v1, main_v2, main_v3, main_v4, main_v5]

/-- The region finds every other buffer as launched. -/
theorem V_rest (c : Dev nD) (b : Ref sig .tc) (hb : b ∉ written) : V m c b = m ((c : Thread nD τ).loc b) :=
  StableHlo.after_of_forall_not_mem (b := Proc.devRef .tc b) _ _ (List.forall_iff_forall_mem.mp (by
    simp only [written, List.mem_cons, List.not_mem_nil, not_or, or_false] at hb
    simp only [hostOps0, List.Forall, StableHlo.unary_writes, StableHlo.reshape_writes, Finset.mem_singleton]
    obtain ⟨h0, h1, h2, h3, h4, h5⟩ := hb
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-- The tables' contents at the region (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The side condition of the tables: every block that they name lies inside its array. -/
abbrev Ok : Prop := ok0 (F := F) (tbl m)
abbrev adm (hO : Ok m) : (pcfg0 (F := F)).Adm := ⟨tbl m, hO⟩
/-- The pipeline at these tables. -/
abbrev cfgM (hO : Ok m) : Pipeline.Cfg sig Λ₀ := cfg0 (adm m hO)

/-- The halves of the tables that the region hands the body, table by table. -/
theorem tables_eq (c : Dev nD) : (Pipeline.ΦT pre0 (tbl m) c : sProp 𝕄) = iprop(tabPt c teM (tbl m 0) ∗ tabPt c nvM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output block of grid point `t`. -/
def outAt (hO : Ok m) (c : Dev nD) (t : Fin (cfgM m hO).N) : Vec F S256x1024 .f32 :=
  expBlk (grid0.coords t) (word c (tbl m 1)) (iblk m hO c 0 t) (iblk m hO c 1 t) (iblk m hO c 2 t) (iblk m hO c 3 t)

/-- The pipeline's proof data: the arrays as the region finds them; after the body each input's buffer at its block and the
    output's at `outAt`; the tables' halves carried along; nothing owed. -/
def expDats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem exp_A (hO : Ok m) (c : Dev nD) (w : Fin (cfgM m hO).W) : (expDats m hO 0 c).A w = V m c (Pipeline.arrRef spec0 w) := by
  dsimp only [expDats]

theorem exp_after0 (hO : Ok m) (c : Dev nD) (t : Fin (cfgM m hO).N) : (expDats m hO 0 c).after 0 t = iblk m hO c 0 t := by dsimp only [expDats]; try rfl
theorem exp_after1 (hO : Ok m) (c : Dev nD) (t : Fin (cfgM m hO).N) : (expDats m hO 0 c).after 1 t = iblk m hO c 1 t := by dsimp only [expDats]; try rfl
theorem exp_after2 (hO : Ok m) (c : Dev nD) (t : Fin (cfgM m hO).N) : (expDats m hO 0 c).after 2 t = iblk m hO c 2 t := by dsimp only [expDats]; try rfl
theorem exp_after3 (hO : Ok m) (c : Dev nD) (t : Fin (cfgM m hO).N) : (expDats m hO 0 c).after 3 t = iblk m hO c 3 t := by dsimp only [expDats]; try rfl
theorem exp_after4 (hO : Ok m) (c : Dev nD) (t : Fin (cfgM m hO).N) : (expDats m hO 0 c).after 4 t = outAt m hO c t := by dsimp only [expDats]; try rfl

/-- An input window's buffer holds its block at every point, fetched there or carried over. -/
theorem exp_before0 (hO : Ok m) (c : Dev nD) (t : Fin (cfgM m hO).N) (d) : (expDats m hO 0 c).before 0 t d = iblk m hO c 0 t :=
  ((expDats m hO 0 c).before_in_eq_fetched 0 rfl (fun _ => rfl) (fun _ _ _ => rfl) (fun t => by rw [exp_after0]; unfold Dat.blockOf iblk; rw [exp_A]; try rfl) t d).trans
    (by unfold Dat.fetched Dat.blockOf iblk; rw [exp_A]; try rfl)
theorem exp_before1 (hO : Ok m) (c : Dev nD) (t : Fin (cfgM m hO).N) (d) : (expDats m hO 0 c).before 1 t d = iblk m hO c 1 t :=
  ((expDats m hO 0 c).before_in_eq_fetched 1 rfl (fun _ => rfl) (fun _ _ _ => rfl) (fun t => by rw [exp_after1]; unfold Dat.blockOf iblk; rw [exp_A]; try rfl) t d).trans
    (by unfold Dat.fetched Dat.blockOf iblk; rw [exp_A]; try rfl)
theorem exp_before2 (hO : Ok m) (c : Dev nD) (t : Fin (cfgM m hO).N) (d) : (expDats m hO 0 c).before 2 t d = iblk m hO c 2 t :=
  ((expDats m hO 0 c).before_in_eq_fetched 2 rfl (fun _ => rfl) (fun _ _ _ => rfl) (fun t => by rw [exp_after2]; unfold Dat.blockOf iblk; rw [exp_A]; try rfl) t d).trans
    (by unfold Dat.fetched Dat.blockOf iblk; rw [exp_A]; try rfl)
theorem exp_before3 (hO : Ok m) (c : Dev nD) (t : Fin (cfgM m hO).N) (d) : (expDats m hO 0 c).before 3 t d = iblk m hO c 3 t :=
  ((expDats m hO 0 c).before_in_eq_fetched 3 rfl (fun _ => rfl) (fun _ _ _ => rfl) (fun t => by rw [exp_after3]; unfold Dat.blockOf iblk; rw [exp_A]; try rfl) t d).trans
    (by unfold Dat.fetched Dat.blockOf iblk; rw [exp_A]; try rfl)

/-- One of the two branches is taken at every point, -/
theorem busy (i : grid0.Coords) (v : BitVec 32) : (!(k0_cond1 i v == 1#1) && !(k0_cond2 i v == 1#1)) = false := by
  by_cases h : k0_cond1 i v = 1#1
  · rw [h]; rfl
  · rw [(cond2_iff i v).mpr h, Bool.and_eq_false_iff]; exact .inr rfl

/-- so the output window is idle at none. -/
theorem exp_busy (i : grid0.Coords) : idle0 (tbl m) 4 i = false := busy i ((tbl m).atD 1 ![0])

abbrev st0 (hO : Ok m) (t : Fin (cfgM m hO).N) : Memref sig .tc .vmem S256x1024 .f32 := spec0_0.stage ((cfgM m hO).slots t 0)
abbrev st1 (hO : Ok m) (t : Fin (cfgM m hO).N) : Memref sig .tc .vmem S1x1024x256 .bf16 := spec0_1.stage ((cfgM m hO).slots t 1)
abbrev st2 (hO : Ok m) (t : Fin (cfgM m hO).N) : Memref sig .tc .vmem S1x1024x256 .bf16 := spec0_2.stage ((cfgM m hO).slots t 2)
abbrev st3 (hO : Ok m) (t : Fin (cfgM m hO).N) : Memref sig .tc .vmem S1x256x1024 .bf16 := spec0_3.stage ((cfgM m hO).slots t 3)
abbrev st4 (hO : Ok m) (t : Fin (cfgM m hO).N) : Memref sig .tc .vmem S256x1024 .f32 := spec0_4.stage ((cfgM m hO).slots t 4)

/-- The body at point `t`, on the buffers the pipeline calls it with. -/
abbrev bodyAt (hO : Ok m) (t : Fin (cfgM m hO).N) : Prog (TpuEff nD τ sig (Elt F) Λ₀ .tc) PUnit :=
  cc0_moe_experts (grid0.coords t) teM (Memref.isWhole_whole _) nvM (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4))

/-- What the body is called with at point `t`. -/
def expPre (hO : Ok m) (c : Dev nD) (t : Fin (cfgM m hO).N) : sProp 𝕄 :=
  iprop((expDats m hO 0 c).Φ t.castSucc ∗ (expDats m hO 0 c).owesAt () t.castSucc
    ∗ (∃ d, owns (c : Thread nD τ) (st0 m hO t) fullShare ((expDats m hO 0 c).before 0 t d))
    ∗ (∃ d, owns (c : Thread nD τ) (st1 m hO t) fullShare ((expDats m hO 0 c).before 1 t d))
    ∗ (∃ d, owns (c : Thread nD τ) (st2 m hO t) fullShare ((expDats m hO 0 c).before 2 t d))
    ∗ (∃ d, owns (c : Thread nD τ) (st3 m hO t) fullShare ((expDats m hO 0 c).before 3 t d))
    ∗ (∃ d, owns (c : Thread nD τ) (st4 m hO t) fullShare ((expDats m hO 0 c).before 4 t d)))

/-- What the body returns at point `t`. -/
def expPost (hO : Ok m) (c : Dev nD) (t : Fin (cfgM m hO).N) : sProp 𝕄 :=
  iprop((expDats m hO 0 c).Φ t.succ ∗ (expDats m hO 0 c).owesAt () t.succ
    ∗ owns (c : Thread nD τ) (st0 m hO t) fullShare ((expDats m hO 0 c).after 0 t)
    ∗ owns (c : Thread nD τ) (st1 m hO t) fullShare ((expDats m hO 0 c).after 1 t)
    ∗ owns (c : Thread nD τ) (st2 m hO t) fullShare ((expDats m hO 0 c).after 2 t)
    ∗ owns (c : Thread nD τ) (st3 m hO t) fullShare ((expDats m hO 0 c).after 3 t)
    ∗ owns (c : Thread nD τ) (st4 m hO t) fullShare ((expDats m hO 0 c).after 4 t))

/-- The body at any grid point. -/
theorem exp_sound (hO : Ok m) (c : Dev nD) (t : Fin (cfgM m hO).N) :
    expPre m hO c t ⊢ wp frame (wpE (defs₀ (F := F)) Variants.none c none) Set.univ (bodyAt m hO t) (fun _ => expPost m hO c t) := by
  unfold expPre expPost bodyAt
  simp only [exp_before0, exp_before1, exp_before2, exp_before3]
  rw [show (expDats m hO 0 c).Φ t.succ = (expDats m hO 0 c).Φ t.castSucc from rfl,
    show (expDats m hO 0 c).owesAt () t.succ = (expDats m hO 0 c).owesAt () t.castSucc from rfl,
    exp_after0, exp_after1, exp_after2, exp_after3, exp_after4]
  rw [show (expDats m hO 0 c).Φ t.castSucc = iprop(Pipeline.ΦA spec0 c ∗ Pipeline.ΦT pre0 (tbl m) c) from rfl, tables_eq]
  unfold outAt
  iintro ⟨⟨HΦ, ⟨HT0, HT1⟩⟩, Ho, ⟨%d0, H0⟩, ⟨%d1, H1⟩, ⟨%d2, H2⟩, ⟨%d3, H3⟩, ⟨%d4, H4⟩⟩
  iapply (body_triple c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem exp_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1000000 in
/-- The body obligation of the pipeline rule. -/
theorem exp_obligation (hO : Ok m) (c : Dev nD) : BodyObligation (expDats (F := F) m hO 0 c) (defs₀ (F := F)) Variants.none () Set.univ := fun t => by
  rw [bigSep_W0, bigSep_W0, exp_row m hO]
  refine triple_restated (exp_sound m hO c t) rfl .rfl fun _ => ?_
  refine sep_mono .rfl (sep_mono .rfl (sep_mono .rfl (sep_mono .rfl (sep_mono .rfl (sep_mono .rfl ?_)))))
  dsimp only
  split
  · rename_i h
    have h' : idle0 (tbl m) 4 (grid0.coords t) = true := h
    rw [exp_busy m] at h'
    exact absurd h' (by decide)
  · exact .rfl

set_option backward.isDefEq.respectTransparency.types false in
/-- The launch: every array of the pipeline ends at what the proof data says, every semaphore at zero. -/
theorem exp_run (hO : Ok m) : θ_run defs (onTc (τ := τ) (main (F := F))) (s₀ m ρ) (fun r => (Pipeline.FramePost (Pipeline.pin pcfgs fun _ => adm m hO) (expDats m hO) 0 (V m)) r ∧ r.2.sem = fun _ => 0) :=
  Pipeline.θ_run_frameP (Q' := _) pcfgs (fun _ => adm m hO) (expDats m hO) (0 : Fin 1) launch0 defs₀ Variants.none m ρ main
    (hbody := fun c => (exp_obligation m hO c).loose) (hshare := fun c => (expDats m hO 0 c).share_full fun _ => rfl)
    (howed := fun _ _ => rfl) (V := V m) (hmain := hmain m Variants.none) (hA := exp_A m hO) (hpf := V_pre m)
    (hΦ := fun _ _ => rfl)

/-- The run with the result array named, the arguments as launched and every semaphore at zero. -/
theorem exp_blocks (hO : Ok m) : θ_run defs (onTc (τ := τ) (main (F := F))) ⟨m, fun _ => 0, ρ⟩ fun r => (∀ c : Dev nD,
      r.2.mem ((c : Thread nD τ).loc main_v6) = (expDats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => ⟨(h.1 c).1 4,
      ((h.1 c).2 main_arg0 (by decide : main_arg0 ∈ Pipeline.restRefs sig spec0)).trans (V_rest m c main_arg0 (by decide)),
      ((h.1 c).2 main_arg1 (by decide : main_arg1 ∈ Pipeline.restRefs sig spec0)).trans (V_rest m c main_arg1 (by decide)),
      ((h.1 c).1 0).trans (((expDats m hO 0 c).arrAt_in 0 rfl _).trans ((exp_A m hO c 0).trans (V_rest m c main_arg2 (by decide)))),
      ((h.1 c).2 main_arg3 (by decide : main_arg3 ∈ Pipeline.restRefs sig spec0)).trans (V_rest m c main_arg3 (by decide)),
      ((h.1 c).2 main_arg4 (by decide : main_arg4 ∈ Pipeline.restRefs sig spec0)).trans (V_rest m c main_arg4 (by decide)),
      ((h.1 c).2 main_arg5 (by decide : main_arg5 ∈ Pipeline.restRefs sig spec0)).trans (V_rest m c main_arg5 (by decide))⟩, h.2⟩) (exp_run m ρ hO)

end Launch

end Cert.Kernel2Ideal.Exp

end
-- ==== Proof.ExpOk.lean ====
/- What the precondition says of the two tables, and that with it every block that the experts' launch names lies inside
   its array. Then the frames of the kernel and of its idealization.  -/
module

public import proofs.«01_k».proof.Proof.ExpRun
public import proofs.«01_k».proof.Proof.Gen.Kernel2
public import proofs.«01_k».proof.Pre_routed
public import Idealize.ShloMosaic.Lib.ReduceAll
public import Idealize.ShloMosaic.Lib.Affine

@[expose] public section

set_option maxRecDepth 16384

noncomputable section

namespace Cert.Kernel2Ideal.Exp

open Cert.Kernel2Ideal Cert.Kernel2Ideal.Gen
open Idealize.ShloMosaic Idealize.ShloMosaic.TcCoe Idealize.SL.Sem

variable {F : FTy → Type} [FloatOps F]

/-- The tables as the precondition has them: every tile's expert is one of the 32, and at least one tile is in use. -/
structure Routed (te : IVec S160 32) (nv : IVec S1 32) : Prop where
  expert : ∀ i : Fin 160, (te (ix1 i)).toNat < 32
  used : 1 ≤ (nv (ix1 0)).toInt

/-- A table of one word has one index. -/
theorem one_index (j : S1.Idx) : j = ix1 0 := funext fun a => by
  fin_cases a; exact Subsingleton.elim (α := Fin 1) _ _

theorem routed_of [Cert.Pre_routed.Facts] (x0 : IVec S160 32) (x1 : IVec S1 32) (x2 : FVec F S40960x1024 .f32) (x3 : FVec F S4x8x1024x256 .f32)
    (x4 : FVec F S4x8x1024x256 .f32) (x5 : FVec F S4x8x256x1024 .f32)
    (h : Cert.Pre_routed.fn (F := F) x0 x1 x2 x3 x4 x5 = fun _ => 1#1) : Routed x0 x1 := by
  obtain ⟨ha, hc⟩ := IntOp.andi_eq_one.mp (congrFun h Idealize.ShloMosaic.ix0)
  refine ⟨fun i => ?_, ?_⟩
  · obtain ⟨h0, h1⟩ := IntOp.andi_eq_one.mp (Host.reduce_andi_all _ _ _ _ _ ha (ix1 i))
    have l0 : (0 : Int) ≤ (x0 (ix1 i)).toInt := IntOp.cmpi_sge.mp h0
    have l1 : (x0 (ix1 i)).toInt < 32 := IntOp.cmpi_slt.mp h1
    have := Affine.toNat_of (Affine.word (x0 (ix1 i))) l0
    omega
  · have hc' : (1 : Int) ≤ (x1 _).toInt := IntOp.cmpi_sge.mp hc
    exact (congrArg (fun j => (1 : Int) ≤ (x1 j).toInt) (one_index _)).mp hc'

/-- The word that the first index map takes the smaller of: the grid point, or the last tile in use. -/
theorem tile_word (i : Fin 160) (v : BitVec 32) (hv : 1 ≤ v.toInt) :
    ((Scalar.minsi (BitVec.ofNat 32 i.val) (Scalar.subi v 1#32)).toNat : Int) = min (i.val : Int) (v.toInt - 1) := by
  have hw := Affine.word_range v
  have hi := i.isLt
  exact Affine.toNat_of (Affine.minsi (Affine.ofNat i.val ⟨rfl, by omega⟩)
    (Affine.subi (Affine.word v) (Affine.ofNat 1 ⟨rfl, by omega⟩) ⟨rfl, by omega, by omega⟩) rfl) (by omega)

section Maps

variable (pf : pre0.Contents (Elt F))

/-- The tables' contents as arrays. -/
abbrev teOf : IVec S160 32 := pf 0
abbrev nvOf : IVec S1 32 := pf 1

theorem at_nv : (pf.at 1 (Rect.unit (s := S1) ![0] S1.size inb_S1_S1_0) numel1_S1 : BitVec 32) = nvOf pf (ix1 0) :=
  congrArg (nvOf pf) (one_index _)

theorem at_te (i : grid0.Coords) :
    (pf.at 0 (Rect.unit (s := S160) ![(Scalar.indexCast (BitVec.ofNat 32 (i 0).val)).toNat] S1.size (k0_off1_inb i)) numel1_S1 : BitVec 32)
      = teOf pf (ix1 (i 0)) := by
  refine congrArg (teOf pf) (funext fun a => ?_)
  fin_cases a
  refine Fin.ext ?_
  have hi : (i 0).val < 160 := (i 0).isLt
  show (BitVec.ofNat 32 (i 0).val).toNat + 0 * 1 = (i 0).val
  rw [BitVec.toNat_ofNat]
  omega

theorem map0 (i : grid0.Coords) : cc0_transform_0 inb_S1_S1_0 numel1_S1 pf i
    = ![(Scalar.minsi (BitVec.ofNat 32 (i 0).val) (Scalar.subi (nvOf pf (ix1 0)) 1#32)).toNat, 0] := by
  rw [← at_nv]; rfl
theorem map1 (i : grid0.Coords) : cc0_transform_1 k0_off1_inb numel1_S1 pf i = ![(teOf pf (ix1 (i 0))).toNat, 0, 0] := by
  rw [← at_te]; rfl
theorem map2 (i : grid0.Coords) : cc0_transform_2 k0_off1_inb numel1_S1 pf i = ![(teOf pf (ix1 (i 0))).toNat, 0, 0] := by
  rw [← at_te]; rfl
theorem map3 (i : grid0.Coords) : cc0_transform_3 k0_off1_inb numel1_S1 pf i = ![(teOf pf (ix1 (i 0))).toNat, 0, 0] := by
  rw [← at_te]; rfl

/-- The launch's side condition. -/
theorem ok_of (h : Routed (teOf pf) (nvOf pf)) : ok0 pf := by
  refine ⟨fun i => ⟨?_, .inl rfl⟩, fun i => ⟨?_, .inr (.inr ⟨by decide, rfl, ?_, rfl⟩)⟩, fun i => ⟨?_, .inr (.inr ⟨by decide, rfl, ?_, rfl⟩)⟩,
    fun i => ⟨?_, .inr (.inr ⟨by decide, rfl, ?_, rfl⟩)⟩⟩
  · rw [map0]
    have e := tile_word (i 0) _ h.used
    have hi : (i 0).val < 160 := (i 0).isLt
    intro a; fin_cases a
    · show ((Scalar.minsi (BitVec.ofNat 32 (i 0).val) (Scalar.subi (nvOf pf (ix1 0)) 1#32)).toNat + 1) * 256 ≤ 40960
      omega
    · show (0 + 1) * 1024 ≤ 1024
      omega
  · rw [map1]
    have e := h.expert (i 0)
    intro a; fin_cases a
    · show ((teOf pf (ix1 (i 0))).toNat + 1) * 1 ≤ 32
      omega
    · show (0 + 1) * 1024 ≤ 1024
      omega
    · show (0 + 1) * 256 ≤ 256
      omega
  · rfl
  · rw [map2]
    have e := h.expert (i 0)
    intro a; fin_cases a
    · show ((teOf pf (ix1 (i 0))).toNat + 1) * 1 ≤ 32
      omega
    · show (0 + 1) * 1024 ≤ 1024
      omega
    · show (0 + 1) * 256 ≤ 256
      omega
  · rfl
  · rw [map3]
    have e := h.expert (i 0)
    intro a; fin_cases a
    · show ((teOf pf (ix1 (i 0))).toNat + 1) * 1 ≤ 32
      omega
    · show (0 + 1) * 256 ≤ 256
      omega
    · show (0 + 1) * 1024 ≤ 1024
      omega
  · rfl

end Maps

section Frames

variable (m : (ℓ : Loc nD τ sig) → Buf (Elt F) ℓ) (ρ : Dev nD → PrngReg)

/-- The tables as launched. -/
abbrev te (c : Dev nD) : IVec S160 32 := m ((c : Thread nD τ).loc main_arg0)
abbrev nv (c : Dev nD) : IVec S1 32 := m ((c : Thread nD τ).loc main_arg1)

theorem tbl_te (c : Dev nD) : teOf (tbl m) = te m c := by
  obtain rfl : c = 0 := Subsingleton.elim _ _
  exact V_rest m 0 main_arg0 (by decide)
theorem tbl_nv (c : Dev nD) : nvOf (tbl m) = nv m c := by
  obtain rfl : c = 0 := Subsingleton.elim _ _
  exact V_rest m 0 main_arg1 (by decide)

theorem ok_tables (h : Routed (te m 0) (nv m 0)) : Ok m := by
  refine ok_of (tbl m) ?_
  rw [tbl_te m 0, tbl_nv m 0]
  exact h

/-- The idealization ends without fault, its arguments as they were and its semaphores at zero. -/
theorem exp_frame (h : Routed (te m 0) (nv m 0)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  exact (θ_run defs _ _).mono (fun r h => ⟨fun c => (h.1 c).2, h.2⟩) (exp_blocks m ρ (ok_tables m h))

end Frames

end Cert.Kernel2Ideal.Exp

namespace Cert.ExpFrame

open Idealize.ShloMosaic Idealize.SL.Sem

variable {F : FTy → Type} [FloatOps F]

instance factsK : Cert.Kernel2.Facts := Cert.Kernel2.Gen.facts
instance factsI : Cert.Kernel2Ideal.Facts := Cert.Kernel2Ideal.Gen.facts

/-- The bodies of the kernel and of its idealization are one, -/
theorem bodies : @Cert.Kernel2.defs₀ F _ factsK = @Cert.Kernel2Ideal.defs₀ F _ factsI := by
  unfold Cert.Kernel2.defs₀ Cert.Kernel2Ideal.defs₀
  refine congrArg (Defs.onTc (nD := Cert.Kernel2Ideal.nD) (τ := Cert.Kernel2Ideal.τ) (sig := Cert.Kernel2Ideal.sig) (Λ := Cert.Kernel2Ideal.Λ₀)) ?_
  funext l x
  match l, x with
  | 0, (t, s) => rfl

/-- and with them the two body tables. -/
theorem tables : @Cert.Kernel2.defs F _ factsK = @Cert.Kernel2Ideal.defs F _ factsI := by
  show Pipeline.defs Cert.Kernel2.pcfgs Cert.Kernel2.defs₀ = _
  rw [bodies]
  rfl

/-- The two programs are one text. -/
theorem mains (c : Dev Cert.Kernel2.nD) : @Cert.Kernel2.main F _ factsK c = @Cert.Kernel2Ideal.main F _ factsI c := rfl

set_option maxHeartbeats 2000000 in
/-- The kernel ends without fault, its arguments as they were and its semaphores at zero. -/
theorem kernel_frame (m : (ℓ : Loc Cert.Kernel2.nD Cert.Kernel2.τ Cert.Kernel2.sig) → Buf (Elt F) ℓ) (ρ : Dev Cert.Kernel2.nD → PrngReg)
    (h : Cert.Kernel2Ideal.Exp.Routed (Cert.Kernel2Ideal.Exp.te m 0) (Cert.Kernel2Ideal.Exp.nv m 0)) :
    θ_run (Cert.Kernel2.defs (F := F)) (onTc (τ := Cert.Kernel2.τ) (Cert.Kernel2.main (F := F))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0) := by
  rw [tables, show (Cert.Kernel2.main (F := F)) = Cert.Kernel2Ideal.main from funext mains]
  exact Cert.Kernel2Ideal.Exp.exp_frame m ρ h

end Cert.ExpFrame

end
-- ==== Proof.ExpRef.lean ====
/- The experts' array as mathematics, and the reference's result array index by index: the one-hot mask leaves of the four
   groups of eight experts the one that the tile is routed to.  -/
module

public import proofs.«01_k».proof.Proof.ExpOk
public import proofs.«01_k».proof.Proof.Gen.Reference2Ideal.Run
public import Idealize.ShloMosaic.Lib.Pointwise
public import Idealize.ShloMosaic.Lib.Affine

@[expose] public section

set_option maxRecDepth 16384

noncomputable section

namespace Cert.ExpSpec

open Idealize.ShloMosaic Cert.Reference2Ideal

/-- The gated activation `a / (1 + exp (-a))`. -/
def silu (a : EReal) : EReal := a * Ideal.div 1 (1 + Ideal.exp (-a))

/-- One hidden unit of expert `e` at row `r`, gated. -/
def hid (x : FVec Ideal S40960x1024 .f32) (w1 w3 : FVec Ideal S4x8x1024x256 .f32) (r : Fin 40960) (g : Fin 4) (e : Fin 8) (f : Fin 256) : EReal :=
  silu (∑ k : Fin 1024, x (ix2 r k) * w1 (ix4 g e k f)) * ∑ k : Fin 1024, x (ix2 r k) * w3 (ix4 g e k f)

/-- Expert `e` of group `g` applied to row `r`, at column `d`. -/
def expert (x : FVec Ideal S40960x1024 .f32) (w1 w3 : FVec Ideal S4x8x1024x256 .f32) (w2 : FVec Ideal S4x8x256x1024 .f32)
    (r : Fin 40960) (g : Fin 4) (e : Fin 8) (d : Fin 1024) : EReal :=
  ∑ f : Fin 256, hid x w1 w3 r g e f * w2 (ix4 g e f d)

/-- The tile is one of those in use. -/
def inUse (nv : IVec S1 32) (t : Fin 160) : Prop := (t.val : Int) < (nv (ix1 0)).toInt

open Classical in
/-- Row `s` of tile `t`: the tile's expert applied to it, or zero past the tiles in use. -/
def specAt (te : IVec S160 32) (nv : IVec S1 32) (x : FVec Ideal S40960x1024 .f32) (w1 w3 : FVec Ideal S4x8x1024x256 .f32) (w2 : FVec Ideal S4x8x256x1024 .f32)
    (hte : ∀ i : Fin 160, (te (ix1 i)).toNat < 32) (t : Fin 160) (s : Fin 256) (d : Fin 1024) : EReal :=
  if inUse nv t then expert x w1 w3 w2 ⟨t.val * 256 + s.val, by omega⟩
    ⟨(te (ix1 t)).toNat / 8, by have := hte t; omega⟩ ⟨(te (ix1 t)).toNat % 8, by omega⟩ d else 0

/-- The experts' array. -/
def spec (te : IVec S160 32) (nv : IVec S1 32) (x : FVec Ideal S40960x1024 .f32) (w1 w3 : FVec Ideal S4x8x1024x256 .f32) (w2 : FVec Ideal S4x8x256x1024 .f32)
    (hte : ∀ i : Fin 160, (te (ix1 i)).toNat < 32) : FVec Ideal S40960x1024 .f32 := fun j =>
  specAt te nv x w1 w3 w2 hte ⟨(j 0).val / 256, Nat.div_lt_of_lt_mul (j 0).isLt⟩ ⟨(j 0).val % 256, Nat.mod_lt _ (by decide)⟩ (j 1)

theorem spec_at (te : IVec S160 32) (nv : IVec S1 32) (x : FVec Ideal S40960x1024 .f32) (w1 w3 : FVec Ideal S4x8x1024x256 .f32) (w2 : FVec Ideal S4x8x256x1024 .f32)
    (hte : ∀ i : Fin 160, (te (ix1 i)).toNat < 32) (t : Fin 160) (s : Fin 256) (d : Fin 1024) :
    spec te nv x w1 w3 w2 hte (ix2 ⟨t.val * 256 + s.val, by omega⟩ d) = specAt te nv x w1 w3 w2 hte t s d := by
  have hs := s.isLt
  show specAt te nv x w1 w3 w2 hte ⟨(t.val * 256 + s.val) / 256, _⟩ ⟨(t.val * 256 + s.val) % 256, _⟩ d = _
  congr 1
  · refine Fin.ext ?_
    show (t.val * 256 + s.val) / 256 = t.val
    omega
  · refine Fin.ext ?_
    show (t.val * 256 + s.val) % 256 = s.val
    omega

end Cert.ExpSpec

namespace Cert.Reference2Ideal.Exp

open Cert.Reference2Ideal Cert.Reference2Ideal.Gen Cert.ExpSpec
open Idealize.ShloMosaic Idealize.ShloMosaic.TcCoe Idealize.SL.Sem

variable {F : FTy → Type} [FloatOps F]

/-- Group `o` of an up-projection's weights. -/
def upW (o : Nat) (ho : S4x8x1024x256.Slices ![o, 0, 0, 0] S1x8x1024x256) (w : FVec F S4x8x1024x256 .f32) : FVec F S8x1024x256 .f32 :=
  shapeCast S8x1024x256 (extractStridedSlice S1x8x1024x256 ![o, 0, 0, 0] w ho) shapeCasts_S1x8x1024x256_S8x1024x256

/-- Group `o` of the down-projection's weights. -/
def downW (o : Nat) (ho : S4x8x256x1024.Slices ![o, 0, 0, 0] S1x8x256x1024) (w : FVec F S4x8x256x1024 .f32) : FVec F S8x256x1024 .f32 :=
  shapeCast S8x256x1024 (extractStridedSlice S1x8x256x1024 ![o, 0, 0, 0] w ho) shapeCasts_S1x8x256x1024_S8x256x1024

/-- The one-hot mask of all rows. -/
def maskR (te : IVec S160 32) (nv : IVec S1 32) : FVec F S40960x4x8 .f32 :=
  shapeCast S40960x4x8 (uitofp .f32 (andi
    (cmpi .eq (iotaInDim S160x256x32 32 2) (broadcastInDim S160x256x32 ![0, 1, 2] bcast_S160x1x1_S160x256x32_0_1_2 (broadcastInDim S160x1x1 ![0] bcast_S160_S160x1x1_0 te)))
    (cmpi .slt (iotaInDim S160x256x32 32 0) (broadcastInDim S160x256x32 ![] bcast_S_S160x256x32 (shapeCast S_ nv shapeCasts_S1_S_))))) shapeCasts_S160x256x32_S40960x4x8

/-- A group's columns of the mask. -/
def maskG (o : Nat) (ho : S40960x4x8.Slices ![0, o, 0] S40960x1x8) (mk : FVec F S40960x4x8 .f32) : FVec F S40960x8 .f32 :=
  shapeCast S40960x8 (extractStridedSlice S40960x1x8 ![0, o, 0] mk ho) shapeCasts_S40960x1x8_S40960x8

def dotUp (x : FVec F S40960x1024 .f32) (w : FVec F S8x1024x256 .f32) : FVec F S40960x8x256 .f32 :=
  Host.dotGeneral dot_S40960x1024_S8x1024x256_S40960x8x256_1_1_0_02_n_n none x w

def siluR (a : FVec F S40960x8x256 .f32) : FVec F S40960x8x256 .f32 :=
  mulf a (Host.divf (broadcastInDim S40960x8x256 ![] bcast_S_S40960x8x256 (constant S_ .f32 0x3F800000#32))
    (addf (broadcastInDim S40960x8x256 ![] bcast_S_S40960x8x256 (constant S_ .f32 0x3F800000#32)) (Host.exp (Host.negf a))))

/-- What one group adds. -/
def groupR (x : FVec F S40960x1024 .f32) (w1 w3 : FVec F S8x1024x256 .f32) (w2 : FVec F S8x256x1024 .f32) (mk : FVec F S40960x8 .f32) : FVec F S40960x1024 .f32 :=
  Host.dotGeneral dot_S40960x8x256_S8x256x1024_S40960x1024_12_01_0_2_n_n none
    (mulf (mulf (siluR (dotUp x w1)) (dotUp x w3)) (broadcastInDim S40960x8x256 ![0, 1, 2] bcast_S40960x8x1_S40960x8x256_0_1_2 (broadcastInDim S40960x8x1 ![0, 1] bcast_S40960x8_S40960x8x1_0_1 mk))) w2

/-- The result, of the arguments. -/
def resR (te : IVec S160 32) (nv : IVec S1 32) (x : FVec F S40960x1024 .f32) (w1 w3 : FVec F S4x8x1024x256 .f32) (w2 : FVec F S4x8x256x1024 .f32) : FVec F S40960x1024 .f32 :=
  addf (addf (addf (addf (broadcastInDim S40960x1024 ![] bcast_S_S40960x1024 (constant S_ .f32 0x00000000#32))
    (groupR x (upW 0 slices_S4x8x1024x256_S1x8x1024x256_0_0_0_0 w1) (upW 0 slices_S4x8x1024x256_S1x8x1024x256_0_0_0_0 w3) (downW 0 slices_S4x8x256x1024_S1x8x256x1024_0_0_0_0 w2) (maskG 0 slices_S40960x4x8_S40960x1x8_0_0_0 (maskR te nv))))
    (groupR x (upW 1 slices_S4x8x1024x256_S1x8x1024x256_1_0_0_0 w1) (upW 1 slices_S4x8x1024x256_S1x8x1024x256_1_0_0_0 w3) (downW 1 slices_S4x8x256x1024_S1x8x256x1024_1_0_0_0 w2) (maskG 1 slices_S40960x4x8_S40960x1x8_0_1_0 (maskR te nv))))
    (groupR x (upW 2 slices_S4x8x1024x256_S1x8x1024x256_2_0_0_0 w1) (upW 2 slices_S4x8x1024x256_S1x8x1024x256_2_0_0_0 w3) (downW 2 slices_S4x8x256x1024_S1x8x256x1024_2_0_0_0 w2) (maskG 2 slices_S40960x4x8_S40960x1x8_0_2_0 (maskR te nv))))
    (groupR x (upW 3 slices_S4x8x1024x256_S1x8x1024x256_3_0_0_0 w1) (upW 3 slices_S4x8x1024x256_S1x8x1024x256_3_0_0_0 w3) (downW 3 slices_S4x8x256x1024_S1x8x256x1024_3_0_0_0 w2) (maskG 3 slices_S40960x4x8_S40960x1x8_0_3_0 (maskR te nv)))

theorem res_eq (m : (ℓ : Loc nD τ sig) → Buf (Elt F) ℓ) (c : Dev nD) : Value.res_main_v79 m c
    = resR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

theorem upW_at (o : Nat) (ho) (hl : o < 4) (w : FVec Ideal S4x8x1024x256 .f32) (e : Fin 8) (k : Fin 1024) (f : Fin 256) :
    upW o ho w (ix3 e k f) = w (ix4 ⟨o, hl⟩ e k f) := by
  pointwise [upW]

theorem downW_at (o : Nat) (ho) (hl : o < 4) (w : FVec Ideal S4x8x256x1024 .f32) (e : Fin 8) (f : Fin 256) (d : Fin 1024) :
    downW o ho w (ix3 e f d) = w (ix4 ⟨o, hl⟩ e f d) := by
  pointwise [downW]

theorem maskG_at (o : Nat) (ho) (hl : o < 4) (mk : FVec Ideal S40960x4x8 .f32) (r : Fin 40960) (e : Fin 8) :
    maskG o ho mk (ix2 r e) = mk (ix3 r ⟨o, hl⟩ e) := by
  pointwise [maskG]

theorem dotUp_at (x : FVec Ideal S40960x1024 .f32) (w : FVec Ideal S8x1024x256 .f32) (r : Fin 40960) (e : Fin 8) (f : Fin 256) :
    dotUp x w (ix3 r e f) = ∑ k : Fin 1024, x (ix2 r k) * w (ix3 e k f) := by
  pointwise [dotUp]

theorem siluR_at (a : FVec Ideal S40960x8x256 .f32) (r : Fin 40960) (e : Fin 8) (f : Fin 256) :
    siluR a (ix3 r e f) = silu (a (ix3 r e f)) := by
  pointwise [siluR, silu]

theorem groupR_at (x : FVec Ideal S40960x1024 .f32) (w1 w3 : FVec Ideal S8x1024x256 .f32) (w2 : FVec Ideal S8x256x1024 .f32) (mk : FVec Ideal S40960x8 .f32)
    (r : Fin 40960) (d : Fin 1024) : groupR x w1 w3 w2 mk (ix2 r d)
      = ∑ e : Fin 8, ∑ f : Fin 256, siluR (dotUp x w1) (ix3 r e f) * dotUp x w3 (ix3 r e f) * mk (ix2 r e) * w2 (ix3 e f d) := by
  pointwise [groupR]

open Classical in
/-- The mask is one at the expert of a tile in use, and zero elsewhere. -/
theorem maskR_at (te : IVec S160 32) (nv : IVec S1 32) (t : Fin 160) (s : Fin 256) (g : Fin 4) (e : Fin 8) :
    maskR (F := Ideal) te nv (ix3 ⟨t.val * 256 + s.val, by omega⟩ g e)
      = if g.val * 8 + e.val = (te (ix1 t)).toNat ∧ inUse nv t then (1 : EReal) else 0 := by
  have h : maskR (F := Ideal) te nv (ix3 ⟨t.val * 256 + s.val, by omega⟩ g e)
      = FloatOps.uitofp (F := Ideal) .f32 (IntOp.andi (IntOp.cmpi .eq (BitVec.ofNat 32 (g.val * 8 + e.val)) (te (ix1 t))) (IntOp.cmpi .slt (BitVec.ofNat 32 t.val) (nv (ix1 0)))) := by
    pointwise [maskR]
  have hbit : ∀ b : BitVec 1, FloatOps.uitofp (F := Ideal) .f32 b = if b = 1#1 then (1 : EReal) else 0 := fun b => by
    show (((b.toNat : ℝ)) : EReal) = _
    rcases (by revert b; decide : b = 0#1 ∨ b = 1#1) with rfl | rfl
    · rw [if_neg (by decide)]; simp
    · rw [if_pos rfl]; simp
  rw [h, hbit]
  refine if_congr ?_ rfl rfl
  rw [IntOp.andi_eq_one, IntOp.cmpi_eq, IntOp.cmpi_slt]
  have hg := g.isLt
  have he := e.isLt
  have ht := t.isLt
  refine and_congr ?_ ?_
  · constructor
    · intro h; rw [← h, BitVec.toNat_ofNat]; omega
    · intro h
      refine BitVec.eq_of_toNat_eq ?_
      rw [BitVec.toNat_ofNat, ← h]; omega
  · rw [inUse, show (BitVec.ofNat 32 t.val).toInt = (t.val : Int) from by
      rw [BitVec.toInt_eq_toNat_cond, BitVec.toNat_ofNat]; omega]

open Classical in
/-- One group's sum: the tile's expert when it is of this group, and nothing otherwise. -/
theorem group_at (te : IVec S160 32) (nv : IVec S1 32) (x : FVec Ideal S40960x1024 .f32) (w1 w3 : FVec Ideal S4x8x1024x256 .f32) (w2 : FVec Ideal S4x8x256x1024 .f32)
    (o : Nat) (ho1) (ho2) (ho3) (hl : o < 4) (t : Fin 160) (s : Fin 256) (d : Fin 1024) :
    groupR x (upW o ho1 w1) (upW o ho1 w3) (downW o ho2 w2) (maskG o ho3 (maskR te nv)) (ix2 ⟨t.val * 256 + s.val, by omega⟩ d)
      = if (te (ix1 t)).toNat / 8 = o ∧ inUse nv t then
          expert x w1 w3 w2 ⟨t.val * 256 + s.val, by omega⟩ ⟨o, hl⟩ ⟨(te (ix1 t)).toNat % 8, by omega⟩ d else 0 := by
  have hterm : ∀ (e : Fin 8), (∑ f : Fin 256, siluR (dotUp x (upW o ho1 w1)) (ix3 ⟨t.val * 256 + s.val, by omega⟩ e f) * dotUp x (upW o ho1 w3) (ix3 ⟨t.val * 256 + s.val, by omega⟩ e f)
        * maskG o ho3 (maskR te nv) (ix2 ⟨t.val * 256 + s.val, by omega⟩ e) * downW o ho2 w2 (ix3 e f d))
      = if o * 8 + e.val = (te (ix1 t)).toNat ∧ inUse nv t then expert x w1 w3 w2 ⟨t.val * 256 + s.val, by omega⟩ ⟨o, hl⟩ e d else 0 := fun e => by
    rw [maskG_at o ho3 hl, maskR_at]
    show _ = if (⟨o, hl⟩ : Fin 4).val * 8 + e.val = _ ∧ _ then _ else _
    split
    · refine Finset.sum_congr rfl fun f _ => ?_
      rw [siluR_at, dotUp_at, dotUp_at, downW_at o ho2 hl, mul_one, hid]
      simp only [upW_at o ho1 hl]
    · exact Finset.sum_eq_zero fun f _ => by rw [mul_zero, zero_mul]
  rw [groupR_at, Finset.sum_congr rfl fun e _ => hterm e]
  by_cases hc : (te (ix1 t)).toNat / 8 = o ∧ inUse nv t
  · rw [if_pos hc, Finset.sum_eq_single ⟨(te (ix1 t)).toNat % 8, by omega⟩]
    · exact if_pos ⟨by show o * 8 + (te (ix1 t)).toNat % 8 = _; omega, hc.2⟩
    · intro e _ hne
      refine if_neg fun h => hne (Fin.ext ?_)
      show e.val = (te (ix1 t)).toNat % 8
      omega
    · intro h; exact absurd (Finset.mem_univ _) h
  · rw [if_neg hc]
    refine Finset.sum_eq_zero fun e _ => if_neg fun h => hc ⟨?_, h.2⟩
    have := e.isLt
    omega

/-- **The reference's result array**, index by index. -/
theorem resR_at (te : IVec S160 32) (nv : IVec S1 32) (x : FVec Ideal S40960x1024 .f32) (w1 w3 : FVec Ideal S4x8x1024x256 .f32) (w2 : FVec Ideal S4x8x256x1024 .f32)
    (hte : ∀ i : Fin 160, (te (ix1 i)).toNat < 32) (t : Fin 160) (s : Fin 256) (d : Fin 1024) :
    resR te nv x w1 w3 w2 (ix2 ⟨t.val * 256 + s.val, by omega⟩ d) = specAt te nv x w1 w3 w2 hte t s d := by
  have hz : (broadcastInDim S40960x1024 ![] bcast_S_S40960x1024 (constant (F := Ideal) S_ .f32 0x00000000#32)) (ix2 ⟨t.val * 256 + s.val, by omega⟩ d) = (0 : EReal) := by
    pointwise
  have hr : resR te nv x w1 w3 w2 (ix2 ⟨t.val * 256 + s.val, by omega⟩ d) = _ + _ + _ + _ + _ := rfl
  rw [hr, hz, group_at te nv x w1 w3 w2 0 _ _ _ (by decide), group_at te nv x w1 w3 w2 1 _ _ _ (by decide),
    group_at te nv x w1 w3 w2 2 _ _ _ (by decide), group_at te nv x w1 w3 w2 3 _ _ _ (by decide), zero_add, specAt]
  by_cases hu : inUse nv t
  · rw [if_pos hu]
    have h := hte t
    have hg : ∀ (o : Nat) (hl : o < 4), (te (ix1 t)).toNat / 8 = o →
        expert x w1 w3 w2 ⟨t.val * 256 + s.val, by omega⟩ ⟨o, hl⟩ ⟨(te (ix1 t)).toNat % 8, by omega⟩ d
          = expert x w1 w3 w2 ⟨t.val * 256 + s.val, by omega⟩ ⟨(te (ix1 t)).toNat / 8, by omega⟩ ⟨(te (ix1 t)).toNat % 8, by omega⟩ d := by
      rintro o hl rfl; rfl
    rcases (by omega : (te (ix1 t)).toNat / 8 = 0 ∨ (te (ix1 t)).toNat / 8 = 1 ∨ (te (ix1 t)).toNat / 8 = 2 ∨ (te (ix1 t)).toNat / 8 = 3) with e | e | e | e
    · rw [if_pos ⟨e, hu⟩, if_neg (by omega), if_neg (by omega), if_neg (by omega), add_zero, add_zero, add_zero, hg 0 _ e]
    · rw [if_neg (by omega), if_pos ⟨e, hu⟩, if_neg (by omega), if_neg (by omega), add_zero, add_zero, zero_add, hg 1 _ e]
    · rw [if_neg (by omega), if_neg (by omega), if_pos ⟨e, hu⟩, if_neg (by omega), add_zero, zero_add, zero_add, hg 2 _ e]
    · rw [if_neg (by omega), if_neg (by omega), if_neg (by omega), if_pos ⟨e, hu⟩, zero_add, zero_add, zero_add, hg 3 _ e]
  · rw [if_neg hu, if_neg fun h => hu h.2, if_neg fun h => hu h.2, if_neg fun h => hu h.2, if_neg fun h => hu h.2]
    simp only [add_zero]

/-- The reference's result array is the experts' array. -/
theorem resR_spec (te : IVec S160 32) (nv : IVec S1 32) (x : FVec Ideal S40960x1024 .f32) (w1 w3 : FVec Ideal S4x8x1024x256 .f32) (w2 : FVec Ideal S4x8x256x1024 .f32)
    (hte : ∀ i : Fin 160, (te (ix1 i)).toNat < 32) : resR te nv x w1 w3 w2 = spec te nv x w1 w3 w2 hte := by
  have key : ∀ (r : Fin 40960) (d : Fin 1024), resR te nv x w1 w3 w2 (ix2 r d) = spec te nv x w1 w3 w2 hte (ix2 r d) := fun r d => by
    have h := (resR_at te nv x w1 w3 w2 hte ⟨r.val / 256, by omega⟩ ⟨r.val % 256, by omega⟩ d).trans (spec_at te nv x w1 w3 w2 hte _ _ d).symm
    have e : (⟨r.val / 256 * 256 + r.val % 256, by omega⟩ : Fin 40960) = r := Fin.ext (by show r.val / 256 * 256 + r.val % 256 = r.val; omega)
    rw [← e]
    exact h
  funext j
  rw [eq_ix2 j]
  exact key (j 0) (j 1)

/-- The reference keeps its arguments and leaves every counter at zero. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run m ρ)

end Cert.Reference2Ideal.Exp

end
-- ==== Proof.ExpKer.lean ====
/- The experts' kernel: what its body computes of its blocks, which part of its array each block is, and the result array
   index by index.  -/
module

public import proofs.«01_k».proof.Proof.ExpRef
public import Idealize.ShloMosaic.Lib.Pipeline.ValueKit
public import Idealize.ShloMosaic.Lib.Pipeline.Covers

@[expose] public section

set_option maxRecDepth 16384

noncomputable section

namespace Cert.Kernel2Ideal.Exp

open Cert.Kernel2Ideal Cert.Kernel2Ideal.Gen Cert.ExpSpec
open Idealize.ShloMosaic Idealize.ShloMosaic.TcCoe Idealize.SL.Sem

theorem pay1_at (x0 : FVec Ideal S256x1024 .f32) (x1 x2 : FVec Ideal S1x1024x256 .bf16) (x3 : FVec Ideal S1x256x1024 .bf16) (s : Fin 256) (d : Fin 1024) :
    k0_pay1 (F := Ideal) x0 x1 x2 x3 (ix2 s d)
      = ∑ f : Fin 256, silu (∑ k : Fin 1024, x0 (ix2 s k) * x1 (ix3 0 k f)) * (∑ k : Fin 1024, x0 (ix2 s k) * x2 (ix3 0 k f)) * x3 (ix3 0 f d) := by
  pointwise [k0_pay1, silu]
  simp only [zero_sub]

theorem pay2_at (s : Fin 256) (d : Fin 1024) : k0_pay2 (F := Ideal) (ix2 s d) = 0 := by
  pointwise [k0_pay2]

/-- The body on the blocks of expert `e` and of the rows from `R` on. -/
theorem pay1_expert (x0 : FVec Ideal S256x1024 .f32) (x1 x2 : FVec Ideal S1x1024x256 .bf16) (x3 : FVec Ideal S1x256x1024 .bf16)
    (x : FVec Ideal S40960x1024 .f32) (w1 w3 : FVec Ideal S4x8x1024x256 .f32) (w2 : FVec Ideal S4x8x256x1024 .f32)
    (r : Fin 40960) (g : Fin 4) (e : Fin 8) (s : Fin 256) (d : Fin 1024)
    (h0 : ∀ k, x0 (ix2 s k) = x (ix2 r k)) (h1 : ∀ k f, x1 (ix3 0 k f) = w1 (ix4 g e k f))
    (h2 : ∀ k f, x2 (ix3 0 k f) = w3 (ix4 g e k f)) (h3 : ∀ f, x3 (ix3 0 f d) = w2 (ix4 g e f d)) :
    k0_pay1 (F := Ideal) x0 x1 x2 x3 (ix2 s d) = expert x w1 w3 w2 r g e d := by
  rw [pay1_at, expert]
  simp only [hid, h0, h1, h2, h3]

variable (m : (ℓ : Loc nD τ sig) → Buf (Elt Ideal) ℓ) (c : Dev nD)

/-- The arguments as arrays. -/
abbrev xA : FVec Ideal S40960x1024 .f32 := m ((c : Thread nD τ).loc main_arg2)
abbrev w1A : FVec Ideal S4x8x1024x256 .f32 := m ((c : Thread nD τ).loc main_arg3)
abbrev w3A : FVec Ideal S4x8x1024x256 .f32 := m ((c : Thread nD τ).loc main_arg4)
abbrev w2A : FVec Ideal S4x8x256x1024 .f32 := m ((c : Thread nD τ).loc main_arg5)

theorem V_v1 (e : Fin 32) (k : Fin 1024) (f : Fin 256) :
    (V m c main_v1 : FVec Ideal S32x1024x256 .bf16) (ix3 e k f) = w1A m c (ix4 ⟨e.val / 8, by omega⟩ ⟨e.val % 8, by omega⟩ k f) := by
  have h : V m c main_v1 = (truncf .bf16 (shapeCast S32x1024x256 (w1A m c) shapeCasts_S4x8x1024x256_S32x1024x256) bitsLt_bf16_f32 : FVec Ideal S32x1024x256 .bf16) := by
    unfold V hostOps0
    after_reads_simp
    rfl
  rw [h]
  pointwise

theorem V_v3 (e : Fin 32) (k : Fin 1024) (f : Fin 256) :
    (V m c main_v3 : FVec Ideal S32x1024x256 .bf16) (ix3 e k f) = w3A m c (ix4 ⟨e.val / 8, by omega⟩ ⟨e.val % 8, by omega⟩ k f) := by
  have h : V m c main_v3 = (truncf .bf16 (shapeCast S32x1024x256 (w3A m c) shapeCasts_S4x8x1024x256_S32x1024x256) bitsLt_bf16_f32 : FVec Ideal S32x1024x256 .bf16) := by
    unfold V hostOps0
    after_reads_simp
    rfl
  rw [h]
  pointwise

theorem V_v5 (e : Fin 32) (f : Fin 256) (d : Fin 1024) :
    (V m c main_v5 : FVec Ideal S32x256x1024 .bf16) (ix3 e f d) = w2A m c (ix4 ⟨e.val / 8, by omega⟩ ⟨e.val % 8, by omega⟩ f d) := by
  have h : V m c main_v5 = (truncf .bf16 (shapeCast S32x256x1024 (w2A m c) shapeCasts_S4x8x256x1024_S32x256x1024) bitsLt_bf16_f32 : FVec Ideal S32x256x1024 .bf16) := by
    unfold V hostOps0
    after_reads_simp
    rfl
  rw [h]
  pointwise

variable (hO : Ok m)

theorem idx0 (t : Fin (cfgM m hO).N) : ((cfgM m hO).win 0).index t
    = ![(Scalar.minsi (BitVec.ofNat 32 (grid0.coords t 0).val) (Scalar.subi (nvOf (tbl m) (ix1 0)) 1#32)).toNat, 0] := map0 (tbl m) (grid0.coords t)
theorem idx1 (t : Fin (cfgM m hO).N) : ((cfgM m hO).win 1).index t = ![(teOf (tbl m) (ix1 (grid0.coords t 0))).toNat, 0, 0] := map1 (tbl m) (grid0.coords t)
theorem idx2 (t : Fin (cfgM m hO).N) : ((cfgM m hO).win 2).index t = ![(teOf (tbl m) (ix1 (grid0.coords t 0))).toNat, 0, 0] := map2 (tbl m) (grid0.coords t)
theorem idx3 (t : Fin (cfgM m hO).N) : ((cfgM m hO).win 3).index t = ![(teOf (tbl m) (ix1 (grid0.coords t 0))).toNat, 0, 0] := map3 (tbl m) (grid0.coords t)

theorem map4 : ∀ t : Fin grid0.N, cc0_transform_4 (grid0.coords t) = ![(grid0.coords t 0).val, 0] := by decide +kernel
theorem idx4 (t : Fin (cfgM m hO).N) : ((cfgM m hO).win 4).index t = ![(grid0.coords t 0).val, 0] := map4 t

theorem blk0 (t : Fin (cfgM m hO).N) (s : Fin 256) (k : Fin 1024) (i : Fin 160)
    (hi : (Scalar.minsi (BitVec.ofNat 32 (grid0.coords t 0).val) (Scalar.subi (nvOf (tbl m) (ix1 0)) 1#32)).toNat = i.val) :
    iblk m hO c 0 t (ix2 s k) = xA m c (ix2 ⟨i.val * 256 + s.val, by omega⟩ k) := by
  rw [show xA m c = V m c main_arg2 from (V_rest m c main_arg2 (by decide)).symm]
  blk_ext [iblk, idx0 m hO t, hi]

theorem blk1 (t : Fin (cfgM m hO).N) (k : Fin 1024) (f : Fin 256) (e : Fin 32) (he : (teOf (tbl m) (ix1 (grid0.coords t 0))).toNat = e.val) :
    iblk m hO c 1 t (ix3 0 k f) = (V m c main_v1 : FVec Ideal S32x1024x256 .bf16) (ix3 e k f) := by
  blk_ext [iblk, idx1 m hO t, he]

theorem blk2 (t : Fin (cfgM m hO).N) (k : Fin 1024) (f : Fin 256) (e : Fin 32) (he : (teOf (tbl m) (ix1 (grid0.coords t 0))).toNat = e.val) :
    iblk m hO c 2 t (ix3 0 k f) = (V m c main_v3 : FVec Ideal S32x1024x256 .bf16) (ix3 e k f) := by
  blk_ext [iblk, idx2 m hO t, he]

theorem blk3 (t : Fin (cfgM m hO).N) (f : Fin 256) (d : Fin 1024) (e : Fin 32) (he : (teOf (tbl m) (ix1 (grid0.coords t 0))).toNat = e.val) :
    iblk m hO c 3 t (ix3 0 f d) = (V m c main_v5 : FVec Ideal S32x256x1024 .bf16) (ix3 e f d) := by
  blk_ext [iblk, idx3 m hO t, he]

variable (h : Routed (te m c) (nv m c))

/-- The point's tile. -/
abbrev tOf (t : Fin (cfgM m hO).N) : Fin 160 := ⟨(grid0.coords t 0).val, (grid0.coords t 0).isLt⟩

include h in
/-- The block of grid point `t`, index by index. -/
theorem outAt_spec (t : Fin (cfgM m hO).N) (s : Fin 256) (d : Fin 1024) :
    outAt m hO c t (ix2 s d) = specAt (te m c) (nv m c) (xA m c) (w1A m c) (w3A m c) (w2A m c) h.expert (tOf m hO t) s d := by
  have hw : word c (tbl m 1) = nv m c (ix1 0) := congrFun (tbl_nv m c) (ix1 0)
  have hc : k0_cond1 (grid0.coords t) (word c (tbl m 1)) = 1#1 ↔ inUse (nv m c) (tOf m hO t) := by
    have ht := (tOf m hO t).isLt
    rw [cond1_iff, hw]
    refine IntOp.cmpi_slt.trans ?_
    rw [inUse, show (BitVec.ofNat 32 (grid0.coords t 0).val).toInt = ((tOf m hO t).val : Int) from by
      rw [BitVec.toInt_eq_toNat_cond, BitVec.toNat_ofNat]
      show _ = ((grid0.coords t 0).val : Int)
      have ht' : (grid0.coords t 0).val < 160 := ht
      omega]
  rw [specAt]
  by_cases hu : inUse (nv m c) (tOf m hO t)
  · have he : (teOf (tbl m) (ix1 (grid0.coords t 0))).toNat = (⟨(te m c (ix1 (tOf m hO t))).toNat, h.expert _⟩ : Fin 32).val := by
      rw [tbl_te m c]
      rfl
    have hi : (Scalar.minsi (BitVec.ofNat 32 (grid0.coords t 0).val) (Scalar.subi (nvOf (tbl m) (ix1 0)) 1#32)).toNat = (tOf m hO t).val := by
      have e := tile_word (tOf m hO t) (nvOf (tbl m) (ix1 0)) (by rw [tbl_nv m c]; exact h.used)
      have hu' : ((tOf m hO t).val : Int) < (nvOf (tbl m) (ix1 0)).toInt := by rw [tbl_nv m c]; exact hu
      have e' : ((Scalar.minsi (BitVec.ofNat 32 (grid0.coords t 0).val) (Scalar.subi (nvOf (tbl m) (ix1 0)) 1#32)).toNat : Int) = min ((tOf m hO t).val : Int) _ := e
      omega
    rw [if_pos hu]
    refine (congrFun (if_pos (hc.mpr hu)) (ix2 s d)).trans ?_
    exact pay1_expert (iblk m hO c 0 t) (iblk m hO c 1 t) (iblk m hO c 2 t) (iblk m hO c 3 t) _ _ _ _ _ _ _ s d
      (fun k => blk0 m c hO t s k _ hi) (fun k f => (blk1 m c hO t k f _ he).trans (V_v1 m c _ k f))
      (fun k f => (blk2 m c hO t k f _ he).trans (V_v3 m c _ k f)) (fun f => (blk3 m c hO t f d _ he).trans (V_v5 m c _ f d))
  · rw [if_neg hu]
    exact (congrFun (if_neg fun hk => hu (hc.mp hk)) (ix2 s d)).trans (pay2_at s d)

/-- Every block of the array is some point's. -/
theorem hit4 (β : (a : Fin 2) → Fin ((S40960x1024.size a + S256x1024.size a - 1) / S256x1024.size a)) :
    ∃ i : grid0.Coords, ∀ a, cc0_transform_4 i a = (β a).val := by
  have h0 : (β 0).val < 160 := (β 0).isLt
  have h1 : (β 1).val < 1 := (β 1).isLt
  refine ⟨fun a => ⟨(β 0).val, by fin_cases a; exact h0⟩, fun a => ?_⟩
  fin_cases a
  · show (BitVec.ofNat 32 (β 0).val).toNat = (β 0).val
    rw [BitVec.toNat_ofNat]
    omega
  · show 0 = (β 1).val
    omega

/-- Every block of the result is written. -/
theorem covers4 : ((cfgM m hO).win 4).Covers :=
  ((cfgM m hO).win 4).covers_of_indexMap_surj rfl (show ∀ a : Fin 2, 0 < S256x1024.size a by decide) hit4

include h in
/-- **The kernel's result array.** -/
theorem arr_spec : (expDats m hO 0 c).arrAt 4 (cfgM m hO).N = spec (te m c) (nv m c) (xA m c) (w1A m c) (w3A m c) (w2A m c) h.expert := by
  refine (expDats m hO 0 c).arrAt_eq_of_covers 4 _ (covers4 m hO) fun t hf y => ?_
  blk_simp
  rw [exp_after4]
  have key : ∀ (s : Fin 256) (d : Fin 1024), outAt m hO c t (ix2 s d)
      = spec (te m c) (nv m c) (xA m c) (w1A m c) (w3A m c) (w2A m c) h.expert ((((cfgM m hO).win 4).blk t).view.emb (ix2 s d)) := fun s d => by
    have ht := (tOf m hO t).isLt
    have e : (((cfgM m hO).win 4).blk t).view.emb (ix2 s d) = ix2 (⟨(tOf m hO t).val * 256 + s.val, by omega⟩ : Fin 40960) d := by
      blk_ext [idx4 m hO t]
    rw [e, outAt_spec m c hO h, spec_at]
  have all : ∀ z : S256x1024.Idx, outAt m hO c t z
      = spec (te m c) (nv m c) (xA m c) (w1A m c) (w3A m c) (w2A m c) h.expert ((((cfgM m hO).win 4).blk t).view.emb z) := fun z => by
    rw [eq_ix2 z]; exact key (z 0) (z 1)
  exact all y

end Cert.Kernel2Ideal.Exp

end
-- ==== Proof.NormRun.lean ====
/- The run of the norm-and-projection kernel, on a grid of row tiles by column tiles: at a row's first column tile the
   body normalises the rows into its scratch and stores the small projections, at every column tile it multiplies the
   scratch by the tile of the weights. The body's triple at one grid point, the launch with the scratch's contents
   tracked from point to point, and what the result arrays are made of.  -/
module

public import proofs.«01_k».proof.Proof.ExpKer
public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Pipeline.TableIdle
public import Idealize.ShloMosaic.Lib.Pointwise
public import Idealize.ShloMosaic.Lib.Tactic
public import Idealize.ShloMosaic.Lib.Quiescent

@[expose] public section

set_option maxRecDepth 16384

noncomputable section

namespace Cert.Kernel3Ideal.Norm

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body at one grid point -/

/-- The small projections of a row tile, of its rows, the norm's weights, scale and shift, and the small weights. -/
def osBlk (x0 : Vec F S1024x1024 .f32) (x1 : Vec F S1x1024 .f32) (x2 : Vec F S1x1x1024 .f32) (x3 : Vec F S1x1x1024 .f32) (x5 : Vec F S1024x128 .f32) : Vec F S1024x128 .f32 :=
  k0_pay1 (k0_pay6 x0 x1 x2 x3) (k0_pay7 x0 x1 x2 x3) (k0_pay8 x5) (k0_pay9 x5) (constant S1024x128 .f32 0x00000000#32)

/-- The scratch after the body, of its contents before: the rows normalised anew at a row tile's first point. -/
def scr (i : grid0.Coords) (s : Vec F S1024x1024 .bf16) (x0 : Vec F S1024x1024 .f32) (x1 : Vec F S1x1024 .f32) (x2 : Vec F S1x1x1024 .f32) (x3 : Vec F S1x1x1024 .f32) : Vec F S1024x1024 .bf16 :=
  if k0_cond1 i = 1#1 then k0_pay4 x0 x1 x2 x3 else s

/-- The small result's block after the body, of its contents before. -/
def small (i : grid0.Coords) (v : Vec F S1024x128 .f32) (x0 : Vec F S1024x1024 .f32) (x1 : Vec F S1x1024 .f32) (x2 : Vec F S1x1x1024 .f32) (x3 : Vec F S1x1x1024 .f32) (x5 : Vec F S1024x128 .f32) : Vec F S1024x128 .f32 :=
  if k0_cond1 i = 1#1 then osBlk x0 x1 x2 x3 x5 else v

set_option maxHeartbeats 2000000 in
/-- One grid point: with the inputs' blocks held, the body ends with the scratch and the small result's block at what
    `scr` and `small` say, the main result's block at the product of the scratch and the weights' tile, the rest as it
    was. -/
theorem body_triple (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x1024 .bf16) (harg10 : arg10.IsWhole)
    (x0 : Vec F S1024x1024 .f32) (x1 : Vec F S1x1024 .f32) (x2 : Vec F S1x1x1024 .f32) (x3 : Vec F S1x1x1024 .f32) (x4 : Vec F S1024x1024 .bf16) (x5 : Vec F S1024x128 .f32) (v : Vec F S1024x128 .f32) (s : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare v ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (scr i s x0 x1 x2 x3) x4) ∗ owns (c : Thread nD τ) arg9 fullShare (small i v x0 x1 x2 x3 x5) ∗ owns (c : Thread nD τ) arg10 fullShare (scr i s x0 x1 x2 x3)) -∗ K ⟨⟩))
      ⊢ wp frame (wpE (defs₀ (F := F)) Variants.none c none) E (cc0_norm_in_proj i arg2 harg2 arg3 harg3 arg4 harg4 arg5 harg5 arg6 harg6 arg7 harg7 arg8 harg8 arg9 harg9 arg10 harg10) K := by
  have hz : (![0, 0] : Fin 2 → Nat) = fun _ => 0 := funext fun a => by fin_cases a <;> rfl
  have hz3 : (![0, 0, 0] : Fin 3 → Nat) = fun _ => 0 := funext fun a => by fin_cases a <;> rfl
  simp only [cc0_norm_in_proj_eq_skeleton]; unfold cc0_norm_in_proj_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
  have p0 : View.readAt (Elt F) arg2.view (Rect.unit (s := S1024x1024) ![0, 0] S1024x1024.size inb_S1024x1024_S1024x1024_0_0).toLoadRect (harg2.unread x0) = x0 := by
    rw [View.readAt_eq_ld, hf0]; exact View.ld_unit_zero (S := S1024x1024) hz _ _
  have p1 : View.readAt (Elt F) arg3.view (Rect.unit (s := S1x1024) ![0, 0] S1x1024.size inb_S1x1024_S1x1024_0_0).toLoadRect (harg3.unread x1) = x1 := by
    rw [View.readAt_eq_ld, hf1]; exact View.ld_unit_zero (S := S1x1024) hz _ _
  have p2 : View.readAt (Elt F) arg4.view (Rect.unit (s := S1x1x1024) ![0, 0, 0] S1x1x1024.size inb_S1x1x1024_S1x1x1024_0_0_0).toLoadRect (harg4.unread x2) = x2 := by
    rw [View.readAt_eq_ld, hf2]; exact View.ld_unit_zero (S := S1x1x1024) hz3 _ _
  have p3 : View.readAt (Elt F) arg5.view (Rect.unit (s := S1x1x1024) ![0, 0, 0] S1x1x1024.size inb_S1x1x1024_S1x1x1024_0_0_0).toLoadRect (harg5.unread x3) = x3 := by
    rw [View.readAt_eq_ld, hf3]; exact View.ld_unit_zero (S := S1x1x1024) hz3 _ _
  have p4 : View.readAt (Elt F) arg6.view (Rect.unit (s := S1024x1024) ![0, 0] S1024x1024.size inb_S1024x1024_S1024x1024_0_0).toLoadRect (harg6.unread x4) = x4 := by
    rw [View.readAt_eq_ld, hf4]; exact View.ld_unit_zero (S := S1024x1024) hz _ _
  have p5 : View.readAt (Elt F) arg7.view (Rect.unit (s := S1024x128) ![0, 0] S1024x128.size inb_S1024x128_S1024x128_0_0).toLoadRect (harg7.unread x5) = x5 := by
    rw [View.readAt_eq_ld, hf5]; exact View.ld_unit_zero (S := S1024x128) hz _ _
  by_cases h1 : k0_cond1 i = 1#1
  · rw [dif_pos h1]
    unfold scr small
    rw [if_pos h1, if_pos h1]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro
      sl_unfold_run_names
      refine (View.read_writes_full _ _ _ _ _).trans ?_
      refine congrArg (k0_pay2 · x4) ?_
      exact View.readCov_unit_zero (S := S1024x1024) _ hz _ _
    isplitl [H7]
    · iexists _; isplitr
      swap; · iexact H7
      ipureintro
      sl_unfold_run_names
      refine (View.read_writes_full _ _ _ _ _).trans ?_
      rfl
    iexists _; isplitr
    swap; · iexact HS
    ipureintro
    sl_unfold_run_names
    exact View.read_writes_full _ _ _ _ _
  · rw [dif_neg h1]
    unfold scr small
    rw [if_neg h1, if_neg h1]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro
      sl_unfold_run_names
      refine (View.read_writes_full _ _ _ _ _).trans ?_
      refine congrArg (k0_pay2 · x4) ?_
      rw [View.readAt_eq_ld, hfs]
      exact View.ld_unit_zero (S := S1024x1024) hz _ _
    isplitl [H7]
    · iexists _; isplitr; · ipureintro; exact harg9.read_unread _
      iexact H7
    iexists _; isplitr; · ipureintro; exact harg10.read_unread _
    iexact HS

/-! ## The launch -/

section Launch

variable (m : (ℓ : Loc nD τ sig) → Buf (Elt F) ℓ) (ρ : Dev nD → PrngReg)

/-- The first point of the row tile that position `n` is in. -/
def base (n : ℕ) : Fin cfg0.N := ⟨min (n - n % 11) 165, Nat.lt_of_le_of_lt (Nat.min_le_right _ _) (by decide : 165 < grid0.N)⟩

theorem base_first (t : Fin cfg0.N) (h : t.val % 11 = 0) : base t.val = t := by
  have ht : t.val < 176 := Nat.lt_of_lt_of_eq t.isLt N_0
  exact Fin.ext (show min (t.val - t.val % 11) 165 = t.val by omega)

theorem base_succ (n : ℕ) (h : (n + 1) % 11 ≠ 0) : base (n + 1) = base n :=
  Fin.ext (show min (n + 1 - (n + 1) % 11) 165 = min (n - n % 11) 165 by omega)

/-- The body's condition holds at a row tile's first point. -/
theorem cond_iff : ∀ t : Fin cfg0.N, k0_cond1 (grid0.coords t) = 1#1 ↔ t.val % 11 = 0 :=
  (by decide +kernel : ∀ t : Fin grid0.N, k0_cond1 (grid0.coords t) = 1#1 ↔ t.val % 11 = 0)

/-- The normalised rows of the row tile whose first point is `t`, -/
def hAt (c : Dev nD) (t : Fin cfg0.N) : Vec F S1024x1024 .bf16 :=
  k0_pay4 (iblk m c 0 t) (iblk m c 1 t) (iblk m c 2 t) (iblk m c 3 t)

/-- and their small projections. -/
def osAt (c : Dev nD) (t : Fin cfg0.N) : Vec F S1024x128 .f32 :=
  osBlk (iblk m c 0 t) (iblk m c 1 t) (iblk m c 2 t) (iblk m c 3 t) (iblk m c 5 t)

/-- The main result's block of grid point `t`. -/
def oAt (c : Dev nD) (t : Fin cfg0.N) : Vec F S1024x1024 .bf16 := k0_pay2 (hAt m c (base t.val)) (iblk m c 4 t)

/-- The scratch as the body is handed it. -/
abbrev scM : Memref sig .tc .vmem S1024x1024 .bf16 := Memref.whole cc0_scratch0

/-- What is known of the scratch before position `n`: inside a row tile it holds the tile's normalised rows. -/
def inv (c : Dev nD) (n : ℕ) : sProp 𝕄 :=
  iprop((∃ s, ⌜n % 11 ≠ 0 → s = hAt m c (base n)⌝ ∗ owns (c : Thread nD τ) scM fullShare s) ∗ (∃ r, prngReg c r))

/-- The pipeline's proof data: the arrays as the region finds them; after the body each input's buffer at its block, the
    main result's at `oAt` and the small one's at its row tile's projections; the scratch tracked; nothing owed. -/
def normDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t
    | ⟨7, _⟩ => osAt m c (base t.val)
  Φ n := inv m c n.val
  q _ := fullShare
  owed _ := 0

theorem norm_A (c : Dev nD) (w : Fin cfg0.W) : (normDats m 0 c).A w = V m c (Pipeline.arrRef spec0 w) := by
  dsimp only [normDats]

theorem norm_after0 (c : Dev nD) (t : Fin cfg0.N) : (normDats m 0 c).after 0 t = iblk m c 0 t := by dsimp only [normDats]
theorem norm_after1 (c : Dev nD) (t : Fin cfg0.N) : (normDats m 0 c).after 1 t = iblk m c 1 t := by dsimp only [normDats]
theorem norm_after2 (c : Dev nD) (t : Fin cfg0.N) : (normDats m 0 c).after 2 t = iblk m c 2 t := by dsimp only [normDats]
theorem norm_after3 (c : Dev nD) (t : Fin cfg0.N) : (normDats m 0 c).after 3 t = iblk m c 3 t := by dsimp only [normDats]
theorem norm_after4 (c : Dev nD) (t : Fin cfg0.N) : (normDats m 0 c).after 4 t = iblk m c 4 t := by dsimp only [normDats]
theorem norm_after5 (c : Dev nD) (t : Fin cfg0.N) : (normDats m 0 c).after 5 t = iblk m c 5 t := by dsimp only [normDats]
theorem norm_after6 (c : Dev nD) (t : Fin cfg0.N) : (normDats m 0 c).after 6 t = oAt m c t := by dsimp only [normDats]
theorem norm_after7 (c : Dev nD) (t : Fin cfg0.N) : (normDats m 0 c).after 7 t = osAt m c (base t.val) := by dsimp only [normDats]

theorem norm_before0 (c : Dev nD) (t : Fin cfg0.N) (d) : (normDats m 0 c).before 0 t d = iblk m c 0 t :=
  before0_0_of m (normDats m 0 c) (norm_A m c 0) (norm_after0 m c) t d
theorem norm_before1 (c : Dev nD) (t : Fin cfg0.N) (d) : (normDats m 0 c).before 1 t d = iblk m c 1 t :=
  before0_1_of m (normDats m 0 c) (norm_A m c 1) (norm_after1 m c) t d
theorem norm_before2 (c : Dev nD) (t : Fin cfg0.N) (d) : (normDats m 0 c).before 2 t d = iblk m c 2 t :=
  before0_2_of m (normDats m 0 c) (norm_A m c 2) (norm_after2 m c) t d
theorem norm_before3 (c : Dev nD) (t : Fin cfg0.N) (d) : (normDats m 0 c).before 3 t d = iblk m c 3 t :=
  before0_3_of m (normDats m 0 c) (norm_A m c 3) (norm_after3 m c) t d
theorem norm_before4 (c : Dev nD) (t : Fin cfg0.N) (d) : (normDats m 0 c).before 4 t d = iblk m c 4 t :=
  before0_4_of m (normDats m 0 c) (norm_A m c 4) (norm_after4 m c) t d
theorem norm_before5 (c : Dev nD) (t : Fin cfg0.N) (d) : (normDats m 0 c).before 5 t d = iblk m c 5 t :=
  before0_5_of m (normDats m 0 c) (norm_A m c 5) (norm_after5 m c) t d

/-- The small result's buffer is new at a row tile's first point and carried over at its others. -/
theorem norm_fresh (t : Fin cfg0.N) : cfg0.fresh 7 t.val = decide (t.val % 11 = 0) :=
  cfg0.fresh_tab 7 (fun n => decide (n % 11 = 0)) rfl
    (by decide +kernel : ∀ t : Fin grid0.N, decide ((t.val + 1) % 11 = 0) = (win0_7.flush t || (idle0 7 (grid0.coords t) && decide (t.val % 11 = 0))))
    t.val t.isLt.le

/-- Past a row tile's first point the small result's buffer holds the tile's projections. -/
theorem norm_before7 (c : Dev nD) (t : Fin cfg0.N) (h : t.val % 11 ≠ 0) (d) : (normDats m 0 c).before 7 t d = osAt m c (base t.val) := by
  have hb : ∀ n : ℕ, n % 11 ≠ 0 → base (n - 1) = base n := fun n hn => by
    have := base_succ (n - 1) (by rwa [Nat.sub_add_cancel (by omega)])
    rw [Nat.sub_add_cancel (by omega)] at this; exact this.symm
  have hc : ∀ (t : Fin cfg0.N) (_ : t.val ≠ 0), cfg0.idle 7 (cfg0.grid.coords t) = true → cfg0.fresh 7 t.val = false →
      (normDats m 0 c).after 7 t = (normDats m 0 c).after 7 ⟨t.val - 1, by omega⟩ := fun t _ _ hf => by
    rw [norm_fresh] at hf
    rw [norm_after7, norm_after7]
    exact congrArg (osAt m c) (hb t.val (of_decide_eq_false hf)).symm
  rw [(normDats m 0 c).before_out_traj 7 rfl (fun _ _ => rfl) hc t.val t rfl d, norm_fresh, if_neg (by simpa using h), norm_after7]
  exact congrArg (osAt m c) (hb t.val h)

abbrev st0 (t : Fin cfg0.N) : Memref sig .tc .vmem S1024x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1x1x1024 .f32 := win0_2.stage (cfg0.slots t 2)
abbrev st3 (t : Fin cfg0.N) : Memref sig .tc .vmem S1x1x1024 .f32 := win0_3.stage (cfg0.slots t 3)
abbrev st4 (t : Fin cfg0.N) : Memref sig .tc .vmem S1024x1024 .bf16 := win0_4.stage (cfg0.slots t 4)
abbrev st5 (t : Fin cfg0.N) : Memref sig .tc .vmem S1024x128 .f32 := win0_5.stage (cfg0.slots t 5)
abbrev st6 (t : Fin cfg0.N) : Memref sig .tc .vmem S1024x1024 .bf16 := win0_6.stage (cfg0.slots t 6)
abbrev st7 (t : Fin cfg0.N) : Memref sig .tc .vmem S1024x128 .f32 := win0_7.stage (cfg0.slots t 7)

/-- What the body is called with at point `t`. -/
def normPre (c : Dev nD) (t : Fin cfg0.N) : sProp 𝕄 :=
  iprop(inv m c t.val ∗ (normDats m 0 c).owesAt () t.castSucc
    ∗ (∃ d, owns (c : Thread nD τ) (st0 t) fullShare ((normDats m 0 c).before 0 t d))
    ∗ (∃ d, owns (c : Thread nD τ) (st1 t) fullShare ((normDats m 0 c).before 1 t d))
    ∗ (∃ d, owns (c : Thread nD τ) (st2 t) fullShare ((normDats m 0 c).before 2 t d))
    ∗ (∃ d, owns (c : Thread nD τ) (st3 t) fullShare ((normDats m 0 c).before 3 t d))
    ∗ (∃ d, owns (c : Thread nD τ) (st4 t) fullShare ((normDats m 0 c).before 4 t d))
    ∗ (∃ d, owns (c : Thread nD τ) (st5 t) fullShare ((normDats m 0 c).before 5 t d))
    ∗ (∃ d, owns (c : Thread nD τ) (st6 t) fullShare ((normDats m 0 c).before 6 t d))
    ∗ (∃ d, owns (c : Thread nD τ) (st7 t) fullShare ((normDats m 0 c).before 7 t d)))

/-- What the body returns at point `t`; the small result's block as found where the body stores none. -/
def normPost (c : Dev nD) (t : Fin cfg0.N) : sProp 𝕄 :=
  iprop(inv m c (t.val + 1) ∗ (normDats m 0 c).owesAt () t.succ
    ∗ owns (c : Thread nD τ) (st0 t) fullShare ((normDats m 0 c).after 0 t)
    ∗ owns (c : Thread nD τ) (st1 t) fullShare ((normDats m 0 c).after 1 t)
    ∗ owns (c : Thread nD τ) (st2 t) fullShare ((normDats m 0 c).after 2 t)
    ∗ owns (c : Thread nD τ) (st3 t) fullShare ((normDats m 0 c).after 3 t)
    ∗ owns (c : Thread nD τ) (st4 t) fullShare ((normDats m 0 c).after 4 t)
    ∗ owns (c : Thread nD τ) (st5 t) fullShare ((normDats m 0 c).after 5 t)
    ∗ owns (c : Thread nD τ) (st6 t) fullShare ((normDats m 0 c).after 6 t)
    ∗ (∃ d, owns (c : Thread nD τ) (st7 t) fullShare (small (grid0.coords t) ((normDats m 0 c).before 7 t d) (iblk m c 0 t) (iblk m c 1 t) (iblk m c 2 t) (iblk m c 3 t) (iblk m c 5 t))))

/-- The scratch after point `t`, of what was known before it. -/
theorem scr_at (c : Dev nD) (t : Fin cfg0.N) (s : Vec F S1024x1024 .bf16) (hs : t.val % 11 ≠ 0 → s = hAt m c (base t.val)) :
    scr (grid0.coords t) s (iblk m c 0 t) (iblk m c 1 t) (iblk m c 2 t) (iblk m c 3 t) = hAt m c (base t.val) := by
  unfold scr
  by_cases h : t.val % 11 = 0
  · rw [if_pos ((cond_iff t).mpr h), base_first t h]; rfl
  · rw [if_neg fun h' => h ((cond_iff t).mp h')]; exact hs h

set_option maxHeartbeats 1000000 in
/-- The body at any grid point. -/
theorem norm_sound (c : Dev nD) (t : Fin cfg0.N) :
    normPre m c t ⊢ wp frame (wpE (defs₀ (F := F)) Variants.none c none) Set.univ (bodyAt0 t) (fun _ => normPost m c t) := by
  unfold normPre normPost bodyAt0 inv
  simp only [norm_before0, norm_before1, norm_before2, norm_before3, norm_before4, norm_before5]
  rw [show (normDats m 0 c).owesAt () t.succ = (normDats m 0 c).owesAt () t.castSucc from rfl,
    norm_after0, norm_after1, norm_after2, norm_after3, norm_after4, norm_after5, norm_after6]
  unfold oAt
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← scr_at m c t s hs]
  iapply (body_triple c (grid0.coords t) _ _ _ _ _ _ _ _ _ _ _ _ _ _ _ _ _ _ (iblk m c 0 t) (iblk m c 1 t) (iblk m c 2 t) (iblk m c 3 t) (iblk m c 4 t) (iblk m c 5 t) ((normDats m 0 c).before 7 t d7) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]
    · iexists _; isplitr
      swap; · iexact HS
      ipureintro
      intro h
      rw [base_succ _ h]
      exact scr_at m c t s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7
  iexact H7

theorem norm_row (t : Fin cfg0.N) :
    defs₀ (F := F) .tc cfg0.body (cfg0.bodyArgs t (cfg0.slots t)) = bodyAt0 t := by
  unfold defs₀; rw [Defs.onTc_tc]

/-- The small result's block as the pipeline asks for it: where the body stores it, at the row tile's projections; where
    it does not, as found — and at the tile's last point, which writes it back, that is the projections again. -/
theorem small_at (c : Dev nD) (t : Fin cfg0.N) (d) :
    (t.val % 11 = 0 → small (grid0.coords t) ((normDats m 0 c).before 7 t d) (iblk m c 0 t) (iblk m c 1 t) (iblk m c 2 t) (iblk m c 3 t) (iblk m c 5 t) = osAt m c (base t.val))
    ∧ (t.val % 11 ≠ 0 → small (grid0.coords t) ((normDats m 0 c).before 7 t d) (iblk m c 0 t) (iblk m c 1 t) (iblk m c 2 t) (iblk m c 3 t) (iblk m c 5 t) = (normDats m 0 c).before 7 t d) := by
  unfold small
  constructor
  · intro h; rw [if_pos ((cond_iff t).mpr h), base_first t h]; rfl
  · intro h; rw [if_neg fun h' => h ((cond_iff t).mp h')]

set_option maxHeartbeats 1000000 in
/-- The body obligation of the pipeline rule. -/
theorem norm_obligation (c : Dev nD) : BodyObligation (normDats (F := F) m 0 c) (defs₀ (F := F)) Variants.none () Set.univ := fun t => by
  rw [bigSep_W0, bigSep_W0, norm_row]
  refine triple_restated (norm_sound m c t) rfl .rfl fun _ => ?_
  refine sep_mono .rfl (sep_mono .rfl (sep_mono .rfl (sep_mono .rfl (sep_mono .rfl (sep_mono .rfl (sep_mono .rfl (sep_mono .rfl (sep_mono .rfl ?_))))))))
  dsimp only
  split
  · rename_i h
    have h' : (!(k0_cond1 (grid0.coords t) == 1#1)) = true := h
    have hn : t.val % 11 ≠ 0 := fun e => by rw [(cond_iff t).mpr e] at h'; exact absurd h' (by decide)
    split
    · iintro ⟨%d, H⟩
      rw [(small_at m c t d).2 hn]
      iexists d; iexact H
    · iintro ⟨%d, H⟩
      rw [(small_at m c t d).2 hn, norm_before7 m c t hn, norm_after7]
      iexact H
  · rename_i h
    have h' : (!(k0_cond1 (grid0.coords t) == 1#1)) = false := h
    have hn : t.val % 11 = 0 := (cond_iff t).mp (by simpa using h')
    iintro ⟨%d, H⟩
    rw [(small_at m c t d).1 hn, norm_after7]
    iexact H

/-- Before the first point nothing is known of the scratch, -/
theorem inv_in (c : Dev nD) : (Pipeline.ΦA spec0 c : sProp 𝕄) ⊢ inv m c 0 := by
  unfold Pipeline.ΦA inv; rw [scopedRest0_eq]
  simp only [← owns_whole]
  iintro ⟨⟨%d, H⟩, Hg⟩
  isplitl [H]
  · iexists d; isplitr
    · ipureintro; intro h; exact absurd rfl h
    iexact H
  iexact Hg

/-- and after the last one it is given up. -/
theorem inv_out (c : Dev nD) (n : ℕ) : inv m c n ⊢ (Pipeline.ΦA spec0 c : sProp 𝕄) := by
  unfold Pipeline.ΦA inv; rw [scopedRest0_eq]
  simp only [← owns_whole]
  iintro ⟨⟨%d, %h, H⟩, Hg⟩
  isplitl [H]
  · iexists d; iexact H
  iexact Hg

set_option backward.isDefEq.respectTransparency.types false in
/-- The launch: every array of the pipeline ends at what the proof data says, every semaphore at zero. -/
theorem norm_run : θ_run defs (onTc (τ := τ) (main (F := F))) (s₀ m ρ)
    (fun r => (Pipeline.FramePost cfgs (normDats m) 0 (V m)) r ∧ r.2.sem = fun _ => 0) :=
  Pipeline.θ_run_frame_track (Q' := _) cfgs (normDats m) (0 : Fin 1) launch0 defs₀ Variants.none m ρ main
    (hbody := fun c => (norm_obligation m c).loose) (hshare := fun c => (normDats m 0 c).share_full fun _ => rfl)
    (howed := fun _ _ => rfl) (V := V m) (hmain := hmain m Variants.none) (hA := norm_A m)
    (hin := inv_in m) (hout := fun c => inv_out m c _)

/-- The run with the result arrays named, the arguments as launched and every semaphore at zero. -/
theorem norm_blocks : θ_run defs (onTc (τ := τ) (main (F := F))) ⟨m, fun _ => 0, ρ⟩ fun r => (∀ c : Dev nD,
      r.2.mem ((c : Thread nD τ).loc main_v13_0) = (normDats m 0 c).arrAt 6 cfg0.N
      ∧ r.2.mem ((c : Thread nD τ).loc main_v13_1) = (normDats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => ⟨(h.1.1 c).1 6, (h.1.1 c).1 7, h.2 c⟩, h.1.2⟩)
    (θ_run_and (norm_run m ρ) (frame_of m ρ (normDats m) (norm_A m) ((θ_run defs _ _).mono (fun _ h => h.1) (norm_run m ρ))))

end Launch

end Cert.Kernel3Ideal.Norm

end
-- ==== Proof.NormRef.lean ====
/- The normed rows and their projections as mathematics, and the reference's two result arrays index by index.  -/
module

public import proofs.«01_k».proof.Proof.NormRun
public import proofs.«01_k».proof.Proof.Gen.Reference3Ideal.Run
public import Idealize.ShloMosaic.Lib.Pointwise
public import Idealize.ShloMosaic.Lib.Affine

@[expose] public section

set_option maxRecDepth 16384

noncomputable section

namespace Cert.NormSpec

open Idealize.ShloMosaic Cert.Reference3Ideal

/-- The reciprocal root of the mean square of row `s` of batch `b`, the mean offset by the norm's epsilon. -/
def rootInv (x : FVec Ideal S8x2048x1024 .f32) (b : Fin 8) (s : Fin 2048) : EReal :=
  Ideal.rsqrt (Ideal.div (∑ k : Fin 1024, x (ix3 b s k) * x (ix3 b s k)) (Ideal.ofBits FTy.f32 0x44800000#32) + Ideal.ofBits FTy.f32 0x358637BD#32)

/-- The normed row, scaled and shifted. -/
def row (x : FVec Ideal S8x2048x1024 .f32) (g : FVec Ideal S1024 .f32) (sc sh : FVec Ideal S8x1024 .f32) (b : Fin 8) (s : Fin 2048) (k : Fin 1024) : EReal :=
  x (ix3 b s k) * rootInv x b s * g (ix1 k) * (1 + sc (ix2 b k)) + sh (ix2 b k)

/-- Row `s` of batch `b` projected on column `j` of the weights. -/
def proj (x : FVec Ideal S8x2048x1024 .f32) (g : FVec Ideal S1024 .f32) (sc sh : FVec Ideal S8x1024 .f32) (w : FVec Ideal S1024x11312 .f32) (b : Fin 8) (s : Fin 2048) (j : Fin 11312) : EReal :=
  ∑ k : Fin 1024, row x g sc sh b s k * w (ix2 k j)

/-- The weights' column that column `j` of the main result is of. -/
def mainCol (j : Fin 11264) : Fin 11312 :=
  if h : j.val < 3072 then ⟨j.val, by omega⟩ else if h' : j.val < 9216 then ⟨j.val + 16, by omega⟩ else ⟨j.val + 48, by omega⟩

/-- The weights' column that column `j` of the small result is of. -/
def smallCol (j : Fin 48) : Fin 11312 :=
  if h : j.val < 16 then ⟨j.val + 3072, by omega⟩ else ⟨j.val + 9216, by omega⟩

theorem lit_1024 : Ideal.ofBits FTy.f32 0x44800000#32 = ((1024 : ℝ) : EReal) := by
  simp [Ideal.ofBits, Ideal.ieee, -EReal.coe_mul]; norm_num

theorem lit_eps : ∃ r : ℝ, 0 < r ∧ Ideal.ofBits FTy.f32 0x358637BD#32 = (r : EReal) := by
  simp [Ideal.ofBits, Ideal.ieee, -EReal.coe_mul]

theorem coe_sum {n : ℕ} (f : Fin n → ℝ) : ((∑ i, f i : ℝ) : EReal) = ∑ i, (f i : EReal) :=
  map_sum (⟨⟨Real.toEReal, rfl⟩, EReal.coe_add⟩ : ℝ →+ EReal) f Finset.univ

theorem real_of_finite {x : EReal} (h : max x (-x) < ⊤) : ∃ r : ℝ, x = r := by
  induction x with
  | bot => simp at h
  | top => simp at h
  | coe r => exact ⟨r, rfl⟩

/-- Of a finite row the reciprocal root is a real number: what it is the root of is positive. -/
theorem rootInv_real (x : FVec Ideal S8x2048x1024 .f32) (b : Fin 8) (s : Fin 2048) (hx : ∀ k : Fin 1024, max (x (ix3 b s k)) (-x (ix3 b s k)) < ⊤) :
    ∃ r : ℝ, rootInv x b s = r := by
  choose xr hr using fun k : Fin 1024 => real_of_finite (hx k)
  obtain ⟨e, he, hl⟩ := lit_eps
  have hs : ∑ k : Fin 1024, x (ix3 b s k) * x (ix3 b s k) = ((∑ k : Fin 1024, xr k * xr k : ℝ) : EReal) := by
    rw [coe_sum]
    exact Finset.sum_congr rfl fun k _ => by rw [hr, EReal.coe_mul]
  have h0 : 0 ≤ ∑ k : Fin 1024, xr k * xr k := Finset.sum_nonneg fun k _ => mul_self_nonneg _
  have hp : 0 < (∑ k : Fin 1024, xr k * xr k) * (1 / 1024) + e := by positivity
  refine ⟨(Real.sqrt ((∑ k : Fin 1024, xr k * xr k) * (1 / 1024) + e))⁻¹, ?_⟩
  rw [rootInv, hs, hl, lit_1024, Ideal.div_coe (by norm_num), ← EReal.coe_mul, ← EReal.coe_add, Ideal.rsqrt_coe, if_neg hp.le.not_gt, if_neg hp.ne']

theorem sq_nonneg_ext (x : EReal) : 0 ≤ x * x := by
  induction x with
  | bot => simp
  | top => simp
  | coe r => rw [← EReal.coe_mul]; exact_mod_cast mul_self_nonneg r

theorem sq_top {y : EReal} (hx : ¬ max y (-y) < ⊤) : y * y = ⊤ := by
  induction y with
  | bot => simp
  | top => simp
  | coe r => exact absurd (max_lt (EReal.coe_lt_top r) (by rw [← EReal.coe_neg]; exact EReal.coe_lt_top _)) hx

/-- Of a row with an infinity the reciprocal root is zero: the squares' sum is infinite. -/
theorem rootInv_zero (x : FVec Ideal S8x2048x1024 .f32) (b : Fin 8) (s : Fin 2048) (k : Fin 1024) (hx : ¬ max (x (ix3 b s k)) (-x (ix3 b s k)) < ⊤) :
    rootInv x b s = 0 := by
  obtain ⟨e, he, hl⟩ := lit_eps
  have hk : x (ix3 b s k) * x (ix3 b s k) = ⊤ := sq_top hx
  have hs : ∑ l : Fin 1024, x (ix3 b s l) * x (ix3 b s l) = ⊤ :=
    top_le_iff.mp (hk ▸ Finset.single_le_sum (f := fun l : Fin 1024 => x (ix3 b s l) * x (ix3 b s l)) (fun l _ => sq_nonneg_ext _) (Finset.mem_univ k))
  rw [rootInv, hs, hl, lit_1024, Ideal.div_coe (by norm_num), EReal.top_mul_coe_of_pos (by norm_num), EReal.top_add_coe, Ideal.rsqrt_top]

/-- A normed entry is real, whatever the row. -/
theorem normed_real (x : FVec Ideal S8x2048x1024 .f32) (b : Fin 8) (s : Fin 2048) (k : Fin 1024) : ∃ r : ℝ, x (ix3 b s k) * rootInv x b s = r := by
  by_cases hx : ∀ l : Fin 1024, max (x (ix3 b s l)) (-x (ix3 b s l)) < ⊤
  · obtain ⟨r0, h0⟩ := real_of_finite (hx k)
    obtain ⟨r1, h1⟩ := rootInv_real x b s hx
    exact ⟨r0 * r1, by rw [h0, h1, EReal.coe_mul]⟩
  · obtain ⟨l, hl⟩ := not_forall.mp hx
    exact ⟨0, by rw [rootInv_zero x b s l hl, mul_zero, EReal.coe_zero]⟩

/-- Of finite weights, scales and shifts the row is real. -/
theorem row_real (x : FVec Ideal S8x2048x1024 .f32) (g : FVec Ideal S1024 .f32) (sc sh : FVec Ideal S8x1024 .f32)
    (hg : ∀ i, max (g i) (-g i) < ⊤) (hsc : ∀ i, max (sc i) (-sc i) < ⊤) (hsh : ∀ i, max (sh i) (-sh i) < ⊤)
    (b : Fin 8) (s : Fin 2048) (k : Fin 1024) : ∃ r : ℝ, row x g sc sh b s k = r := by
  obtain ⟨r1, h1⟩ := normed_real x b s k
  obtain ⟨r2, h2⟩ := real_of_finite (hg (ix1 k))
  obtain ⟨r3, h3⟩ := real_of_finite (hsc (ix2 b k))
  obtain ⟨r4, h4⟩ := real_of_finite (hsh (ix2 b k))
  refine ⟨r1 * r2 * (1 + r3) + r4, ?_⟩
  rw [row, h1, h2, h3, h4]
  norm_cast

end Cert.NormSpec

namespace Cert.Reference3Ideal.Norm

open Cert.Reference3Ideal Cert.Reference3Ideal.Gen Cert.NormSpec
open Idealize.ShloMosaic Idealize.ShloMosaic.TcCoe Idealize.SL.Sem

variable {F : FTy → Type} [FloatOps F]

/-- The reciprocal roots, -/
def invR (x : FVec F S8x2048x1024 .f32) : FVec F S8x2048x1 .f32 :=
  Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))

/-- the rows, -/
def rowR (x : FVec F S8x2048x1024 .f32) (g : FVec F S1024 .f32) (sc sh : FVec F S8x1024 .f32) : FVec F S8x2048x1024 .f32 :=
  addf (mulf (mulf (mulf x (broadcastInDim S8x2048x1024 ![0, 1, 2] bcast_S8x2048x1_S8x2048x1024_0_1_2 (invR x)))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 sc))))
    (broadcastInDim S8x2048x1024 ![0, 1, 2] bcast_S8x1x1024_S8x2048x1024_0_1_2 (broadcastInDim S8x1x1024 ![0, 2] bcast_S8x1024_S8x1x1024_0_2 sh))

/-- their projections, -/
def projR (h : FVec F S8x2048x1024 .f32) (w : FVec F S1024x11312 .f32) : FVec F S16384x11312 .f32 :=
  shapeCast S16384x11312 (Host.dotGeneral dot_S8x2048x1024_S1024x11312_S8x2048x11312_2_0_01_1_n_n none h w) shapeCasts_S8x2048x11312_S16384x11312

/-- the main columns of them, and -/
def mainR (p : FVec F S16384x11312 .f32) : FVec F S16384x11264 .bf16 :=
  truncf .bf16 (concatenate S16384x11264 1 [⟨S16384x3072, extractStridedSlice S16384x3072 ![0, 0] p slices_S16384x11312_S16384x3072_0_0⟩, ⟨S16384x6144, extractStridedSlice S16384x6144 ![0, 3088] p slices_S16384x11312_S16384x6144_0_3088⟩, ⟨S16384x2048, extractStridedSlice S16384x2048 ![0, 9264] p slices_S16384x11312_S16384x2048_0_9264⟩] concatenates_S16384x3072_S16384x6144_S16384x2048_S16384x11264_d1 : FVec F S16384x11264 .f32) bitsLt_bf16_f32

/-- the small ones. -/
def smallR (p : FVec F S16384x11312 .f32) : FVec F S16384x128 .f32 :=
  pad S16384x128 ![0, 0] ![0, 80] ![0, 0] (concatenate S16384x48 1 [⟨S16384x16, extractStridedSlice S16384x16 ![0, 3072] p slices_S16384x11312_S16384x16_0_3072⟩, ⟨S16384x32, extractStridedSlice S16384x32 ![0, 9232] p slices_S16384x11312_S16384x32_0_9232⟩] concatenates_S16384x16_S16384x32_S16384x48_d1 : FVec F S16384x48 .f32) (sitofp .f32 (constantI S_ 32 0#32)) pads_S16384x48_S16384x128_000_0800 h_S_

theorem res_eq (m : (ℓ : Loc nD τ sig) → Buf (Elt F) ℓ) (c : Dev nD) : Value.res_main_v30 m c
    = mainR (projR (rowR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  unfold Value.res_main_v30
  rfl

theorem invR_at (x : FVec Ideal S8x2048x1024 .f32) (b : Fin 8) (s : Fin 2048) (z : Fin 1) :
    invR (F := Ideal) x (ix3 b s z) = rootInv x b s := by
  pointwise [invR, rootInv]

theorem rowR_at (x : FVec Ideal S8x2048x1024 .f32) (g : FVec Ideal S1024 .f32) (sc sh : FVec Ideal S8x1024 .f32) (b : Fin 8) (s : Fin 2048) (k : Fin 1024) :
    rowR (F := Ideal) x g sc sh (ix3 b s k) = row x g sc sh b s k := by
  unfold row
  rw [← invR_at x b s 0]
  pointwise [rowR]

theorem projR_at (h : FVec Ideal S8x2048x1024 .f32) (w : FVec Ideal S1024x11312 .f32) (r : Fin 16384) (j : Fin 11312) :
    projR (F := Ideal) h w (ix2 r j) = ∑ k : Fin 1024, h (ix3 ⟨r.val / 2048, by omega⟩ ⟨r.val % 2048, by omega⟩ k) * w (ix2 k j) := by
  pointwise [projR]

theorem mainR_at (p : FVec Ideal S16384x11312 .f32) (r : Fin 16384) (j : Fin 11264) :
    mainR (F := Ideal) p (ix2 r j) = p (ix2 r (mainCol j)) := by
  unfold mainCol
  pointwise [mainR]
  by_cases h : j.val < 3072
  · rw [dif_pos h, dif_pos h]
  · rw [dif_neg h, dif_neg h]
    by_cases h' : j.val < 9216
    · rw [dif_pos (by omega), dif_pos h']
      exact congrArg (fun z => p (ix2 r z)) (Fin.ext (show 3088 + (j.val - 3072) = j.val + 16 by omega))
    · rw [dif_neg (by omega), dif_neg h']
      exact congrArg (fun z => p (ix2 r z)) (Fin.ext (show 9264 + (j.val - 3072 - 6144) = j.val + 48 by omega))

theorem smallR_at (p : FVec Ideal S16384x11312 .f32) (r : Fin 16384) (j : Fin 128) :
    smallR (F := Ideal) p (ix2 r j) = if h : j.val < 48 then p (ix2 r (smallCol ⟨j.val, h⟩)) else 0 := by
  unfold smallCol
  pointwise [smallR]
  by_cases h : j.val < 48
  · rw [dif_pos h, dif_pos h]
    by_cases h' : j.val < 16
    · rw [dif_pos h', dif_pos h']
      exact congrArg (fun z => p (ix2 r z)) (Fin.ext (show 3072 + j.val = j.val + 3072 by omega))
    · rw [dif_neg h', dif_neg h']
      exact congrArg (fun z => p (ix2 r z)) (Fin.ext (show 9232 + (j.val - 16) = j.val + 9216 by omega))
  · rw [dif_neg h, dif_neg h]
    show ((((0#32 : BitVec 32).toInt : ℤ) : ℝ) : EReal) = 0
    simp

/-- The main result's entry: the row projected on its column. -/
theorem main_at (x : FVec Ideal S8x2048x1024 .f32) (g : FVec Ideal S1024 .f32) (sc sh : FVec Ideal S8x1024 .f32) (w : FVec Ideal S1024x11312 .f32) (r : Fin 16384) (j : Fin 11264) :
    mainR (F := Ideal) (projR (rowR x g sc sh) w) (ix2 r j) = proj x g sc sh w ⟨r.val / 2048, by omega⟩ ⟨r.val % 2048, by omega⟩ (mainCol j) := by
  rw [mainR_at, projR_at]
  exact Finset.sum_congr rfl fun k _ => by rw [rowR_at]

/-- The small result's entry: the row projected on its column, and zero in the columns that pad. -/
theorem small_at (x : FVec Ideal S8x2048x1024 .f32) (g : FVec Ideal S1024 .f32) (sc sh : FVec Ideal S8x1024 .f32) (w : FVec Ideal S1024x11312 .f32) (r : Fin 16384) (j : Fin 128) :
    smallR (F := Ideal) (projR (rowR x g sc sh) w) (ix2 r j)
      = if h : j.val < 48 then proj x g sc sh w ⟨r.val / 2048, by omega⟩ ⟨r.val % 2048, by omega⟩ (smallCol ⟨j.val, h⟩) else 0 := by
  rw [smallR_at]
  split_ifs with h
  · rw [projR_at]
    exact Finset.sum_congr rfl fun k _ => by rw [rowR_at]
  · rfl

/-- The reference keeps its arguments and leaves every counter at zero. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (Value.run m ρ)

/-- What the reference leaves: the main and the small columns of the projections. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = mainR (F := Ideal) (projR (F := Ideal) (rowR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_v31) = smallR (F := Ideal) (projR (F := Ideal) (rowR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (res_eq m c), (h c).2.1, (h c).2.2⟩) (Value.run m ρ)

end Cert.Reference3Ideal.Norm

end
-- ==== Proof.NormKer.lean ====
/- The kernel that norms and projects: what its body computes of its blocks, which part of its array each block is, and
   the two result arrays index by index.  -/
module

public import proofs.«01_k».proof.Proof.NormRef
public import Idealize.ShloMosaic.Lib.Pipeline.ValueKit
public import Idealize.ShloMosaic.Lib.Pipeline.Covers

@[expose] public section

set_option maxRecDepth 16384

noncomputable section

namespace Cert.Kernel3Ideal.Norm

open Cert.Kernel3Ideal Cert.Kernel3Ideal.Gen Cert.NormSpec
open Cert.Reference3Ideal.Norm (mainR smallR projR rowR main_at)
open Idealize.ShloMosaic Idealize.ShloMosaic.TcCoe Idealize.SL.Sem

section Body

variable (x0 : FVec Ideal S1024x1024 .f32) (x1 : FVec Ideal S1x1024 .f32) (x2 x3 : FVec Ideal S1x1x1024 .f32)

theorem pay3_at (s k : Fin 1024) : k0_pay3 (F := Ideal) x0 x1 x2 x3 (ix2 s k)
    = x0 (ix2 s k) * Ideal.rsqrt (Ideal.div (∑ l : Fin 1024, x0 (ix2 s l) * x0 (ix2 s l)) (Ideal.ofBits FTy.f32 0x44800000#32) + Ideal.ofBits FTy.f32 0x358637BD#32)
      * x1 (ix2 0 k) * (1 + x2 (ix3 0 0 k)) + x3 (ix3 0 0 k) := by
  pointwise [k0_pay3]

theorem pay4_at (s k : Fin 1024) : k0_pay4 (F := Ideal) x0 x1 x2 x3 (ix2 s k) = k0_pay3 (F := Ideal) x0 x1 x2 x3 (ix2 s k) := by
  pointwise [k0_pay4]

theorem pay2_at (h w : FVec Ideal S1024x1024 .bf16) (s d : Fin 1024) : k0_pay2 (F := Ideal) h w (ix2 s d) = ∑ k : Fin 1024, h (ix2 s k) * w (ix2 k d) := by
  pointwise [k0_pay2]

/-- The small product in three parts: the values, the rows' low parts and the weights' low parts. -/
theorem osBlk_at (w : FVec Ideal S1024x128 .f32) (s : Fin 1024) (d : Fin 128) : osBlk (F := Ideal) x0 x1 x2 x3 w (ix2 s d)
    = ∑ k : Fin 1024, k0_pay3 (F := Ideal) x0 x1 x2 x3 (ix2 s k) * w (ix2 k d)
      + ∑ k : Fin 1024, (k0_pay3 (F := Ideal) x0 x1 x2 x3 (ix2 s k) - k0_pay3 (F := Ideal) x0 x1 x2 x3 (ix2 s k)) * w (ix2 k d)
      + ∑ k : Fin 1024, k0_pay3 (F := Ideal) x0 x1 x2 x3 (ix2 s k) * (w (ix2 k d) - w (ix2 k d)) := by
  pointwise [osBlk, k0_pay1, k0_pay5, k0_pay6, k0_pay7, k0_pay8, k0_pay9]

/-- The body's rows are the specification's. -/
theorem pay3_row (x : FVec Ideal S8x2048x1024 .f32) (g : FVec Ideal S1024 .f32) (sc sh : FVec Ideal S8x1024 .f32) (b : Fin 8) (q : Fin 2048) (s k : Fin 1024)
    (h0 : ∀ l, x0 (ix2 s l) = x (ix3 b q l)) (h1 : x1 (ix2 0 k) = g (ix1 k)) (h2 : x2 (ix3 0 0 k) = sc (ix2 b k)) (h3 : x3 (ix3 0 0 k) = sh (ix2 b k)) :
    k0_pay3 (F := Ideal) x0 x1 x2 x3 (ix2 s k) = row x g sc sh b q k := by
  rw [pay3_at, row, rootInv]
  simp only [h0, h1, h2, h3]

end Body

variable (m : (ℓ : Loc nD τ sig) → Buf (Elt Ideal) ℓ) (c : Dev nD)

/-- The arguments as arrays. -/
abbrev xA : FVec Ideal S8x2048x1024 .f32 := m ((c : Thread nD τ).loc main_arg0)
abbrev gA : FVec Ideal S1024 .f32 := m ((c : Thread nD τ).loc main_arg1)
abbrev scA : FVec Ideal S8x1024 .f32 := m ((c : Thread nD τ).loc main_arg2)
abbrev shA : FVec Ideal S8x1024 .f32 := m ((c : Thread nD τ).loc main_arg3)
abbrev wA : FVec Ideal S1024x11312 .f32 := m ((c : Thread nD τ).loc main_arg4)

theorem V_v9 (r : Fin 16384) (k : Fin 1024) :
    (V m c main_v9 : FVec Ideal S16384x1024 .f32) (ix2 r k) = xA m c (ix3 ⟨r.val / 2048, by omega⟩ ⟨r.val % 2048, by omega⟩ k) := by
  have h : V m c main_v9 = (shapeCast S16384x1024 (xA m c) shapeCasts_S8x2048x1024_S16384x1024 : FVec Ideal S16384x1024 .f32) := by
    unfold V hostOps0
    after_reads_simp
    rfl
  rw [h]
  pointwise

theorem V_v10 (k : Fin 1024) : (V m c main_v10 : FVec Ideal S1x1024 .f32) (ix2 0 k) = gA m c (ix1 k) := by
  have h : V m c main_v10 = (shapeCast S1x1024 (gA m c) shapeCasts_S1024_S1x1024 : FVec Ideal S1x1024 .f32) := by
    unfold V hostOps0
    after_reads_simp
    rfl
  rw [h]
  pointwise

theorem V_v11 (b : Fin 8) (k : Fin 1024) : (V m c main_v11 : FVec Ideal S8x1x1024 .f32) (ix3 b 0 k) = scA m c (ix2 b k) := by
  have h : V m c main_v11 = (shapeCast S8x1x1024 (scA m c) shapeCasts_S8x1024_S8x1x1024 : FVec Ideal S8x1x1024 .f32) := by
    unfold V hostOps0
    after_reads_simp
    rfl
  rw [h]
  pointwise

theorem V_v12 (b : Fin 8) (k : Fin 1024) : (V m c main_v12 : FVec Ideal S8x1x1024 .f32) (ix3 b 0 k) = shA m c (ix2 b k) := by
  have h : V m c main_v12 = (shapeCast S8x1x1024 (shA m c) shapeCasts_S8x1024_S8x1x1024 : FVec Ideal S8x1x1024 .f32) := by
    unfold V hostOps0
    after_reads_simp
    rfl
  rw [h]
  pointwise

/-- The main weights: the columns between which the small ones stood. -/
def mainW (w : FVec Ideal S1024x11312 .f32) : FVec Ideal S1024x11264 .bf16 :=
  truncf .bf16 (concatenate S1024x11264 1 [⟨S1024x3072, extractStridedSlice S1024x3072 ![0, 0] w slices_S1024x11312_S1024x3072_0_0⟩, ⟨S1024x6144, extractStridedSlice S1024x6144 ![0, 3088] w slices_S1024x11312_S1024x6144_0_3088⟩, ⟨S1024x2048, extractStridedSlice S1024x2048 ![0, 9264] w slices_S1024x11312_S1024x2048_0_9264⟩] concatenates_S1024x3072_S1024x6144_S1024x2048_S1024x11264_d1 : FVec Ideal S1024x11264 .f32) bitsLt_bf16_f32

/-- The small weights: the columns left, then zeros. -/
def smallW (w : FVec Ideal S1024x11312 .f32) : FVec Ideal S1024x128 .f32 :=
  concatenate S1024x128 1 [⟨S1024x16, extractStridedSlice S1024x16 ![0, 3072] w slices_S1024x11312_S1024x16_0_3072⟩, ⟨S1024x32, extractStridedSlice S1024x32 ![0, 9232] w slices_S1024x11312_S1024x32_0_9232⟩, ⟨S1024x80, (broadcastInDim S1024x80 ![] bcast_S_S1024x80 (constant S_ .f32 0x00000000#32) : FVec Ideal S1024x80 .f32)⟩] concatenates_S1024x16_S1024x32_S1024x80_S1024x128_d1

theorem mainW_at (w : FVec Ideal S1024x11312 .f32) (k : Fin 1024) (j : Fin 11264) : mainW w (ix2 k j) = w (ix2 k (mainCol j)) := by
  unfold mainCol
  pointwise [mainW]
  by_cases h : j.val < 3072
  · rw [dif_pos h, dif_pos h]
  · rw [dif_neg h, dif_neg h]
    by_cases h' : j.val < 9216
    · rw [dif_pos (by omega), dif_pos h']
      exact congrArg (fun z => w (ix2 k z)) (Fin.ext (show 3088 + (j.val - 3072) = j.val + 16 by omega))
    · rw [dif_neg (by omega), dif_neg h']
      exact congrArg (fun z => w (ix2 k z)) (Fin.ext (show 9264 + (j.val - 3072 - 6144) = j.val + 48 by omega))

theorem smallW_at (w : FVec Ideal S1024x11312 .f32) (k : Fin 1024) (j : Fin 128) :
    smallW w (ix2 k j) = if h : j.val < 48 then w (ix2 k (smallCol ⟨j.val, h⟩)) else 0 := by
  unfold smallCol
  pointwise [smallW]
  by_cases h' : j.val < 16
  · rw [dif_pos h', dif_pos (by omega), dif_pos h']
    exact congrArg (fun z => w (ix2 k z)) (Fin.ext (show 3072 + j.val = j.val + 3072 by omega))
  · rw [dif_neg h']
    by_cases h : j.val < 48
    · rw [dif_pos (by omega), dif_pos h, dif_neg h']
      exact congrArg (fun z => w (ix2 k z)) (Fin.ext (show 9232 + (j.val - 16) = j.val + 9216 by omega))
    · rw [dif_neg (by omega), dif_neg h]

theorem V_v4 : (V m c main_v4 : FVec Ideal S1024x11264 .bf16) = mainW (wA m c) := by
  unfold V hostOps0
  after_reads_simp
  rfl

theorem V_v8 : (V m c main_v8 : FVec Ideal S1024x128 .f32) = smallW (wA m c) := by
  unfold V hostOps0
  after_reads_simp
  rfl

theorem idx0 : ∀ t : Fin grid0.N, cc0_transform_0 (grid0.coords t) = ![t.val / 11, 0] := by decide +kernel
theorem idx1 : ∀ t : Fin grid0.N, cc0_transform_1 (grid0.coords t) = ![0, 0] := by decide +kernel
theorem idx2 : ∀ t : Fin grid0.N, cc0_transform_2 (grid0.coords t) = ![t.val / 22, 0, 0] := by decide +kernel
theorem idx3 : ∀ t : Fin grid0.N, cc0_transform_3 (grid0.coords t) = ![t.val / 22, 0, 0] := by decide +kernel
theorem idx4 : ∀ t : Fin grid0.N, cc0_transform_4 (grid0.coords t) = ![0, t.val % 11] := by decide +kernel
theorem idx5 : ∀ t : Fin grid0.N, cc0_transform_5 (grid0.coords t) = ![0, 0] := by decide +kernel
theorem idx6 : ∀ t : Fin grid0.N, cc0_transform_6 (grid0.coords t) = ![t.val / 11, t.val % 11] := by decide +kernel
theorem idx7 : ∀ t : Fin grid0.N, cc0_transform_7 (grid0.coords t) = ![t.val / 11, 0] := by decide +kernel

theorem win0 (t : Fin cfg0.N) : (cfg0.win 0).index t = ![t.val / 11, 0] := idx0 t
theorem win1 (t : Fin cfg0.N) : (cfg0.win 1).index t = ![0, 0] := idx1 t
theorem win2 (t : Fin cfg0.N) : (cfg0.win 2).index t = ![t.val / 22, 0, 0] := idx2 t
theorem win3 (t : Fin cfg0.N) : (cfg0.win 3).index t = ![t.val / 22, 0, 0] := idx3 t
theorem win4 (t : Fin cfg0.N) : (cfg0.win 4).index t = ![0, t.val % 11] := idx4 t
theorem win5 (t : Fin cfg0.N) : (cfg0.win 5).index t = ![0, 0] := idx5 t
theorem win6 (t : Fin cfg0.N) : (cfg0.win 6).index t = ![t.val / 11, t.val % 11] := idx6 t
theorem win7 (t : Fin cfg0.N) : (cfg0.win 7).index t = ![t.val / 11, 0] := idx7 t

theorem lt_N (t : Fin cfg0.N) : t.val < 176 := t.isLt

/-- The array's row that row `s` of point `t`'s block is. -/
abbrev rowOf (t : Fin cfg0.N) (s : Fin 1024) : Fin 16384 := ⟨t.val / 11 * 1024 + s.val, by have := lt_N t; omega⟩

theorem blk0 (t : Fin cfg0.N) (s k : Fin 1024) : iblk m c 0 t (ix2 s k) = (V m c main_v9 : FVec Ideal S16384x1024 .f32) (ix2 (rowOf t s) k) := by
  blk_ext [iblk, win0 t]

theorem blk1 (t : Fin cfg0.N) (k : Fin 1024) : iblk m c 1 t (ix2 0 k) = (V m c main_v10 : FVec Ideal S1x1024 .f32) (ix2 0 k) := by
  blk_ext [iblk, win1 t]

theorem blk2 (t : Fin cfg0.N) (k : Fin 1024) (b : Fin 8) (hb : t.val / 22 = b.val) : iblk m c 2 t (ix3 0 0 k) = (V m c main_v11 : FVec Ideal S8x1x1024 .f32) (ix3 b 0 k) := by
  blk_ext [iblk, win2 t, hb]

theorem blk3 (t : Fin cfg0.N) (k : Fin 1024) (b : Fin 8) (hb : t.val / 22 = b.val) : iblk m c 3 t (ix3 0 0 k) = (V m c main_v12 : FVec Ideal S8x1x1024 .f32) (ix3 b 0 k) := by
  blk_ext [iblk, win3 t, hb]

theorem blk4 (t : Fin cfg0.N) (k d : Fin 1024) :
    iblk m c 4 t (ix2 k d) = (V m c main_v4 : FVec Ideal S1024x11264 .bf16) (ix2 k ⟨t.val % 11 * 1024 + d.val, by omega⟩) := by
  blk_ext [iblk, win4 t]

theorem blk5 (t : Fin cfg0.N) (k : Fin 1024) (d : Fin 128) : iblk m c 5 t (ix2 k d) = (V m c main_v8 : FVec Ideal S1024x128 .f32) (ix2 k d) := by
  blk_ext [iblk, win5 t]

/-- The batch and the place in it of row `s` of point `t`'s block. -/
abbrev batchOf (t : Fin cfg0.N) (s : Fin 1024) : Fin 8 := ⟨(rowOf t s).val / 2048, by omega⟩
abbrev placeOf (t : Fin cfg0.N) (s : Fin 1024) : Fin 2048 := ⟨(rowOf t s).val % 2048, by omega⟩

/-- The body's rows at point `t`. -/
theorem rows_at (t : Fin cfg0.N) (s k : Fin 1024) :
    k0_pay3 (F := Ideal) (iblk m c 0 t) (iblk m c 1 t) (iblk m c 2 t) (iblk m c 3 t) (ix2 s k) = row (xA m c) (gA m c) (scA m c) (shA m c) (batchOf t s) (placeOf t s) k := by
  have hb : t.val / 22 = (batchOf t s).val := by
    have := lt_N t
    show t.val / 22 = (t.val / 11 * 1024 + s.val) / 2048
    omega
  exact pay3_row (iblk m c 0 t) (iblk m c 1 t) (iblk m c 2 t) (iblk m c 3 t) _ _ _ _ _ _ s k
    (fun l => (blk0 m c t s l).trans (V_v9 m c _ l)) ((blk1 m c t k).trans (V_v10 m c k))
    ((blk2 m c t k _ hb).trans (V_v11 m c _ k)) ((blk3 m c t k _ hb).trans (V_v12 m c _ k))

theorem hAt_at (t : Fin cfg0.N) (s k : Fin 1024) :
    hAt m c t (ix2 s k) = row (xA m c) (gA m c) (scA m c) (shA m c) (batchOf t s) (placeOf t s) k :=
  (pay4_at (iblk m c 0 t) (iblk m c 1 t) (iblk m c 2 t) (iblk m c 3 t) s k).trans (rows_at m c t s k)

theorem rowOf_base (t : Fin cfg0.N) (s : Fin 1024) : rowOf (base t.val) s = rowOf t s := by
  apply Fin.ext
  have := lt_N t
  show min (t.val - t.val % 11) 165 / 11 * 1024 + s.val = t.val / 11 * 1024 + s.val
  omega

theorem batch_base (t : Fin cfg0.N) (s : Fin 1024) : batchOf (base t.val) s = batchOf t s :=
  Fin.ext (congrArg (fun r : Fin 16384 => r.val / 2048) (rowOf_base t s))

theorem place_base (t : Fin cfg0.N) (s : Fin 1024) : placeOf (base t.val) s = placeOf t s :=
  Fin.ext (congrArg (fun r : Fin 16384 => r.val % 2048) (rowOf_base t s))

/-- The main block of point `t`: its rows projected on its columns. -/
theorem oAt_at (t : Fin cfg0.N) (s d : Fin 1024) : oAt m c t (ix2 s d)
    = proj (xA m c) (gA m c) (scA m c) (shA m c) (wA m c) (batchOf t s) (placeOf t s) (mainCol ⟨t.val % 11 * 1024 + d.val, by omega⟩) := by
  refine (pay2_at (hAt m c (base t.val)) (iblk m c 4 t) s d).trans ?_
  refine Finset.sum_congr rfl fun k _ => ?_
  have hh := hAt_at m c (base t.val) s k
  rw [batch_base, place_base] at hh
  exact congrArg₂ (· * ·) hh (((blk4 m c t k d).trans (congrFun (V_v4 m c) _)).trans (mainW_at _ k _))

/-- The norm's weights, the scales, the shifts and the small columns' weights are finite. -/
def Finite : Prop :=
  (∀ i, max (gA m c i) (-gA m c i) < ⊤) ∧ (∀ i, max (scA m c i) (-scA m c i) < ⊤) ∧ (∀ i, max (shA m c i) (-shA m c i) < ⊤)
    ∧ ∀ (k : Fin 1024) (j : Fin 48), max (wA m c (ix2 k (smallCol j))) (-wA m c (ix2 k (smallCol j))) < ⊤

theorem sub_self_real {x : EReal} (h : ∃ r : ℝ, x = r) : x - x = 0 := by
  obtain ⟨r, rfl⟩ := h
  rw [← EReal.coe_sub, sub_self, EReal.coe_zero]

/-- Of real factors the small product is of its values alone: the low parts vanish. -/
theorem small_parts {n : ℕ} (h w v : Fin n → EReal) (hr : ∀ k, ∃ r : ℝ, h k = r) (hw : ∀ k, ∃ r : ℝ, w k = r) :
    ∑ k, h k * w k + ∑ k, (h k - h k) * w k + ∑ k, h k * (w k - w k) = ∑ k, h k * w k := by
  rw [Finset.sum_eq_zero (f := fun k => (h k - h k) * w k) fun k _ => by rw [sub_self_real (hr k), zero_mul],
    Finset.sum_eq_zero (f := fun k => h k * (w k - w k)) fun k _ => by rw [sub_self_real (hw k), mul_zero], add_zero, add_zero]

/-- The small block of point `t`. -/
theorem osAt_at (hF : Finite m c) (t : Fin cfg0.N) (s : Fin 1024) (d : Fin 128) : osAt m c t (ix2 s d)
    = if h : d.val < 48 then proj (xA m c) (gA m c) (scA m c) (shA m c) (wA m c) (batchOf t s) (placeOf t s) (smallCol ⟨d.val, h⟩) else 0 := by
  obtain ⟨hg, hsc, hsh, hwf⟩ := hF
  have e : ∀ k, iblk m c 5 t (ix2 k d) = if h : d.val < 48 then wA m c (ix2 k (smallCol ⟨d.val, h⟩)) else 0 :=
    fun k => ((blk5 m c t k d).trans (congrFun (V_v8 m c) _)).trans (smallW_at _ k d)
  have hw : ∀ k, ∃ r : ℝ, (if h : d.val < 48 then wA m c (ix2 k (smallCol ⟨d.val, h⟩)) else 0 : EReal) = r := fun k => by
    by_cases h : d.val < 48
    · rw [dif_pos h]; exact real_of_finite (hwf k _)
    · rw [dif_neg h]; exact ⟨0, EReal.coe_zero.symm⟩
  have hr := fun k => row_real (xA m c) (gA m c) (scA m c) (shA m c) hg hsc hsh (batchOf t s) (placeOf t s) k
  refine (osBlk_at (iblk m c 0 t) (iblk m c 1 t) (iblk m c 2 t) (iblk m c 3 t) (iblk m c 5 t) s d).trans ?_
  have key := small_parts (fun k => row (xA m c) (gA m c) (scA m c) (shA m c) (batchOf t s) (placeOf t s) k)
    (fun k => (if h : d.val < 48 then wA m c (ix2 k (smallCol ⟨d.val, h⟩)) else 0 : EReal)) (fun _ => 0) hr hw
  refine Eq.trans (congrArg₂ (· + ·) (congrArg₂ (· + ·) (Finset.sum_congr rfl fun k _ => ?_) (Finset.sum_congr rfl fun k _ => ?_)) (Finset.sum_congr rfl fun k _ => ?_)) (key.trans ?_)
  · rw [rows_at]; exact congrArg (_ * ·) (e k)
  · rw [rows_at]; exact congrArg (_ * ·) (e k)
  · rw [rows_at]; exact congrArg (fun z : EReal => _ * (z - z)) (e k)
  · by_cases h : d.val < 48
    · simp only [dif_pos h]; rfl
    · simp only [dif_neg h, mul_zero, Finset.sum_const_zero]

theorem covers6 : (cfg0.win 6).Covers := by decide +kernel
theorem covers7 : (cfg0.win 7).Covers := by decide +kernel

/-- **The kernel's main result.** -/
theorem arr_main : (normDats m 0 c).arrAt 6 cfg0.N = mainR (F := Ideal) (projR (F := Ideal) (rowR (F := Ideal) (xA m c) (gA m c) (scA m c) (shA m c)) (wA m c)) := by
  refine (normDats m 0 c).arrAt_eq_of_covers 6 _ covers6 fun t hf y => ?_
  blk_simp
  rw [norm_after6]
  have key : ∀ (s d : Fin 1024), oAt m c t (ix2 s d)
      = mainR (F := Ideal) (projR (F := Ideal) (rowR (F := Ideal) (xA m c) (gA m c) (scA m c) (shA m c)) (wA m c)) (((cfg0.win 6).blk t).view.emb (ix2 s d)) := fun s d => by
    have e : ((cfg0.win 6).blk t).view.emb (ix2 s d) = ix2 (rowOf t s) (⟨t.val % 11 * 1024 + d.val, by omega⟩ : Fin 11264) := by
      blk_ext [win6 t]
    rw [e, oAt_at]
    exact (main_at _ _ _ _ _ _ _).symm
  have all : ∀ z : S1024x1024.Idx, oAt m c t z
      = mainR (F := Ideal) (projR (F := Ideal) (rowR (F := Ideal) (xA m c) (gA m c) (scA m c) (shA m c)) (wA m c)) (((cfg0.win 6).blk t).view.emb z) := fun z => by
    rw [eq_ix2 z]; exact key (z 0) (z 1)
  exact all y

/-- **The kernel's small result.** -/
theorem arr_small (hF : Finite m c) : (normDats m 0 c).arrAt 7 cfg0.N = smallR (F := Ideal) (projR (F := Ideal) (rowR (F := Ideal) (xA m c) (gA m c) (scA m c) (shA m c)) (wA m c)) := by
  refine (normDats m 0 c).arrAt_eq_of_covers 7 _ covers7 fun t hf y => ?_
  blk_simp
  rw [norm_after7]
  have key : ∀ (s : Fin 1024) (d : Fin 128), osAt m c (base t.val) (ix2 s d)
      = smallR (F := Ideal) (projR (F := Ideal) (rowR (F := Ideal) (xA m c) (gA m c) (scA m c) (shA m c)) (wA m c)) (((cfg0.win 7).blk t).view.emb (ix2 s d)) := fun s d => by
    have e : ((cfg0.win 7).blk t).view.emb (ix2 s d) = ix2 (rowOf t s) d := by
      blk_ext [win7 t]
    rw [e, osAt_at m c hF, ← rowOf_base t s]
    exact (Cert.Reference3Ideal.Norm.small_at _ _ _ _ _ _ _).symm
  have all : ∀ z : S1024x128.Idx, osAt m c (base t.val) z
      = smallR (F := Ideal) (projR (F := Ideal) (rowR (F := Ideal) (xA m c) (gA m c) (scA m c) (shA m c)) (wA m c)) (((cfg0.win 7).blk t).view.emb z) := fun z => by
    rw [eq_ix2 z]; exact key (z 0) (z 1)
  exact all y

end Cert.Kernel3Ideal.Norm

end
-- ==== Proof.NormFrame.lean ====
/- The frames of the kernel that norms and projects and of its idealization, and what its precondition gives. -/
module

public import proofs.«01_k».proof.Proof.NormKer
public import proofs.«01_k».proof.Proof.Gen.Kernel3
public import proofs.«01_k».proof.Pre_finite3

@[expose] public section

set_option maxRecDepth 16384

noncomputable section

namespace Cert.Kernel3Ideal.Norm

open Cert.Kernel3Ideal Cert.Kernel3Ideal.Gen
open Idealize.ShloMosaic Idealize.ShloMosaic.TcCoe Idealize.SL.Sem

/-- The launch keeps its arguments and leaves every counter at zero. -/
theorem norm_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2.2, h.2⟩) (norm_blocks m ρ)

instance : Subsingleton Cert.Pre_finite3.S_.Idx := ⟨fun i j => funext fun a => a.elim0⟩

theorem first_cols [Cert.Pre_finite3.Facts] (w : FVec Ideal S1024x11312 .f32) (k : Fin 1024) (j : Fin 16) :
    (extractStridedSlice Cert.Pre_finite3.S1024x16 ![0, 3072] w Cert.Pre_finite3.Facts.slices_S1024x11312_S1024x16_0_3072 : FVec Ideal Cert.Pre_finite3.S1024x16 .f32) (ix2 k j)
      = w (ix2 k ⟨3072 + j.val, by omega⟩) := by
  pointwise

theorem last_cols [Cert.Pre_finite3.Facts] (w : FVec Ideal S1024x11312 .f32) (k : Fin 1024) (j : Fin 32) :
    (extractStridedSlice Cert.Pre_finite3.S1024x32 ![0, 9232] w Cert.Pre_finite3.Facts.slices_S1024x11312_S1024x32_0_9232 : FVec Ideal Cert.Pre_finite3.S1024x32 .f32) (ix2 k j)
      = w (ix2 k ⟨9232 + j.val, by omega⟩) := by
  pointwise

/-- The precondition says what `Finite` says. -/
theorem finite_of [Cert.Pre_finite3.Facts] (m : (ℓ : Loc nD τ sig) → Buf (Elt Ideal) ℓ) (c : Dev nD)
    (h : Cert.Pre_finite3.fn (xA m c) (gA m c) (scA m c) (shA m c) (wA m c) = fun _ => 1#1) : Finite m c := by
  have h0 := congrFun h ix0
  have hb : ∀ a b : BitVec 1, a &&& b = 1#1 → a = 1#1 ∧ b = 1#1 := by decide
  obtain ⟨h0, h5⟩ := hb _ _ h0
  obtain ⟨h0, h4⟩ := hb _ _ h0
  obtain ⟨h0, h3⟩ := hb _ _ h0
  obtain ⟨h1, h2⟩ := hb _ _ h0
  refine ⟨fun i => ?_, fun i => ?_, fun i => ?_, fun k j => ?_⟩
  · exact Cert.KernelIdeal.Gla.lt_of_cmp (Host.reduce_andi_all _ _ _ _ _ h1 i)
  · exact Cert.KernelIdeal.Gla.lt_of_cmp (Host.reduce_andi_all _ _ _ _ _ h2 i)
  · exact Cert.KernelIdeal.Gla.lt_of_cmp (Host.reduce_andi_all _ _ _ _ _ h3 i)
  · by_cases hj : j.val < 16
    · have e := Cert.KernelIdeal.Gla.lt_of_cmp (Host.reduce_andi_all _ _ _ _ _ h4 (ix2 k ⟨j.val, hj⟩))
      beta_reduce at e
      rw [first_cols] at e
      rw [show Cert.NormSpec.smallCol j = ⟨3072 + j.val, by omega⟩ from (dif_pos hj).trans (Fin.ext (Nat.add_comm _ _))]
      exact e
    · have e := Cert.KernelIdeal.Gla.lt_of_cmp (Host.reduce_andi_all _ _ _ _ _ h5 (ix2 k ⟨j.val - 16, by omega⟩))
      beta_reduce at e
      rw [last_cols] at e
      rw [show Cert.NormSpec.smallCol j = ⟨9232 + (j.val - 16), by omega⟩ from (dif_neg hj).trans (Fin.ext (show j.val + 9216 = 9232 + (j.val - 16) by omega))]
      exact e

end Cert.Kernel3Ideal.Norm

namespace Cert.NormFrame

open Idealize.ShloMosaic Idealize.SL.Sem

variable {F : FTy → Type} [FloatOps F]

instance factsK : Cert.Kernel3.Facts := Cert.Kernel3.Gen.facts
instance factsI : Cert.Kernel3Ideal.Facts := Cert.Kernel3Ideal.Gen.facts

/-- The kernel and its idealization have one body, -/
theorem bodies : @Cert.Kernel3.defs₀ F _ factsK = @Cert.Kernel3Ideal.defs₀ F _ factsI := by
  unfold Cert.Kernel3.defs₀ Cert.Kernel3Ideal.defs₀
  refine congrArg (Defs.onTc (nD := Cert.Kernel3Ideal.nD) (τ := Cert.Kernel3Ideal.τ) (sig := Cert.Kernel3Ideal.sig) (Λ := Cert.Kernel3Ideal.Λ₀)) ?_
  funext l x
  match l, x with
  | 0, (t, s) => rfl

/-- so one table of bodies, -/
theorem tables : @Cert.Kernel3.defs F _ factsK = @Cert.Kernel3Ideal.defs F _ factsI := by
  show Pipeline.defs Cert.Kernel3.pcfgs Cert.Kernel3.defs₀ = _
  rw [bodies]
  rfl

/-- and one program. -/
theorem mains (c : Dev Cert.Kernel3.nD) : @Cert.Kernel3.main F _ factsK c = @Cert.Kernel3Ideal.main F _ factsI c := rfl

set_option maxHeartbeats 2000000 in
/-- The kernel ends without fault, its arguments as they were and its semaphores at zero. -/
theorem kernel_frame (m : (ℓ : Loc Cert.Kernel3.nD Cert.Kernel3.τ Cert.Kernel3.sig) → Buf (Elt F) ℓ) (ρ : Dev Cert.Kernel3.nD → PrngReg) :
    θ_run (Cert.Kernel3.defs (F := F)) (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0) := by
  rw [tables, show (Cert.Kernel3.main (F := F)) = Cert.Kernel3Ideal.main from funext mains]
  exact Cert.Kernel3Ideal.Norm.norm_frame m ρ

end Cert.NormFrame

end
-- ==== Proof.MergeRun.lean ====
/- The kernel that merges: the first two result blocks of a grid point, of the point's input blocks.  -/
module

public import proofs.«01_k».proof.Proof.NormFrame
public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Pointwise
public import Idealize.ShloMosaic.Lib.Tactic
public import Idealize.ShloMosaic.Lib.Quiescent

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL Idealize.SL.Sem

variable {F : FTy → Type} [FloatOps F]

/-- The gated residual of a row tile, of its input blocks. -/
def x1Blk (x0 : Vec F S512x1024 .bf16) (x1 : Vec F S512x2048 .bf16) (x2 x3 : Vec F S512x1024 .bf16) (x4 : Vec F S512x1024 .f32) (x5 : Vec F S1x1x1024 .f32) (x6 : Vec F S1024x1024 .bf16) (x7 : Vec F S2048x1024 .bf16) (x8 : Vec F S1024x1024 .bf16) : Vec F S512x1024 .f32 :=
  k0_pay6 (k0_pay4 x0 x6 x1 x7 x2 x3) (k0_pay5 x4) x5 x8

/-- The normed rows of a row tile, of its input blocks. -/
def h2Blk (x0 : Vec F S512x1024 .bf16) (x1 : Vec F S512x2048 .bf16) (x2 x3 : Vec F S512x1024 .bf16) (x4 : Vec F S512x1024 .f32) (x5 : Vec F S1x1x1024 .f32) (x6 : Vec F S1024x1024 .bf16) (x7 : Vec F S2048x1024 .bf16) (x8 : Vec F S1024x1024 .bf16) (x9 : Vec F S1x1024 .f32) (x10 x11 : Vec F S1x1x1024 .f32) : Vec F S512x1024 .f32 :=
  k0_pay7 (k0_pay4 x0 x6 x1 x7 x2 x3) (k0_pay5 x4) x5 x8 x9 x10 x11

theorem zeros2 : (![0, 0] : Fin 2 → Nat) = fun _ => 0 := funext fun a => by fin_cases a <;> rfl
theorem zeros3 : (![0, 0, 0] : Fin 3 → Nat) = fun _ => 0 := funext fun a => by fin_cases a <;> rfl

/-- Result 1's block at the first point. -/
theorem out_A_14 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x128 .f32) (harg13 : arg13.IsWhole) (arg14 : Memref sig .tc .vmem S1x128 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .i32) (harg17 : arg17.IsWhole) (arg18 : Memref sig .tc .vmem S512x128 .f32) (harg18 : arg18.IsWhole) (arg19 : Memref sig .tc .vmem S8x128 .f32) (harg19 : arg19.IsWhole) (arg20 : Memref sig .tc .vmem S8x128 .f32) (harg20 : arg20.IsWhole) (hc0 : cond0_0 i)
    (x0 : Vec F S512x1024 .bf16) (x1 : Vec F S512x2048 .bf16) (x2 : Vec F S512x1024 .bf16) (x3 : Vec F S512x1024 .bf16) (x4 : Vec F S512x1024 .f32) (x5 : Vec F S1x1x1024 .f32) (x6 : Vec F S1024x1024 .bf16) (x7 : Vec F S2048x1024 .bf16) (x8 : Vec F S1024x1024 .bf16) (x9 : Vec F S1x1024 .f32) (x10 : Vec F S1x1x1024 .f32) (x11 : Vec F S1x1x1024 .f32) (x12 : Vec F S1024x128 .f32) (x13 : Vec F S1x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = x1Blk x0 x1 x2 x3 x4 x5 x6 x7 x8 := by
  have p0 : View.readAt (Elt F) arg1.view (Rect.unit (s := S512x1024) ![0, 0] S512x1024.size inb_S512x1024_S512x1024_0_0).toLoadRect (harg1.unread x0) = x0 := by
    rw [View.readAt_eq_ld, harg1.read_unread]; exact View.ld_unit_zero (S := S512x1024) zeros2 _ _
  have p1 : View.readAt (Elt F) arg2.view (Rect.unit (s := S512x2048) ![0, 0] S512x2048.size inb_S512x2048_S512x2048_0_0).toLoadRect (harg2.unread x1) = x1 := by
    rw [View.readAt_eq_ld, harg2.read_unread]; exact View.ld_unit_zero (S := S512x2048) zeros2 _ _
  have p2 : View.readAt (Elt F) arg3.view (Rect.unit (s := S512x1024) ![0, 0] S512x1024.size inb_S512x1024_S512x1024_0_0).toLoadRect (harg3.unread x2) = x2 := by
    rw [View.readAt_eq_ld, harg3.read_unread]; exact View.ld_unit_zero (S := S512x1024) zeros2 _ _
  have p3 : View.readAt (Elt F) arg4.view (Rect.unit (s := S512x1024) ![0, 0] S512x1024.size inb_S512x1024_S512x1024_0_0).toLoadRect (harg4.unread x3) = x3 := by
    rw [View.readAt_eq_ld, harg4.read_unread]; exact View.ld_unit_zero (S := S512x1024) zeros2 _ _
  have p4 : View.readAt (Elt F) arg5.view (Rect.unit (s := S512x1024) ![0, 0] S512x1024.size inb_S512x1024_S512x1024_0_0).toLoadRect (harg5.unread x4) = x4 := by
    rw [View.readAt_eq_ld, harg5.read_unread]; exact View.ld_unit_zero (S := S512x1024) zeros2 _ _
  have p5 : View.readAt (Elt F) arg6.view (Rect.unit (s := S1x1x1024) ![0, 0, 0] S1x1x1024.size inb_S1x1x1024_S1x1x1024_0_0_0).toLoadRect (harg6.unread x5) = x5 := by
    rw [View.readAt_eq_ld, harg6.read_unread]; exact View.ld_unit_zero (S := S1x1x1024) zeros3 _ _
  have p6 : View.readAt (Elt F) arg7.view (Rect.unit (s := S1024x1024) ![0, 0] S1024x1024.size inb_S1024x1024_S1024x1024_0_0).toLoadRect (harg7.unread x6) = x6 := by
    rw [View.readAt_eq_ld, harg7.read_unread]; exact View.ld_unit_zero (S := S1024x1024) zeros2 _ _
  have p7 : View.readAt (Elt F) arg8.view (Rect.unit (s := S2048x1024) ![0, 0] S2048x1024.size inb_S2048x1024_S2048x1024_0_0).toLoadRect (harg8.unread x7) = x7 := by
    rw [View.readAt_eq_ld, harg8.read_unread]; exact View.ld_unit_zero (S := S2048x1024) zeros2 _ _
  have p8 : View.readAt (Elt F) arg9.view (Rect.unit (s := S1024x1024) ![0, 0] S1024x1024.size inb_S1024x1024_S1024x1024_0_0).toLoadRect (harg9.unread x8) = x8 := by
    rw [View.readAt_eq_ld, harg9.read_unread]; exact View.ld_unit_zero (S := S1024x1024) zeros2 _ _
  unfold out0_A_14 kernelRun0_A x1Blk
  refine (View.read_writes_full _ _ _ _ _).trans ?_
  sl_unfold_run_names
  dsimp only
  simp only [p0, p1, p2, p3, p4, p5, p6, p7, p8]

/-- Result 2's block at the first point. -/
theorem out_A_15 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x128 .f32) (harg13 : arg13.IsWhole) (arg14 : Memref sig .tc .vmem S1x128 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .i32) (harg17 : arg17.IsWhole) (arg18 : Memref sig .tc .vmem S512x128 .f32) (harg18 : arg18.IsWhole) (arg19 : Memref sig .tc .vmem S8x128 .f32) (harg19 : arg19.IsWhole) (arg20 : Memref sig .tc .vmem S8x128 .f32) (harg20 : arg20.IsWhole) (hc0 : cond0_0 i)
    (x0 : Vec F S512x1024 .bf16) (x1 : Vec F S512x2048 .bf16) (x2 : Vec F S512x1024 .bf16) (x3 : Vec F S512x1024 .bf16) (x4 : Vec F S512x1024 .f32) (x5 : Vec F S1x1x1024 .f32) (x6 : Vec F S1024x1024 .bf16) (x7 : Vec F S2048x1024 .bf16) (x8 : Vec F S1024x1024 .bf16) (x9 : Vec F S1x1024 .f32) (x10 : Vec F S1x1x1024 .f32) (x11 : Vec F S1x1x1024 .f32) (x12 : Vec F S1024x128 .f32) (x13 : Vec F S1x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = h2Blk x0 x1 x2 x3 x4 x5 x6 x7 x8 x9 x10 x11 := by
  have p0 : View.readAt (Elt F) arg1.view (Rect.unit (s := S512x1024) ![0, 0] S512x1024.size inb_S512x1024_S512x1024_0_0).toLoadRect (harg1.unread x0) = x0 := by
    rw [View.readAt_eq_ld, harg1.read_unread]; exact View.ld_unit_zero (S := S512x1024) zeros2 _ _
  have p1 : View.readAt (Elt F) arg2.view (Rect.unit (s := S512x2048) ![0, 0] S512x2048.size inb_S512x2048_S512x2048_0_0).toLoadRect (harg2.unread x1) = x1 := by
    rw [View.readAt_eq_ld, harg2.read_unread]; exact View.ld_unit_zero (S := S512x2048) zeros2 _ _
  have p2 : View.readAt (Elt F) arg3.view (Rect.unit (s := S512x1024) ![0, 0] S512x1024.size inb_S512x1024_S512x1024_0_0).toLoadRect (harg3.unread x2) = x2 := by
    rw [View.readAt_eq_ld, harg3.read_unread]; exact View.ld_unit_zero (S := S512x1024) zeros2 _ _
  have p3 : View.readAt (Elt F) arg4.view (Rect.unit (s := S512x1024) ![0, 0] S512x1024.size inb_S512x1024_S512x1024_0_0).toLoadRect (harg4.unread x3) = x3 := by
    rw [View.readAt_eq_ld, harg4.read_unread]; exact View.ld_unit_zero (S := S512x1024) zeros2 _ _
  have p4 : View.readAt (Elt F) arg5.view (Rect.unit (s := S512x1024) ![0, 0] S512x1024.size inb_S512x1024_S512x1024_0_0).toLoadRect (harg5.unread x4) = x4 := by
    rw [View.readAt_eq_ld, harg5.read_unread]; exact View.ld_unit_zero (S := S512x1024) zeros2 _ _
  have p5 : View.readAt (Elt F) arg6.view (Rect.unit (s := S1x1x1024) ![0, 0, 0] S1x1x1024.size inb_S1x1x1024_S1x1x1024_0_0_0).toLoadRect (harg6.unread x5) = x5 := by
    rw [View.readAt_eq_ld, harg6.read_unread]; exact View.ld_unit_zero (S := S1x1x1024) zeros3 _ _
  have p6 : View.readAt (Elt F) arg7.view (Rect.unit (s := S1024x1024) ![0, 0] S1024x1024.size inb_S1024x1024_S1024x1024_0_0).toLoadRect (harg7.unread x6) = x6 := by
    rw [View.readAt_eq_ld, harg7.read_unread]; exact View.ld_unit_zero (S := S1024x1024) zeros2 _ _
  have p7 : View.readAt (Elt F) arg8.view (Rect.unit (s := S2048x1024) ![0, 0] S2048x1024.size inb_S2048x1024_S2048x1024_0_0).toLoadRect (harg8.unread x7) = x7 := by
    rw [View.readAt_eq_ld, harg8.read_unread]; exact View.ld_unit_zero (S := S2048x1024) zeros2 _ _
  have p8 : View.readAt (Elt F) arg9.view (Rect.unit (s := S1024x1024) ![0, 0] S1024x1024.size inb_S1024x1024_S1024x1024_0_0).toLoadRect (harg9.unread x8) = x8 := by
    rw [View.readAt_eq_ld, harg9.read_unread]; exact View.ld_unit_zero (S := S1024x1024) zeros2 _ _
  have p9 : View.readAt (Elt F) arg10.view (Rect.unit (s := S1x1024) ![0, 0] S1x1024.size inb_S1x1024_S1x1024_0_0).toLoadRect (harg10.unread x9) = x9 := by
    rw [View.readAt_eq_ld, harg10.read_unread]; exact View.ld_unit_zero (S := S1x1024) zeros2 _ _
  have p10 : View.readAt (Elt F) arg11.view (Rect.unit (s := S1x1x1024) ![0, 0, 0] S1x1x1024.size inb_S1x1x1024_S1x1x1024_0_0_0).toLoadRect (harg11.unread x10) = x10 := by
    rw [View.readAt_eq_ld, harg11.read_unread]; exact View.ld_unit_zero (S := S1x1x1024) zeros3 _ _
  have p11 : View.readAt (Elt F) arg12.view (Rect.unit (s := S1x1x1024) ![0, 0, 0] S1x1x1024.size inb_S1x1x1024_S1x1x1024_0_0_0).toLoadRect (harg12.unread x11) = x11 := by
    rw [View.readAt_eq_ld, harg12.read_unread]; exact View.ld_unit_zero (S := S1x1x1024) zeros3 _ _
  unfold out0_A_15 kernelRun0_A h2Blk
  refine (View.read_writes_full _ _ _ _ _).trans ?_
  sl_unfold_run_names
  dsimp only
  simp only [p0, p1, p2, p3, p4, p5, p6, p7, p8, p9, p10, p11]

/-- Result 1's block past the first point. -/
theorem out_B_14 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x128 .f32) (harg13 : arg13.IsWhole) (arg14 : Memref sig .tc .vmem S1x128 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .i32) (harg17 : arg17.IsWhole) (arg18 : Memref sig .tc .vmem S512x128 .f32) (harg18 : arg18.IsWhole) (arg19 : Memref sig .tc .vmem S8x128 .f32) (harg19 : arg19.IsWhole) (arg20 : Memref sig .tc .vmem S8x128 .f32) (harg20 : arg20.IsWhole) (hc0 : ¬cond0_0 i)
    (x0 : Vec F S512x1024 .bf16) (x1 : Vec F S512x2048 .bf16) (x2 : Vec F S512x1024 .bf16) (x3 : Vec F S512x1024 .bf16) (x4 : Vec F S512x1024 .f32) (x5 : Vec F S1x1x1024 .f32) (x6 : Vec F S1024x1024 .bf16) (x7 : Vec F S2048x1024 .bf16) (x8 : Vec F S1024x1024 .bf16) (x9 : Vec F S1x1024 .f32) (x10 : Vec F S1x1x1024 .f32) (x11 : Vec F S1x1x1024 .f32) (x12 : Vec F S1024x128 .f32) (x13 : Vec F S1x128 .f32) (xs0 : Vec F S8x128 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 = x1Blk x0 x1 x2 x3 x4 x5 x6 x7 x8 := by
  have p0 : View.readAt (Elt F) arg1.view (Rect.unit (s := S512x1024) ![0, 0] S512x1024.size inb_S512x1024_S512x1024_0_0).toLoadRect (harg1.unread x0) = x0 := by
    rw [View.readAt_eq_ld, harg1.read_unread]; exact View.ld_unit_zero (S := S512x1024) zeros2 _ _
  have p1 : View.readAt (Elt F) arg2.view (Rect.unit (s := S512x2048) ![0, 0] S512x2048.size inb_S512x2048_S512x2048_0_0).toLoadRect (harg2.unread x1) = x1 := by
    rw [View.readAt_eq_ld, harg2.read_unread]; exact View.ld_unit_zero (S := S512x2048) zeros2 _ _
  have p2 : View.readAt (Elt F) arg3.view (Rect.unit (s := S512x1024) ![0, 0] S512x1024.size inb_S512x1024_S512x1024_0_0).toLoadRect (harg3.unread x2) = x2 := by
    rw [View.readAt_eq_ld, harg3.read_unread]; exact View.ld_unit_zero (S := S512x1024) zeros2 _ _
  have p3 : View.readAt (Elt F) arg4.view (Rect.unit (s := S512x1024) ![0, 0] S512x1024.size inb_S512x1024_S512x1024_0_0).toLoadRect (harg4.unread x3) = x3 := by
    rw [View.readAt_eq_ld, harg4.read_unread]; exact View.ld_unit_zero (S := S512x1024) zeros2 _ _
  have p4 : View.readAt (Elt F) arg5.view (Rect.unit (s := S512x1024) ![0, 0] S512x1024.size inb_S512x1024_S512x1024_0_0).toLoadRect (harg5.unread x4) = x4 := by
    rw [View.readAt_eq_ld, harg5.read_unread]; exact View.ld_unit_zero (S := S512x1024) zeros2 _ _
  have p5 : View.readAt (Elt F) arg6.view (Rect.unit (s := S1x1x1024) ![0, 0, 0] S1x1x1024.size inb_S1x1x1024_S1x1x1024_0_0_0).toLoadRect (harg6.unread x5) = x5 := by
    rw [View.readAt_eq_ld, harg6.read_unread]; exact View.ld_unit_zero (S := S1x1x1024) zeros3 _ _
  have p6 : View.readAt (Elt F) arg7.view (Rect.unit (s := S1024x1024) ![0, 0] S1024x1024.size inb_S1024x1024_S1024x1024_0_0).toLoadRect (harg7.unread x6) = x6 := by
    rw [View.readAt_eq_ld, harg7.read_unread]; exact View.ld_unit_zero (S := S1024x1024) zeros2 _ _
  have p7 : View.readAt (Elt F) arg8.view (Rect.unit (s := S2048x1024) ![0, 0] S2048x1024.size inb_S2048x1024_S2048x1024_0_0).toLoadRect (harg8.unread x7) = x7 := by
    rw [View.readAt_eq_ld, harg8.read_unread]; exact View.ld_unit_zero (S := S2048x1024) zeros2 _ _
  have p8 : View.readAt (Elt F) arg9.view (Rect.unit (s := S1024x1024) ![0, 0] S1024x1024.size inb_S1024x1024_S1024x1024_0_0).toLoadRect (harg9.unread x8) = x8 := by
    rw [View.readAt_eq_ld, harg9.read_unread]; exact View.ld_unit_zero (S := S1024x1024) zeros2 _ _
  unfold out0_B_14 kernelRun0_B x1Blk
  refine (View.read_writes_full _ _ _ _ _).trans ?_
  sl_unfold_run_names
  dsimp only
  simp only [p0, p1, p2, p3, p4, p5, p6, p7, p8]

/-- Result 2's block past the first point. -/
theorem out_B_15 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x128 .f32) (harg13 : arg13.IsWhole) (arg14 : Memref sig .tc .vmem S1x128 .f32) (harg14 : arg14.IsWhole) (arg15 : Memref sig .tc .vmem S512x1024 .f32) (harg15 : arg15.IsWhole) (arg16 : Memref sig .tc .vmem S512x1024 .f32) (harg16 : arg16.IsWhole) (arg17 : Memref sig .tc .vmem S512x128 .i32) (harg17 : arg17.IsWhole) (arg18 : Memref sig .tc .vmem S512x128 .f32) (harg18 : arg18.IsWhole) (arg19 : Memref sig .tc .vmem S8x128 .f32) (harg19 : arg19.IsWhole) (arg20 : Memref sig .tc .vmem S8x128 .f32) (harg20 : arg20.IsWhole) (hc0 : ¬cond0_0 i)
    (x0 : Vec F S512x1024 .bf16) (x1 : Vec F S512x2048 .bf16) (x2 : Vec F S512x1024 .bf16) (x3 : Vec F S512x1024 .bf16) (x4 : Vec F S512x1024 .f32) (x5 : Vec F S1x1x1024 .f32) (x6 : Vec F S1024x1024 .bf16) (x7 : Vec F S2048x1024 .bf16) (x8 : Vec F S1024x1024 .bf16) (x9 : Vec F S1x1024 .f32) (x10 : Vec F S1x1x1024 .f32) (x11 : Vec F S1x1x1024 .f32) (x12 : Vec F S1024x128 .f32) (x13 : Vec F S1x128 .f32) (xs0 : Vec F S8x128 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 = h2Blk x0 x1 x2 x3 x4 x5 x6 x7 x8 x9 x10 x11 := by
  have p0 : View.readAt (Elt F) arg1.view (Rect.unit (s := S512x1024) ![0, 0] S512x1024.size inb_S512x1024_S512x1024_0_0).toLoadRect (harg1.unread x0) = x0 := by
    rw [View.readAt_eq_ld, harg1.read_unread]; exact View.ld_unit_zero (S := S512x1024) zeros2 _ _
  have p1 : View.readAt (Elt F) arg2.view (Rect.unit (s := S512x2048) ![0, 0] S512x2048.size inb_S512x2048_S512x2048_0_0).toLoadRect (harg2.unread x1) = x1 := by
    rw [View.readAt_eq_ld, harg2.read_unread]; exact View.ld_unit_zero (S := S512x2048) zeros2 _ _
  have p2 : View.readAt (Elt F) arg3.view (Rect.unit (s := S512x1024) ![0, 0] S512x1024.size inb_S512x1024_S512x1024_0_0).toLoadRect (harg3.unread x2) = x2 := by
    rw [View.readAt_eq_ld, harg3.read_unread]; exact View.ld_unit_zero (S := S512x1024) zeros2 _ _
  have p3 : View.readAt (Elt F) arg4.view (Rect.unit (s := S512x1024) ![0, 0] S512x1024.size inb_S512x1024_S512x1024_0_0).toLoadRect (harg4.unread x3) = x3 := by
    rw [View.readAt_eq_ld, harg4.read_unread]; exact View.ld_unit_zero (S := S512x1024) zeros2 _ _
  have p4 : View.readAt (Elt F) arg5.view (Rect.unit (s := S512x1024) ![0, 0] S512x1024.size inb_S512x1024_S512x1024_0_0).toLoadRect (harg5.unread x4) = x4 := by
    rw [View.readAt_eq_ld, harg5.read_unread]; exact View.ld_unit_zero (S := S512x1024) zeros2 _ _
  have p5 : View.readAt (Elt F) arg6.view (Rect.unit (s := S1x1x1024) ![0, 0, 0] S1x1x1024.size inb_S1x1x1024_S1x1x1024_0_0_0).toLoadRect (harg6.unread x5) = x5 := by
    rw [View.readAt_eq_ld, harg6.read_unread]; exact View.ld_unit_zero (S := S1x1x1024) zeros3 _ _
  have p6 : View.readAt (Elt F) arg7.view (Rect.unit (s := S1024x1024) ![0, 0] S1024x1024.size inb_S1024x1024_S1024x1024_0_0).toLoadRect (harg7.unread x6) = x6 := by
    rw [View.readAt_eq_ld, harg7.read_unread]; exact View.ld_unit_zero (S := S1024x1024) zeros2 _ _
  have p7 : View.readAt (Elt F) arg8.view (Rect.unit (s := S2048x1024) ![0, 0] S2048x1024.size inb_S2048x1024_S2048x1024_0_0).toLoadRect (harg8.unread x7) = x7 := by
    rw [View.readAt_eq_ld, harg8.read_unread]; exact View.ld_unit_zero (S := S2048x1024) zeros2 _ _
  have p8 : View.readAt (Elt F) arg9.view (Rect.unit (s := S1024x1024) ![0, 0] S1024x1024.size inb_S1024x1024_S1024x1024_0_0).toLoadRect (harg9.unread x8) = x8 := by
    rw [View.readAt_eq_ld, harg9.read_unread]; exact View.ld_unit_zero (S := S1024x1024) zeros2 _ _
  have p9 : View.readAt (Elt F) arg10.view (Rect.unit (s := S1x1024) ![0, 0] S1x1024.size inb_S1x1024_S1x1024_0_0).toLoadRect (harg10.unread x9) = x9 := by
    rw [View.readAt_eq_ld, harg10.read_unread]; exact View.ld_unit_zero (S := S1x1024) zeros2 _ _
  have p10 : View.readAt (Elt F) arg11.view (Rect.unit (s := S1x1x1024) ![0, 0, 0] S1x1x1024.size inb_S1x1x1024_S1x1x1024_0_0_0).toLoadRect (harg11.unread x10) = x10 := by
    rw [View.readAt_eq_ld, harg11.read_unread]; exact View.ld_unit_zero (S := S1x1x1024) zeros3 _ _
  have p11 : View.readAt (Elt F) arg12.view (Rect.unit (s := S1x1x1024) ![0, 0, 0] S1x1x1024.size inb_S1x1x1024_S1x1x1024_0_0_0).toLoadRect (harg12.unread x11) = x11 := by
    rw [View.readAt_eq_ld, harg12.read_unread]; exact View.ld_unit_zero (S := S1x1x1024) zeros3 _ _
  unfold out0_B_15 kernelRun0_B h2Blk
  refine (View.read_writes_full _ _ _ _ _).trans ?_
  sl_unfold_run_names
  dsimp only
  simp only [p0, p1, p2, p3, p4, p5, p6, p7, p8, p9, p10, p11]

section Launch

variable (m : (ℓ : Loc nD τ sig) → Buf (Elt F) ℓ) (ρ : Dev nD → PrngReg)

/-- The residual's block of grid point `t`, -/
def x1At (c : Dev nD) (t : Fin cfg0.N) : Vec F S512x1024 .f32 :=
  x1Blk (iblk m c 0 t) (iblk m c 1 t) (iblk m c 2 t) (iblk m c 3 t) (iblk m c 4 t) (iblk m c 5 t) (iblk m c 6 t) (iblk m c 7 t) (iblk m c 8 t)

/-- and its normed rows. -/
def h2At (c : Dev nD) (t : Fin cfg0.N) : Vec F S512x1024 .f32 :=
  h2Blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem after_x1 (c : Dev nD) (t : Fin cfg0.N) : (dats m 0 c).after 14 t = x1At m c t := by
  rw [after0_14]
  by_cases h : t.val % 32 = 0
  · rw [outsAt0_A m c t h]; dsimp only; unfold x1At; exact out_A_14 (F := F) ..
  · rw [outsAt0_B m c t h]; dsimp only; unfold x1At; exact out_B_14 (F := F) ..

theorem after_h2 (c : Dev nD) (t : Fin cfg0.N) : (dats m 0 c).after 15 t = h2At m c t := by
  rw [after0_15]
  by_cases h : t.val % 32 = 0
  · rw [outsAt0_A m c t h]; dsimp only; unfold h2At; exact out_A_15 (F := F) ..
  · rw [outsAt0_B m c t h]; dsimp only; unfold h2At; exact out_B_15 (F := F) ..

/-- The run with the first two result arrays named and the arguments as launched. -/
theorem merge_blocks : θ_run defs (onTc (τ := τ) (main (F := F))) ⟨m, fun _ => 0, ρ⟩ fun r => ∀ c : Dev nD,
      r.2.mem ((c : Thread nD τ).loc main_v13_0) = (dats m 0 c).arrAt 14 cfg0.N
      ∧ r.2.mem ((c : Thread nD τ).loc main_v13_1) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h.1 c).1 14, (h.1 c).1 15, h.2 c⟩) (θ_run_and (run_main m ρ) (unchanged m ρ))

end Launch

end Cert.Kernel4Ideal.Merge

end
-- ==== Proof.MergeRef.lean ====
/- The merge of the two branches, its gated residual and the norm after it as mathematics, and the reference's two result
   arrays index by index.  -/
module

public import proofs.«01_k».proof.Proof.MergeRun
public import proofs.«01_k».proof.Proof.Gen.Reference4Ideal.Run
public import Idealize.ShloMosaic.Lib.Pointwise
public import Idealize.ShloMosaic.Lib.Affine

@[expose] public section

set_option maxRecDepth 16384

noncomputable section

namespace Cert.MergeSpec

open Idealize.ShloMosaic Cert.Reference4Ideal

/-- The logistic gate. -/
def gate (a : EReal) : EReal := Ideal.div 1 (1 + Ideal.exp (-a))

section

variable (oa : FVec Ideal S16384x1024 .bf16) (ob : FVec Ideal S16384x2048 .bf16) (p : FVec Ideal S16384x11264 .bf16) (x : FVec Ideal S8x2048x1024 .f32)
  (gt : FVec Ideal S8x1024 .f32) (wa : FVec Ideal S1024x1024 .f32) (wb : FVec Ideal S2048x1024 .f32) (wo : FVec Ideal S1024x1024 .f32)
  (g : FVec Ideal S1024 .f32) (sc sh : FVec Ideal S8x1024 .f32)

/-- Entry `k` of row `r` of the two branches merged: each branch's projection times its gate. -/
def merged (r : Fin 16384) (k : Fin 1024) : EReal :=
  gate (p (ix2 r ⟨9216 + k.val, by omega⟩)) * ∑ l : Fin 1024, oa (ix2 r l) * wa (ix2 l k)
    + gate (p (ix2 r ⟨10240 + k.val, by omega⟩)) * ∑ l : Fin 2048, ob (ix2 r l) * wb (ix2 l k)

/-- The input's row with the gated projection of the merged row added. -/
def resid (r : Fin 16384) (d : Fin 1024) : EReal :=
  x (ix3 ⟨r.val / 2048, by omega⟩ ⟨r.val % 2048, by omega⟩ d)
    + gt (ix2 ⟨r.val / 2048, by omega⟩ d) * ∑ k : Fin 1024, merged oa ob p wa wb r k * wo (ix2 k d)

/-- The residual's row normed, scaled and shifted. -/
def normed (r : Fin 16384) (d : Fin 1024) : EReal :=
  resid oa ob p x gt wa wb wo r d
      * Ideal.rsqrt (Ideal.div (∑ k : Fin 1024, resid oa ob p x gt wa wb wo r k * resid oa ob p x gt wa wb wo r k) (Ideal.ofBits FTy.f32 0x44800000#32) + Ideal.ofBits FTy.f32 0x358637BD#32)
      * g (ix1 d) * (1 + sc (ix2 ⟨r.val / 2048, by omega⟩ d)) + sh (ix2 ⟨r.val / 2048, by omega⟩ d)

end

end Cert.MergeSpec

namespace Cert.Reference4Ideal.Merge

open Cert.Reference4Ideal Cert.Reference4Ideal.Gen Cert.MergeSpec
open Idealize.ShloMosaic Idealize.ShloMosaic.TcCoe Idealize.SL.Sem

variable {F : FTy → Type} [FloatOps F]

/-- The gates, -/
def gatesR (p : FVec F S16384x11264 .bf16) : FVec F S8x2048x2048 .f32 :=
  Host.divf (broadcastInDim S8x2048x2048 ![] bcast_S_S8x2048x2048 (constant S_ .f32 0x3F800000#32))
    (addf (broadcastInDim S8x2048x2048 ![] bcast_S_S8x2048x2048 (constant S_ .f32 0x3F800000#32))
      (Host.exp (Host.negf (shapeCast S8x2048x2048 (extf .f32 (extractStridedSlice S16384x2048 ![0, 9216] p slices_S16384x11264_S16384x2048_0_9216) bitsLt_bf16_f32) shapeCasts_S16384x2048_S8x2048x2048))))

/-- the two branches' projections, -/
def projA (oa : FVec F S16384x1024 .bf16) (wa : FVec F S1024x1024 .f32) : FVec F S8x2048x1024 .f32 :=
  Host.dotGeneral dot_S8x2048x1024_S1024x1024_S8x2048x1024_2_0_01_1_n_n none (shapeCast S8x2048x1024 (extf .f32 oa bitsLt_bf16_f32) shapeCasts_S16384x1024_S8x2048x1024) wa

def projB (ob : FVec F S16384x2048 .bf16) (wb : FVec F S2048x1024 .f32) : FVec F S8x2048x1024 .f32 :=
  Host.dotGeneral dot_S8x2048x2048_S2048x1024_S8x2048x1024_2_0_01_1_n_n none (shapeCast S8x2048x2048 (extf .f32 ob bitsLt_bf16_f32) shapeCasts_S16384x2048_S8x2048x2048) wb

/-- the merged rows, -/
def mergedR (q : FVec F S8x2048x2048 .f32) (a b : FVec F S8x2048x1024 .f32) : FVec F S8x2048x1024 .f32 :=
  addf (mulf (extractStridedSlice S8x2048x1024 ![0, 0, 0] q slices_S8x2048x2048_S8x2048x1024_0_0_0) a)
    (mulf (extractStridedSlice S8x2048x1024 ![0, 0, 1024] q slices_S8x2048x2048_S8x2048x1024_0_0_1024) b)

/-- the residual of them, and -/
def residR (x : FVec F S8x2048x1024 .f32) (gt : FVec F S8x1024 .f32) (mg : FVec F S8x2048x1024 .f32) (wo : FVec F S1024x1024 .f32) : FVec F S8x2048x1024 .f32 :=
  addf x (mulf (broadcastInDim S8x2048x1024 ![0, 1, 2] bcast_S8x1x1024_S8x2048x1024_0_1_2 (broadcastInDim S8x1x1024 ![0, 2] bcast_S8x1024_S8x1x1024_0_2 gt))
    (Host.dotGeneral dot_S8x2048x1024_S1024x1024_S8x2048x1024_2_0_01_1_n_n none mg wo))

/-- its reciprocal roots, -/
def invR (x : FVec F S8x2048x1024 .f32) : FVec F S8x2048x1 .f32 :=
  Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))

/-- with the normed rows. -/
def rowR (x : FVec F S8x2048x1024 .f32) (g : FVec F S1024 .f32) (sc sh : FVec F S8x1024 .f32) : FVec F S8x2048x1024 .f32 :=
  addf (mulf (mulf (mulf x (broadcastInDim S8x2048x1024 ![0, 1, 2] bcast_S8x2048x1_S8x2048x1024_0_1_2 (invR x)))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 sc))))
    (broadcastInDim S8x2048x1024 ![0, 1, 2] bcast_S8x1x1024_S8x2048x1024_0_1_2 (broadcastInDim S8x1x1024 ![0, 2] bcast_S8x1024_S8x1x1024_0_2 sh))

def flatR (x : FVec F S8x2048x1024 .f32) : FVec F S16384x1024 .f32 := shapeCast S16384x1024 x shapeCasts_S8x2048x1024_S16384x1024

/-- The residual, of the arguments. -/
def x1R (oa : FVec F S16384x1024 .bf16) (ob : FVec F S16384x2048 .bf16) (p : FVec F S16384x11264 .bf16) (x : FVec F S8x2048x1024 .f32)
    (gt : FVec F S8x1024 .f32) (wa : FVec F S1024x1024 .f32) (wb : FVec F S2048x1024 .f32) (wo : FVec F S1024x1024 .f32) : FVec F S8x2048x1024 .f32 :=
  residR x gt (mergedR (gatesR p) (projA oa wa) (projB ob wb)) wo

theorem res_eq (m : (ℓ : Loc nD τ sig) → Buf (Elt F) ℓ) (c : Dev nD) : Value.res_main_v47 m c
    = flatR (rowR (x1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) (m ((c.tc : Thread nD τ).loc main_arg10))) := by
  unfold Value.res_main_v47
  rfl

theorem flat_at (x : FVec Ideal S8x2048x1024 .f32) (r : Fin 16384) (d : Fin 1024) :
    flatR (F := Ideal) x (ix2 r d) = x (ix3 ⟨r.val / 2048, by omega⟩ ⟨r.val % 2048, by omega⟩ d) := by
  pointwise [flatR]

theorem gates_at (p : FVec Ideal S16384x11264 .bf16) (r : Fin 16384) (j : Fin 2048) :
    gatesR (F := Ideal) p (ix3 ⟨r.val / 2048, by omega⟩ ⟨r.val % 2048, by omega⟩ j) = gate (p (ix2 r ⟨9216 + j.val, by omega⟩)) := by
  have e : ∀ (b : Fin 8) (s : Fin 2048), gatesR (F := Ideal) p (ix3 b s j) = gate (p (ix2 ⟨b.val * 2048 + s.val, by omega⟩ ⟨9216 + j.val, by omega⟩)) := fun b s => by
    pointwise [gatesR, gate]
  rw [e]
  exact congrArg (fun z => gate (p (ix2 z _))) (Fin.ext (show r.val / 2048 * 2048 + r.val % 2048 = r.val by omega))

theorem projA_at (oa : FVec Ideal S16384x1024 .bf16) (wa : FVec Ideal S1024x1024 .f32) (r : Fin 16384) (k : Fin 1024) :
    projA (F := Ideal) oa wa (ix3 ⟨r.val / 2048, by omega⟩ ⟨r.val % 2048, by omega⟩ k) = ∑ l : Fin 1024, oa (ix2 r l) * wa (ix2 l k) := by
  have e : ∀ (b : Fin 8) (s : Fin 2048), projA (F := Ideal) oa wa (ix3 b s k) = ∑ l : Fin 1024, oa (ix2 ⟨b.val * 2048 + s.val, by omega⟩ l) * wa (ix2 l k) := fun b s => by
    pointwise [projA]
  rw [e]
  exact congrArg (fun z => ∑ l : Fin 1024, oa (ix2 z l) * wa (ix2 l k)) (Fin.ext (show r.val / 2048 * 2048 + r.val % 2048 = r.val by omega))

theorem projB_at (ob : FVec Ideal S16384x2048 .bf16) (wb : FVec Ideal S2048x1024 .f32) (r : Fin 16384) (k : Fin 1024) :
    projB (F := Ideal) ob wb (ix3 ⟨r.val / 2048, by omega⟩ ⟨r.val % 2048, by omega⟩ k) = ∑ l : Fin 2048, ob (ix2 r l) * wb (ix2 l k) := by
  have e : ∀ (b : Fin 8) (s : Fin 2048), projB (F := Ideal) ob wb (ix3 b s k) = ∑ l : Fin 2048, ob (ix2 ⟨b.val * 2048 + s.val, by omega⟩ l) * wb (ix2 l k) := fun b s => by
    pointwise [projB]
  rw [e]
  exact congrArg (fun z => ∑ l : Fin 2048, ob (ix2 z l) * wb (ix2 l k)) (Fin.ext (show r.val / 2048 * 2048 + r.val % 2048 = r.val by omega))

theorem mergedR_at (q : FVec Ideal S8x2048x2048 .f32) (a b : FVec Ideal S8x2048x1024 .f32) (e : Fin 8) (s : Fin 2048) (k : Fin 1024) :
    mergedR (F := Ideal) q a b (ix3 e s k) = q (ix3 e s ⟨k.val, by omega⟩) * a (ix3 e s k) + q (ix3 e s ⟨1024 + k.val, by omega⟩) * b (ix3 e s k) := by
  pointwise [mergedR]

theorem residR_at (x : FVec Ideal S8x2048x1024 .f32) (gt : FVec Ideal S8x1024 .f32) (mg : FVec Ideal S8x2048x1024 .f32) (wo : FVec Ideal S1024x1024 .f32) (b : Fin 8) (s : Fin 2048) (d : Fin 1024) :
    residR (F := Ideal) x gt mg wo (ix3 b s d) = x (ix3 b s d) + gt (ix2 b d) * ∑ k : Fin 1024, mg (ix3 b s k) * wo (ix2 k d) := by
  pointwise [residR]

theorem invR_at (x : FVec Ideal S8x2048x1024 .f32) (b : Fin 8) (s : Fin 2048) (z : Fin 1) :
    invR (F := Ideal) x (ix3 b s z) = Ideal.rsqrt (Ideal.div (∑ k : Fin 1024, x (ix3 b s k) * x (ix3 b s k)) (Ideal.ofBits FTy.f32 0x44800000#32) + Ideal.ofBits FTy.f32 0x358637BD#32) := by
  pointwise [invR]

theorem rowR_at (x : FVec Ideal S8x2048x1024 .f32) (g : FVec Ideal S1024 .f32) (sc sh : FVec Ideal S8x1024 .f32) (b : Fin 8) (s : Fin 2048) (k : Fin 1024) :
    rowR (F := Ideal) x g sc sh (ix3 b s k) = x (ix3 b s k) * Ideal.rsqrt (Ideal.div (∑ k : Fin 1024, x (ix3 b s k) * x (ix3 b s k)) (Ideal.ofBits FTy.f32 0x44800000#32) + Ideal.ofBits FTy.f32 0x358637BD#32)
      * g (ix1 k) * (1 + sc (ix2 b k)) + sh (ix2 b k) := by
  rw [← invR_at x b s 0]
  pointwise [rowR]

section

variable (oa : FVec Ideal S16384x1024 .bf16) (ob : FVec Ideal S16384x2048 .bf16) (p : FVec Ideal S16384x11264 .bf16) (x : FVec Ideal S8x2048x1024 .f32)
  (gt : FVec Ideal S8x1024 .f32) (wa : FVec Ideal S1024x1024 .f32) (wb : FVec Ideal S2048x1024 .f32) (wo : FVec Ideal S1024x1024 .f32)
  (g : FVec Ideal S1024 .f32) (sc sh : FVec Ideal S8x1024 .f32)

theorem x1R_at (r : Fin 16384) (d : Fin 1024) :
    x1R (F := Ideal) oa ob p x gt wa wb wo (ix3 ⟨r.val / 2048, by omega⟩ ⟨r.val % 2048, by omega⟩ d) = resid oa ob p x gt wa wb wo r d := by
  unfold x1R resid
  rw [residR_at]
  refine congrArg (fun z => _ + _ * z) (Finset.sum_congr rfl fun k _ => congrArg (· * _) ?_)
  rw [mergedR_at, projA_at, projB_at, gates_at, gates_at, merged]
  refine congrArg (fun z => _ + gate (p (ix2 r z)) * _) (Fin.ext (show 9216 + (1024 + k.val) = 10240 + k.val by omega))

/-- The first result's entry is the residual's. -/
theorem first_at (r : Fin 16384) (d : Fin 1024) : flatR (F := Ideal) (x1R oa ob p x gt wa wb wo) (ix2 r d) = resid oa ob p x gt wa wb wo r d := by
  rw [flat_at, x1R_at]

/-- The second result's entry is the normed row's. -/
theorem second_at (r : Fin 16384) (d : Fin 1024) :
    flatR (F := Ideal) (rowR (x1R oa ob p x gt wa wb wo) g sc sh) (ix2 r d) = normed oa ob p x gt wa wb wo g sc sh r d := by
  rw [flat_at, rowR_at, normed]
  simp only [x1R_at]

end

/-- The reference keeps its arguments and leaves every counter at zero. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => (h c).2.2, sem_eq_zero_of_no_sems (by decide) r.2⟩) (Value.run m ρ)

/-- What the reference leaves: the residual and its normed rows. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = flatR (F := Ideal) (x1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v47) = flatR (F := Ideal) (rowR (x1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1, (h c).2.1.trans (res_eq m c), (h c).2.2⟩) (Value.run m ρ)

end Cert.Reference4Ideal.Merge

end
-- ==== Proof.MergeKer.lean ====
/- The kernel that merges: what its body computes of its blocks, which part of its array each block is, and the first two
   result arrays index by index.  -/
module

public import proofs.«01_k».proof.Proof.MergeRef
public import Idealize.ShloMosaic.Lib.Pipeline.ValueKit
public import Idealize.ShloMosaic.Lib.Pipeline.Covers

@[expose] public section

set_option maxRecDepth 16384

noncomputable section

namespace Cert.Kernel4Ideal.Merge

open Cert.Kernel4Ideal Cert.Kernel4Ideal.Gen Cert.MergeSpec
open Cert.Reference4Ideal.Merge (flatR rowR x1R first_at second_at)
open Idealize.ShloMosaic Idealize.ShloMosaic.TcCoe Idealize.SL.Sem

section Body

variable (x0 : FVec Ideal S512x1024 .bf16) (x1 : FVec Ideal S512x2048 .bf16) (x2 x3 : FVec Ideal S512x1024 .bf16) (x4 : FVec Ideal S512x1024 .f32) (x5 : FVec Ideal S1x1x1024 .f32)
  (x6 : FVec Ideal S1024x1024 .bf16) (x7 : FVec Ideal S2048x1024 .bf16) (x8 : FVec Ideal S1024x1024 .bf16) (x9 : FVec Ideal S1x1024 .f32) (x10 x11 : FVec Ideal S1x1x1024 .f32)

/-- The body's gate subtracts from zero. -/
theorem gate_sub (a : EReal) : Ideal.div 1 (1 + Ideal.exp (0 - a)) = gate a := by rw [zero_sub, gate]

theorem merged_at (s : Fin 512) (k : Fin 1024) : k0_pay4 (F := Ideal) x0 x6 x1 x7 x2 x3 (ix2 s k)
    = gate (x2 (ix2 s k)) * ∑ l : Fin 1024, x0 (ix2 s l) * x6 (ix2 l k) + gate (x3 (ix2 s k)) * ∑ l : Fin 2048, x1 (ix2 s l) * x7 (ix2 l k) := by
  rw [← gate_sub, ← gate_sub]
  pointwise [k0_pay4]

theorem sum_at (y z : FVec Ideal S512x1024 .f32) (s : Fin 512) (d : Fin 1024) : k0_pay6 (F := Ideal) y (k0_pay5 z) x5 x8 (ix2 s d)
    = z (ix2 s d) + x5 (ix3 0 0 d) * ∑ k : Fin 1024, y (ix2 s k) * x8 (ix2 k d) := by
  pointwise [k0_pay6, k0_pay5]

theorem norm_at (y z : FVec Ideal S512x1024 .f32) (s : Fin 512) (d : Fin 1024) : k0_pay7 (F := Ideal) y z x5 x8 x9 x10 x11 (ix2 s d)
    = k0_pay6 (F := Ideal) y z x5 x8 (ix2 s d) * Ideal.rsqrt (Ideal.div (∑ k : Fin 1024, k0_pay6 (F := Ideal) y z x5 x8 (ix2 s k) * k0_pay6 (F := Ideal) y z x5 x8 (ix2 s k)) (Ideal.ofBits FTy.f32 0x44800000#32) + Ideal.ofBits FTy.f32 0x358637BD#32)
      * x9 (ix2 0 d) * (1 + x10 (ix3 0 0 d)) + x11 (ix3 0 0 d) := by
  pointwise [k0_pay7]

end Body

variable (m : (ℓ : Loc nD τ sig) → Buf (Elt Ideal) ℓ) (c : Dev nD)

/-- The arguments as arrays. -/
abbrev oaA : FVec Ideal S16384x1024 .bf16 := m ((c : Thread nD τ).loc main_arg0)
abbrev obA : FVec Ideal S16384x2048 .bf16 := m ((c : Thread nD τ).loc main_arg1)
abbrev pA : FVec Ideal S16384x11264 .bf16 := m ((c : Thread nD τ).loc main_arg2)
abbrev xA : FVec Ideal S8x2048x1024 .f32 := m ((c : Thread nD τ).loc main_arg3)
abbrev gtA : FVec Ideal S8x1024 .f32 := m ((c : Thread nD τ).loc main_arg4)
abbrev waA : FVec Ideal S1024x1024 .f32 := m ((c : Thread nD τ).loc main_arg5)
abbrev wbA : FVec Ideal S2048x1024 .f32 := m ((c : Thread nD τ).loc main_arg6)
abbrev woA : FVec Ideal S1024x1024 .f32 := m ((c : Thread nD τ).loc main_arg7)
abbrev gA : FVec Ideal S1024 .f32 := m ((c : Thread nD τ).loc main_arg8)
abbrev scA : FVec Ideal S8x1024 .f32 := m ((c : Thread nD τ).loc main_arg9)
abbrev shA : FVec Ideal S8x1024 .f32 := m ((c : Thread nD τ).loc main_arg10)

theorem V_arg0 : (V m c main_arg0 : FVec Ideal S16384x1024 .bf16) = oaA m c := by
  unfold V hostOps0
  after_reads_simp

theorem V_arg1 : (V m c main_arg1 : FVec Ideal S16384x2048 .bf16) = obA m c := by
  unfold V hostOps0
  after_reads_simp

theorem V_arg2 : (V m c main_arg2 : FVec Ideal S16384x11264 .bf16) = pA m c := by
  unfold V hostOps0
  after_reads_simp

theorem V_v5 (r : Fin 16384) (k : Fin 1024) :
    (V m c main_v5 : FVec Ideal S16384x1024 .f32) (ix2 r k) = xA m c (ix3 ⟨r.val / 2048, by omega⟩ ⟨r.val % 2048, by omega⟩ k) := by
  have h : V m c main_v5 = (shapeCast S16384x1024 (xA m c) shapeCasts_S8x2048x1024_S16384x1024 : FVec Ideal S16384x1024 .f32) := by
    unfold V hostOps0
    after_reads_simp
    rfl
  rw [h]
  pointwise

theorem V_v6 (b : Fin 8) (k : Fin 1024) : (V m c main_v6 : FVec Ideal S8x1x1024 .f32) (ix3 b 0 k) = gtA m c (ix2 b k) := by
  have h : V m c main_v6 = (shapeCast S8x1x1024 (gtA m c) shapeCasts_S8x1024_S8x1x1024 : FVec Ideal S8x1x1024 .f32) := by
    unfold V hostOps0
    after_reads_simp
    rfl
  rw [h]
  pointwise

theorem V_v11 (b : Fin 8) (k : Fin 1024) : (V m c main_v11 : FVec Ideal S8x1x1024 .f32) (ix3 b 0 k) = scA m c (ix2 b k) := by
  have h : V m c main_v11 = (shapeCast S8x1x1024 (scA m c) shapeCasts_S8x1024_S8x1x1024 : FVec Ideal S8x1x1024 .f32) := by
    unfold V hostOps0
    after_reads_simp
    rfl
  rw [h]
  pointwise

theorem V_v12 (b : Fin 8) (k : Fin 1024) : (V m c main_v12 : FVec Ideal S8x1x1024 .f32) (ix3 b 0 k) = shA m c (ix2 b k) := by
  have h : V m c main_v12 = (shapeCast S8x1x1024 (shA m c) shapeCasts_S8x1024_S8x1x1024 : FVec Ideal S8x1x1024 .f32) := by
    unfold V hostOps0
    after_reads_simp
    rfl
  rw [h]
  pointwise

theorem V_v10 (k : Fin 1024) : (V m c main_v10 : FVec Ideal S1x1024 .f32) (ix2 0 k) = gA m c (ix1 k) := by
  have h : V m c main_v10 = (shapeCast S1x1024 (gA m c) shapeCasts_S1024_S1x1024 : FVec Ideal S1x1024 .f32) := by
    unfold V hostOps0
    after_reads_simp
    rfl
  rw [h]
  pointwise

theorem V_v7 (l : Fin 1024) (k : Fin 1024) : (V m c main_v7 : FVec Ideal S1024x1024 .bf16) (ix2 l k) = waA m c (ix2 l k) := by
  have h : V m c main_v7 = (truncf .bf16 (waA m c) bitsLt_bf16_f32 : FVec Ideal S1024x1024 .bf16) := by
    unfold V hostOps0
    after_reads_simp
  rw [h]
  rfl

theorem V_v8 (l : Fin 2048) (k : Fin 1024) : (V m c main_v8 : FVec Ideal S2048x1024 .bf16) (ix2 l k) = wbA m c (ix2 l k) := by
  have h : V m c main_v8 = (truncf .bf16 (wbA m c) bitsLt_bf16_f32 : FVec Ideal S2048x1024 .bf16) := by
    unfold V hostOps0
    after_reads_simp
  rw [h]
  rfl

theorem V_v9 (l : Fin 1024) (k : Fin 1024) : (V m c main_v9 : FVec Ideal S1024x1024 .bf16) (ix2 l k) = woA m c (ix2 l k) := by
  have h : V m c main_v9 = (truncf .bf16 (woA m c) bitsLt_bf16_f32 : FVec Ideal S1024x1024 .bf16) := by
    unfold V hostOps0
    after_reads_simp
  rw [h]
  rfl

theorem idx0 : ∀ t : Fin grid0.N, cc0_transform_0 (grid0.coords t) = ![t.val, 0] := by decide +kernel
theorem idx1 : ∀ t : Fin grid0.N, cc0_transform_1 (grid0.coords t) = ![t.val, 0] := by decide +kernel
theorem idx2 : ∀ t : Fin grid0.N, cc0_transform_2 (grid0.coords t) = ![t.val, 9] := by decide +kernel
theorem idx3 : ∀ t : Fin grid0.N, cc0_transform_3 (grid0.coords t) = ![t.val, 10] := by decide +kernel
theorem idx4 : ∀ t : Fin grid0.N, cc0_transform_4 (grid0.coords t) = ![t.val, 0] := by decide +kernel
theorem idx5 : ∀ t : Fin grid0.N, cc0_transform_5 (grid0.coords t) = ![t.val / 4, 0, 0] := by decide +kernel
theorem idx6 : ∀ t : Fin grid0.N, cc0_transform_6 (grid0.coords t) = ![0, 0] := by decide +kernel
theorem idx7 : ∀ t : Fin grid0.N, cc0_transform_7 (grid0.coords t) = ![0, 0] := by decide +kernel
theorem idx8 : ∀ t : Fin grid0.N, cc0_transform_8 (grid0.coords t) = ![0, 0] := by decide +kernel
theorem idx9 : ∀ t : Fin grid0.N, cc0_transform_9 (grid0.coords t) = ![0, 0] := by decide +kernel
theorem idx10 : ∀ t : Fin grid0.N, cc0_transform_10 (grid0.coords t) = ![t.val / 4, 0, 0] := by decide +kernel
theorem idx11 : ∀ t : Fin grid0.N, cc0_transform_11 (grid0.coords t) = ![t.val / 4, 0, 0] := by decide +kernel
theorem idx14 : ∀ t : Fin grid0.N, cc0_transform_14 (grid0.coords t) = ![t.val, 0] := by decide +kernel
theorem idx15 : ∀ t : Fin grid0.N, cc0_transform_15 (grid0.coords t) = ![t.val, 0] := by decide +kernel

theorem win0 (t : Fin cfg0.N) : (cfg0.win 0).index t = ![t.val, 0] := idx0 t
theorem win1 (t : Fin cfg0.N) : (cfg0.win 1).index t = ![t.val, 0] := idx1 t
theorem win2 (t : Fin cfg0.N) : (cfg0.win 2).index t = ![t.val, 9] := idx2 t
theorem win3 (t : Fin cfg0.N) : (cfg0.win 3).index t = ![t.val, 10] := idx3 t
theorem win4 (t : Fin cfg0.N) : (cfg0.win 4).index t = ![t.val, 0] := idx4 t
theorem win5 (t : Fin cfg0.N) : (cfg0.win 5).index t = ![t.val / 4, 0, 0] := idx5 t
theorem win6 (t : Fin cfg0.N) : (cfg0.win 6).index t = ![0, 0] := idx6 t
theorem win7 (t : Fin cfg0.N) : (cfg0.win 7).index t = ![0, 0] := idx7 t
theorem win8 (t : Fin cfg0.N) : (cfg0.win 8).index t = ![0, 0] := idx8 t
theorem win9 (t : Fin cfg0.N) : (cfg0.win 9).index t = ![0, 0] := idx9 t
theorem win10 (t : Fin cfg0.N) : (cfg0.win 10).index t = ![t.val / 4, 0, 0] := idx10 t
theorem win11 (t : Fin cfg0.N) : (cfg0.win 11).index t = ![t.val / 4, 0, 0] := idx11 t
theorem win14 (t : Fin cfg0.N) : (cfg0.win 14).index t = ![t.val, 0] := idx14 t
theorem win15 (t : Fin cfg0.N) : (cfg0.win 15).index t = ![t.val, 0] := idx15 t

theorem lt_N (t : Fin cfg0.N) : t.val < 32 := t.isLt

/-- The array's row that row `s` of point `t`'s block is, its batch and its place there. -/
abbrev rowOf (t : Fin cfg0.N) (s : Fin 512) : Fin 16384 := ⟨t.val * 512 + s.val, by have := lt_N t; omega⟩
abbrev batchOf (t : Fin cfg0.N) (s : Fin 512) : Fin 8 := ⟨(rowOf t s).val / 2048, by omega⟩
abbrev placeOf (t : Fin cfg0.N) (s : Fin 512) : Fin 2048 := ⟨(rowOf t s).val % 2048, by omega⟩

theorem blk0 (t : Fin cfg0.N) (s : Fin 512) (k : Fin 1024) : iblk m c 0 t (ix2 s k) = oaA m c (ix2 (rowOf t s) k) := by
  refine Eq.trans ?_ (congrFun (V_arg0 m c) (ix2 (rowOf t s) k))
  blk_ext [iblk, win0 t]

theorem blk1 (t : Fin cfg0.N) (s : Fin 512) (k : Fin 2048) : iblk m c 1 t (ix2 s k) = obA m c (ix2 (rowOf t s) k) := by
  refine Eq.trans ?_ (congrFun (V_arg1 m c) (ix2 (rowOf t s) k))
  blk_ext [iblk, win1 t]

theorem blk2 (t : Fin cfg0.N) (s : Fin 512) (k : Fin 1024) : iblk m c 2 t (ix2 s k) = pA m c (ix2 (rowOf t s) ⟨9216 + k.val, by omega⟩) := by
  refine Eq.trans ?_ (congrFun (V_arg2 m c) (ix2 (rowOf t s) ⟨9216 + k.val, by omega⟩))
  blk_ext [iblk, win2 t]

theorem blk3 (t : Fin cfg0.N) (s : Fin 512) (k : Fin 1024) : iblk m c 3 t (ix2 s k) = pA m c (ix2 (rowOf t s) ⟨10240 + k.val, by omega⟩) := by
  refine Eq.trans ?_ (congrFun (V_arg2 m c) (ix2 (rowOf t s) ⟨10240 + k.val, by omega⟩))
  blk_ext [iblk, win3 t]

theorem blk4 (t : Fin cfg0.N) (s : Fin 512) (k : Fin 1024) : iblk m c 4 t (ix2 s k) = xA m c (ix3 (batchOf t s) (placeOf t s) k) := by
  refine Eq.trans ?_ (V_v5 m c (rowOf t s) k)
  blk_ext [iblk, win4 t]

theorem blk5 (t : Fin cfg0.N) (s : Fin 512) (k : Fin 1024) : iblk m c 5 t (ix3 0 0 k) = gtA m c (ix2 (batchOf t s) k) := by
  have hb : t.val / 4 = (batchOf t s).val := by
    have := lt_N t
    show t.val / 4 = (t.val * 512 + s.val) / 2048
    omega
  refine Eq.trans ?_ (V_v6 m c (batchOf t s) k)
  blk_ext [iblk, win5 t, hb]

theorem blk6 (t : Fin cfg0.N) (l : Fin 1024) (k : Fin 1024) : iblk m c 6 t (ix2 l k) = waA m c (ix2 l k) := by
  refine Eq.trans ?_ (V_v7 m c l k)
  blk_ext [iblk, win6 t]

theorem blk7 (t : Fin cfg0.N) (l : Fin 2048) (k : Fin 1024) : iblk m c 7 t (ix2 l k) = wbA m c (ix2 l k) := by
  refine Eq.trans ?_ (V_v8 m c l k)
  blk_ext [iblk, win7 t]

theorem blk8 (t : Fin cfg0.N) (l : Fin 1024) (k : Fin 1024) : iblk m c 8 t (ix2 l k) = woA m c (ix2 l k) := by
  refine Eq.trans ?_ (V_v9 m c l k)
  blk_ext [iblk, win8 t]

theorem blk9 (t : Fin cfg0.N) (k : Fin 1024) : iblk m c 9 t (ix2 0 k) = gA m c (ix1 k) := by
  refine Eq.trans ?_ (V_v10 m c k)
  blk_ext [iblk, win9 t]

theorem blk10 (t : Fin cfg0.N) (s : Fin 512) (k : Fin 1024) : iblk m c 10 t (ix3 0 0 k) = scA m c (ix2 (batchOf t s) k) := by
  have hb : t.val / 4 = (batchOf t s).val := by
    have := lt_N t
    show t.val / 4 = (t.val * 512 + s.val) / 2048
    omega
  refine Eq.trans ?_ (V_v11 m c (batchOf t s) k)
  blk_ext [iblk, win10 t, hb]

theorem blk11 (t : Fin cfg0.N) (s : Fin 512) (k : Fin 1024) : iblk m c 11 t (ix3 0 0 k) = shA m c (ix2 (batchOf t s) k) := by
  have hb : t.val / 4 = (batchOf t s).val := by
    have := lt_N t
    show t.val / 4 = (t.val * 512 + s.val) / 2048
    omega
  refine Eq.trans ?_ (V_v12 m c (batchOf t s) k)
  blk_ext [iblk, win11 t, hb]

/-- The merged rows of point `t`. -/
theorem mAt_at (t : Fin cfg0.N) (s : Fin 512) (k : Fin 1024) :
    k0_pay4 (F := Ideal) (iblk m c 0 t) (iblk m c 6 t) (iblk m c 1 t) (iblk m c 7 t) (iblk m c 2 t) (iblk m c 3 t) (ix2 s k)
      = merged (oaA m c) (obA m c) (pA m c) (waA m c) (wbA m c) (rowOf t s) k := by
  refine (merged_at (iblk m c 0 t) (iblk m c 1 t) (iblk m c 2 t) (iblk m c 3 t) (iblk m c 6 t) (iblk m c 7 t) s k).trans ?_
  unfold merged
  exact congrArg₂ (· + ·)
    (congrArg₂ (fun a b : EReal => gate a * b) (blk2 m c t s k) (Finset.sum_congr rfl fun l _ => congrArg₂ (· * ·) (blk0 m c t s l) (blk6 m c t l k)))
    (congrArg₂ (fun a b : EReal => gate a * b) (blk3 m c t s k) (Finset.sum_congr rfl fun l _ => congrArg₂ (· * ·) (blk1 m c t s l) (blk7 m c t l k)))

/-- The residual of point `t`. -/
theorem x1At_at (t : Fin cfg0.N) (s : Fin 512) (d : Fin 1024) : x1At m c t (ix2 s d) = resid (oaA m c) (obA m c) (pA m c) (xA m c) (gtA m c) (waA m c) (wbA m c) (woA m c) (rowOf t s) d := by
  refine (sum_at (iblk m c 5 t) (iblk m c 8 t) (k0_pay4 (F := Ideal) (iblk m c 0 t) (iblk m c 6 t) (iblk m c 1 t) (iblk m c 7 t) (iblk m c 2 t) (iblk m c 3 t)) (iblk m c 4 t) s d).trans ?_
  unfold resid
  exact congrArg₂ (· + ·) (blk4 m c t s d)
    (congrArg₂ (· * ·) (blk5 m c t s d) (Finset.sum_congr rfl fun k _ => congrArg₂ (· * ·) (mAt_at m c t s k) (blk8 m c t k d)))

/-- The normed rows of point `t`. -/
theorem h2At_at (t : Fin cfg0.N) (s : Fin 512) (d : Fin 1024) : h2At m c t (ix2 s d) = normed (oaA m c) (obA m c) (pA m c) (xA m c) (gtA m c) (waA m c) (wbA m c) (woA m c) (gA m c) (scA m c) (shA m c) (rowOf t s) d := by
  refine (norm_at (iblk m c 5 t) (iblk m c 8 t) (iblk m c 9 t) (iblk m c 10 t) (iblk m c 11 t)
    (k0_pay4 (F := Ideal) (iblk m c 0 t) (iblk m c 6 t) (iblk m c 1 t) (iblk m c 7 t) (iblk m c 2 t) (iblk m c 3 t)) (k0_pay5 (iblk m c 4 t)) s d).trans ?_
  have e : ∀ k, k0_pay6 (F := Ideal) (k0_pay4 (F := Ideal) (iblk m c 0 t) (iblk m c 6 t) (iblk m c 1 t) (iblk m c 7 t) (iblk m c 2 t) (iblk m c 3 t)) (k0_pay5 (iblk m c 4 t)) (iblk m c 5 t) (iblk m c 8 t) (ix2 s k)
      = resid (oaA m c) (obA m c) (pA m c) (xA m c) (gtA m c) (waA m c) (wbA m c) (woA m c) (rowOf t s) k := fun k => x1At_at m c t s k
  unfold normed
  refine congrArg₂ (· + ·) (congrArg₂ (· * ·) (congrArg₂ (· * ·) (congrArg₂ (· * ·) (e d) ?_) (blk9 m c t d)) (congrArg (1 + ·) (blk10 m c t s d))) (blk11 m c t s d)
  exact congrArg (fun z : EReal => Ideal.rsqrt (Ideal.div z _ + _)) (Finset.sum_congr rfl fun k _ => congrArg₂ (· * ·) (e k) (e k))

theorem covers14 : (cfg0.win 14).Covers := by decide +kernel
theorem covers15 : (cfg0.win 15).Covers := by decide +kernel

/-- **The kernel's first result.** -/
theorem arr_x1 : (dats m 0 c).arrAt 14 cfg0.N = flatR (F := Ideal) (x1R (oaA m c) (obA m c) (pA m c) (xA m c) (gtA m c) (waA m c) (wbA m c) (woA m c)) := by
  refine (dats m 0 c).arrAt_eq_of_covers 14 _ covers14 fun t hf y => ?_
  blk_simp
  rw [after_x1]
  have key : ∀ (s : Fin 512) (d : Fin 1024), x1At m c t (ix2 s d) = flatR (F := Ideal) (x1R (oaA m c) (obA m c) (pA m c) (xA m c) (gtA m c) (waA m c) (wbA m c) (woA m c)) (((cfg0.win 14).blk t).view.emb (ix2 s d)) := fun s d => by
    have e : ((cfg0.win 14).blk t).view.emb (ix2 s d) = ix2 (rowOf t s) d := by
      blk_ext [win14 t]
    rw [e, x1At_at]
    exact (first_at _ _ _ _ _ _ _ _ _ _).symm
  have all : ∀ z : S512x1024.Idx, x1At m c t z = flatR (F := Ideal) (x1R (oaA m c) (obA m c) (pA m c) (xA m c) (gtA m c) (waA m c) (wbA m c) (woA m c)) (((cfg0.win 14).blk t).view.emb z) := fun z => by
    rw [eq_ix2 z]; exact key (z 0) (z 1)
  exact all y

/-- **The kernel's second result.** -/
theorem arr_h2 : (dats m 0 c).arrAt 15 cfg0.N = flatR (F := Ideal) (rowR (x1R (oaA m c) (obA m c) (pA m c) (xA m c) (gtA m c) (waA m c) (wbA m c) (woA m c)) (gA m c) (scA m c) (shA m c)) := by
  refine (dats m 0 c).arrAt_eq_of_covers 15 _ covers15 fun t hf y => ?_
  blk_simp
  rw [after_h2]
  have key : ∀ (s : Fin 512) (d : Fin 1024), h2At m c t (ix2 s d) = flatR (F := Ideal) (rowR (x1R (oaA m c) (obA m c) (pA m c) (xA m c) (gtA m c) (waA m c) (wbA m c) (woA m c)) (gA m c) (scA m c) (shA m c)) (((cfg0.win 15).blk t).view.emb (ix2 s d)) := fun s d => by
    have e : ((cfg0.win 15).blk t).view.emb (ix2 s d) = ix2 (rowOf t s) d := by
      blk_ext [win15 t]
    rw [e, h2At_at]
    exact (second_at _ _ _ _ _ _ _ _ _ _ _ _ _).symm
  have all : ∀ z : S512x1024.Idx, h2At m c t z = flatR (F := Ideal) (rowR (x1R (oaA m c) (obA m c) (pA m c) (xA m c) (gtA m c) (waA m c) (wbA m c) (woA m c)) (gA m c) (scA m c) (shA m c)) (((cfg0.win 15).blk t).view.emb z) := fun z => by
    rw [eq_ix2 z]; exact key (z 0) (z 1)
  exact all y

end Cert.Kernel4Ideal.Merge

end
-- ==== Proof.MergeFrame.lean ====
/- The frame of the kernel that merges, from its idealization's. -/
module

public import proofs.«01_k».proof.Proof.MergeKer
public import proofs.«01_k».proof.Proof.Gen.Kernel4

@[expose] public section

set_option maxRecDepth 16384

noncomputable section

namespace Cert.MergeFrame

open Idealize.ShloMosaic Idealize.SL.Sem

variable {F : FTy → Type} [FloatOps F]

instance factsK : Cert.Kernel4.Facts := Cert.Kernel4.Gen.facts
instance factsI : Cert.Kernel4Ideal.Facts := Cert.Kernel4Ideal.Gen.facts

/-- The kernel and its idealization have the same parts of the body, -/
theorem part1 : @Cert.Kernel4.k0_part1 F _ factsK = @Cert.Kernel4Ideal.k0_part1 F _ factsI := rfl
theorem part2 : @Cert.Kernel4.k0_part2 F _ factsK = @Cert.Kernel4Ideal.k0_part2 F _ factsI := rfl
theorem part3 : @Cert.Kernel4.k0_part3 F _ factsK = @Cert.Kernel4Ideal.k0_part3 F _ factsI := rfl
theorem part4 : @Cert.Kernel4.k0_part4 F _ factsK = @Cert.Kernel4Ideal.k0_part4 F _ factsI := rfl
theorem part5 : @Cert.Kernel4.k0_part5 F _ factsK = @Cert.Kernel4Ideal.k0_part5 F _ factsI := rfl

set_option maxHeartbeats 4000000 in
/-- so one body, -/
theorem whole : @Cert.Kernel4.cc0_merge_router F _ factsK = @Cert.Kernel4Ideal.cc0_merge_router F _ factsI := by
  delta Cert.Kernel4.cc0_merge_router Cert.Kernel4Ideal.cc0_merge_router
  rw [part1, part2, part3, part4, part5]
  rfl

set_option maxHeartbeats 4000000 in
/-- one table of it, -/
theorem bodies : @Cert.Kernel4.defs₀ F _ factsK = @Cert.Kernel4Ideal.defs₀ F _ factsI := by
  unfold Cert.Kernel4.defs₀ Cert.Kernel4Ideal.defs₀
  rw [whole]
  refine congrArg (Defs.onTc (nD := Cert.Kernel4Ideal.nD) (τ := Cert.Kernel4Ideal.τ) (sig := Cert.Kernel4Ideal.sig) (Λ := Cert.Kernel4Ideal.Λ₀)) ?_
  funext l x
  match l, x with
  | 0, (t, s) => rfl

set_option maxHeartbeats 4000000 in
/-- one table of all bodies, -/
theorem tables : @Cert.Kernel4.defs F _ factsK = @Cert.Kernel4Ideal.defs F _ factsI := by
  show Pipeline.defs Cert.Kernel4.pcfgs Cert.Kernel4.defs₀ = _
  rw [bodies]
  rfl

set_option maxHeartbeats 4000000 in
/-- and one program. -/
theorem mains (c : Dev Cert.Kernel4.nD) : @Cert.Kernel4.main F _ factsK c = @Cert.Kernel4Ideal.main F _ factsI c := rfl

set_option maxHeartbeats 4000000 in
/-- The kernel ends without fault, its arguments as they were and its semaphores at zero. -/
theorem kernel_frame (m : (ℓ : Loc Cert.Kernel4.nD Cert.Kernel4.τ Cert.Kernel4.sig) → Buf (Elt F) ℓ) (ρ : Dev Cert.Kernel4.nD → PrngReg) :
    θ_run (Cert.Kernel4.defs (F := F)) (onTc (τ := Cert.Kernel4.τ) (Cert.Kernel4.main (F := F))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0) := by
  rw [tables, show (Cert.Kernel4.main (F := F)) = Cert.Kernel4Ideal.main from funext mains]
  exact Cert.Kernel4Ideal.Gen.frame m ρ

end Cert.MergeFrame

end
-- ==== Proof.lean ====
module

public import proofs.«01_k».proof.Defs
public import proofs.«01_k».proof.Proof.MergeFrame
public import proofs.«01_k».proof.Proof.Gen.Kernel3
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.Gen.Kernel4
public import proofs.«01_k».proof.Proof.Gen.Kernel4Ideal.Frame
public import proofs.«01_k».proof.Proof.Gen.Kernel4Ideal.Skeleton
public import proofs.«01_k».proof.Proof.Gen.Reference4Ideal.Run
public import Idealize.ShloMosaic.Adequacy
public import Idealize.ShloMosaic.Init

@[expose] public section

noncomputable section

namespace Cert.Proof

open Idealize.ShloMosaic Idealize.SL.Sem Cert.Kernel

/-- The shape facts the precondition's function takes. -/
theorem preFacts : Cert.Pre_finite.Facts where
  bcast_S_S16384x128 := by decide
  reducesTo_S16384x128_S_d0_1 := by decide
  h_S_ := by decide
  bcast_S_S16x512 := by decide
  reducesTo_S16x512_S_d0_1 := by decide

open Cert.KernelIdeal.Gla Cert.ReferenceIdeal.Gla in
/-- The kernel's idealization and the reference's end with the layer's result, the same array. -/
theorem algebraic : letI := Cert.KernelIdeal.Gen.facts; letI := Cert.ReferenceIdeal.Gen.facts; letI := preFacts
    Cert.algebraic_KernelIdeal_ReferenceIdeal_pre_finite := by
  intro m g m' g' hp ha
  refine ⟨fun c => Cert.GlaSpec.spec (a0 m c) (a1 m c) (a2 m c) (a3 m c) (a4 m c), ?_, ?_⟩
  · refine (θ_run Cert.KernelIdeal.defs _ _).mono (fun r h c => ⟨(h c).1.trans ?_, (h c).2⟩) (gla_blocks m g)
    letI := preFacts
    obtain ⟨h1, h2⟩ := finite_args _ _ _ _ _ (hp c)
    exact arr_spec m c h1 h2
  · refine (θ_run Cert.ReferenceIdeal.defs _ _).mono (fun r h c => ⟨(h c).1.trans ?_, (h c).2⟩) (ref_run m' g')
    obtain ⟨e0, e1, e2, e3, e4⟩ := ha c
    rw [resM_spec]
    show Cert.GlaSpec.spec (arg0 m' c) (arg1 m' c) (arg2 m' c) (arg3 m' c) (arg4 m' c) = _
    rw [show arg0 m' c = a0 m c from e0, show arg1 m' c = a1 m c from e1, show arg2 m' c = a2 m c from e2, show arg3 m' c = a3 m c from e3,
      show arg4 m' c = a4 m c from e4]

/-- The shape facts the experts' precondition takes. -/
theorem routedFacts : Cert.Pre_routed.Facts where
  bcast_S_S160 := by decide
  reducesTo_S160_S_d0 := by decide
  h_S_ := by decide
  shapeCasts_S1_S_ := by decide

open Cert.Kernel2Ideal.Exp Cert.Reference2Ideal.Exp in
/-- The experts' kernel and its reference end with the same array. -/
theorem algebraic2 : letI := Cert.Kernel2Ideal.Gen.facts; letI := Cert.Reference2Ideal.Gen.facts; letI := routedFacts
    Cert.algebraic_Kernel2Ideal_Reference2Ideal := by
  intro m g m' g' hp ha
  letI := routedFacts
  have hr : ∀ c, Routed (te m c) (nv m c) := fun c => routed_of _ _ _ _ _ _ (hp c)
  refine ⟨fun c => Cert.ExpSpec.spec (te m c) (nv m c) (xA m c) (w1A m c) (w3A m c) (w2A m c) (hr c).expert, ?_, ?_⟩
  · exact (θ_run Cert.Kernel2Ideal.defs _ _).mono (fun r h c => ⟨(h.1 c).1.trans (arr_spec m c (ok_tables m (hr 0)) (hr c)), (h.1 c).2⟩)
      (exp_blocks m g (ok_tables m (hr 0)))
  · refine (θ_run Cert.Reference2Ideal.defs _ _).mono (fun r h c => ⟨(h c).1.trans ?_, (h c).2⟩) (Cert.Reference2Ideal.Value.run m' g')
    obtain ⟨e0, e1, e2, e3, e4, e5⟩ := ha c
    rw [res_eq, e0, e1, e2, e3, e4, e5]
    exact resR_spec _ _ _ _ _ _ (hr c).expert

/-- The shape facts the projection's precondition takes. -/
theorem finite3Facts : Cert.Pre_finite3.Facts where
  bcast_S_S1024 := by decide
  reducesTo_S1024_S_d0 := by decide
  h_S_ := by decide
  bcast_S_S8x1024 := by decide
  reducesTo_S8x1024_S_d0_1 := by decide
  slices_S1024x11312_S1024x16_0_3072 := by decide
  bcast_S_S1024x16 := by decide
  reducesTo_S1024x16_S_d0_1 := by decide
  slices_S1024x11312_S1024x32_0_9232 := by decide
  bcast_S_S1024x32 := by decide
  reducesTo_S1024x32_S_d0_1 := by decide

open Cert.Kernel3Ideal.Norm Cert.Reference3Ideal.Norm in
/-- The kernel that norms and projects and its reference end with the same two arrays. -/
theorem algebraic3 : letI := Cert.Kernel3Ideal.Gen.facts; letI := Cert.Reference3Ideal.Gen.facts; letI := finite3Facts
    Cert.algebraic_Kernel3Ideal_Reference3Ideal_pre_finite3 := by
  intro m g m' g' hp ha
  letI := finite3Facts
  refine ⟨fun c => mainR (F := Ideal) (projR (F := Ideal) (rowR (F := Ideal) (xA m c) (gA m c) (scA m c) (shA m c)) (wA m c)),
    fun c => smallR (F := Ideal) (projR (F := Ideal) (rowR (F := Ideal) (xA m c) (gA m c) (scA m c) (shA m c)) (wA m c)), ?_, ?_⟩
  · exact (θ_run Cert.Kernel3Ideal.defs _ _).mono
      (fun r h c => ⟨(h.1 c).1.trans (arr_main m c), (h.1 c).2.1.trans (arr_small m c (finite_of m c (hp c))), (h.1 c).2.2⟩) (norm_blocks m g)
  · refine (θ_run Cert.Reference3Ideal.defs _ _).mono (fun r h c => ⟨(h c).1.trans ?_, (h c).2.1.trans ?_, (h c).2.2⟩) (Cert.Reference3Ideal.Norm.ref_run m' g')
    all_goals
      obtain ⟨e0, e1, e2, e3, e4⟩ := ha c
      rw [e0, e1, e2, e3, e4]

open Cert.Kernel4Ideal.Merge Cert.Reference4Ideal.Merge in
/-- The kernel that merges and its reference end with the same two arrays. -/
theorem algebraic4 : letI := Cert.Kernel4Ideal.Gen.facts; letI := Cert.Reference4Ideal.Gen.facts
    Cert.algebraic_Kernel4Ideal_Reference4Ideal := by
  intro m g m' g' _ ha
  refine ⟨fun c => flatR (F := Ideal) (x1R (oaA m c) (obA m c) (pA m c) (xA m c) (gtA m c) (waA m c) (wbA m c) (woA m c)),
    fun c => flatR (F := Ideal) (rowR (x1R (oaA m c) (obA m c) (pA m c) (xA m c) (gtA m c) (waA m c) (wbA m c) (woA m c)) (gA m c) (scA m c) (shA m c)), ?_, ?_⟩
  · exact (θ_run Cert.Kernel4Ideal.defs _ _).mono (fun r h c => ⟨(h c).1.trans (arr_x1 m c), (h c).2.1.trans (arr_h2 m c), (h c).2.2⟩) (merge_blocks m g)
  · refine (θ_run Cert.Reference4Ideal.defs _ _).mono (fun r h c => ⟨(h c).1.trans ?_, (h c).2.1.trans ?_, (h c).2.2⟩) (Cert.Reference4Ideal.Merge.ref_run m' g')
    all_goals
      obtain ⟨e0, e1, e2, e3, e4, e5, e6, e7, e8, e9, e10, _⟩ := ha c
    · rw [e0, e1, e2, e3, e4, e5, e6, e7]
    · rw [e0, e1, e2, e3, e4, e5, e6, e7, e8, e9, e10]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, preFacts, routedFacts, finite3Facts,
    fun m g _ => Cert.GlaFrame.kernel_frame m g,
    fun m g _ => Cert.KernelIdeal.Gla.gla_frame m g,
    fun m g _ => Cert.KernelIdeal.Gla.gla_frame m g,
    fun m g _ => Cert.ReferenceIdeal.Gla.ref_frame m g,
    fun m g _ => Cert.ReferenceIdeal.Gla.ref_frame m g,
    fun m g h => Cert.ExpFrame.kernel_frame m g (letI := routedFacts; Cert.Kernel2Ideal.Exp.routed_of _ _ _ _ _ _ (h 0)),
    fun m g h => Cert.Kernel2Ideal.Exp.exp_frame m g (letI := routedFacts; Cert.Kernel2Ideal.Exp.routed_of _ _ _ _ _ _ (h 0)),
    fun m g _ => Cert.Reference2Ideal.Exp.ref_frame m g,
    fun m g _ => Cert.Reference2Ideal.Exp.ref_frame m g,
    fun m g _ => Cert.NormFrame.kernel_frame m g,
    fun m g _ => Cert.Kernel3Ideal.Norm.norm_frame m g,
    fun m g _ => Cert.Kernel3Ideal.Norm.norm_frame m g,
    fun m g _ => Cert.Reference3Ideal.Norm.ref_frame m g,
    fun m g _ => Cert.Reference3Ideal.Norm.ref_frame m g,
    fun m g _ => Cert.MergeFrame.kernel_frame m g,
    fun m g _ => Cert.Kernel4Ideal.Gen.frame m g,
    fun m g _ => Cert.Reference4Ideal.Merge.ref_frame m g,
    trivial,
    algebraic,
    trivial,
    algebraic2,
    trivial,
    algebraic3,
    trivial,
    algebraic4⟩

end Cert.Proof

end
